-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v62) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v25_1)) (v1 : (c : Dev Cert.Kernel4Ideal.nD) → Buf (Elt Ideal) ((c.tc : Thread Cert.Kernel4Ideal.nD Cert.Kernel4Ideal.τ).loc Cert.Kernel4Ideal.main_v25_2)) (v2 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_1) = v0 c
          ∧ r.2.mem ((c.tc : Thread Cert.Kernel4Ideal.nD Cert.Kernel4Ideal.τ).loc Cert.Kernel4Ideal.main_v25_2) = v1 c
          ∧ r.2.mem ((c.tc : Thread Cert.Kernel4Ideal.nD Cert.Kernel4Ideal.τ).loc Cert.Kernel4Ideal.main_v26) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S1x16384x16x64 : Shape := ⟨4, ![1, 16384, 16, 64]⟩
abbrev S1x16384x16 : Shape := ⟨3, ![1, 16384, 16]⟩
abbrev S_ : Shape := ⟨0, ![]⟩

class Facts : Prop where
  bcast_S_S1x16384x16x64 : S_.BroadcastsInDim S1x16384x16x64 (![] : Fin 0 → Fin S1x16384x16x64.rank)
  bcast_S_S1x16384x16 : S_.BroadcastsInDim S1x16384x16 (![] : Fin 0 → Fin S1x16384x16.rank)

variable [Facts]

def fn {F : FTy → Type} [FloatOps F] (main_arg0 : FVec F S1x16384x16x64 .f32) (main_arg1 : FVec F S1x16384x16x64 .f32) (main_arg2 : FVec F S1x16384x16x64 .f32) (main_arg3 : FVec F S1x16384x16 .f32) : IVec S1x16384x16x64 1 × IVec S1x16384x16x64 1 × IVec S1x16384x16 1 :=
  let main_v0 : FVec F S1x16384x16x64 .f32 := Host.absf main_arg0
  let main_cst : FVec F S_ .f32 := constant S_ .f32 0x7F800000#32
  let main_v1 : FVec F S1x16384x16x64 .f32 := broadcastInDim S1x16384x16x64 ![] bcast_S_S1x16384x16x64 main_cst
  let main_v2 : IVec S1x16384x16x64 1 := cmpf .olt main_v0 main_v1
  let main_v3 : FVec F S1x16384x16x64 .f32 := Host.absf main_arg1
  let main_cst_0 : FVec F S_ .f32 := constant S_ .f32 0x7F800000#32
  let main_v4 : FVec F S1x16384x16x64 .f32 := broadcastInDim S1x16384x16x64 ![] bcast_S_S1x16384x16x64 main_cst_0
  let main_v5 : IVec S1x16384x16x64 1 := cmpf .olt main_v3 main_v4
  let main_v6 : FVec F S1x16384x16 .f32 := Host.absf main_arg3
  let main_cst_1 : FVec F S_ .f32 := constant S_ .f32 0x7F800000#32
  let main_v7 : FVec F S1x16384x16 .f32 := broadcastInDim S1x16384x16 ![] bcast_S_S1x16384x16 main_cst_1
  let main_v8 : IVec S1x16384x16 1 := cmpf .olt main_v6 main_v7
  (main_v2, main_v5, main_v8)
-- ==== Kernel.lean ====
abbrev S1x16384x16x64 : Shape := ⟨4, ![1, 16384, 16, 64]⟩
abbrev S1x16384x16 : Shape := ⟨3, ![1, 16384, 16]⟩
abbrev S_ : Shape := ⟨0, ![]⟩
abbrev S16384x1024 : Shape := ⟨2, ![16384, 1024]⟩
abbrev S1024x16384 : Shape := ⟨2, ![1024, 16384]⟩
abbrev S16x64x64x256 : Shape := ⟨4, ![16, 64, 64, 256]⟩
abbrev S16384x16 : Shape := ⟨2, ![16384, 16]⟩
abbrev S16384x48 : Shape := ⟨2, ![16384, 48]⟩
abbrev S16384x128 : Shape := ⟨2, ![16384, 128]⟩
abbrev S128x512 : Shape := ⟨2, ![128, 512]⟩
abbrev S2x64x64x256 : Shape := ⟨4, ![2, 64, 64, 256]⟩
abbrev S512x1024 : Shape := ⟨2, ![512, 1024]⟩
abbrev S256x512 : Shape := ⟨2, ![256, 512]⟩
abbrev S256x256 : Shape := ⟨2, ![256, 256]⟩
abbrev S16x512 : Shape := ⟨2, ![16, 512]⟩
abbrev S512x128 : Shape := ⟨2, ![512, 128]⟩
abbrev S512x256 : Shape := ⟨2, ![512, 256]⟩
abbrev S256 : Shape := ⟨1, ![256]⟩
abbrev S1x256 : Shape := ⟨2, ![1, 256]⟩
abbrev S80x256 : Shape := ⟨2, ![80, 256]⟩
abbrev S1x1x64x256 : Shape := ⟨4, ![1, 1, 64, 256]⟩
abbrev S64x256 : Shape := ⟨2, ![64, 256]⟩
abbrev S64x512 : Shape := ⟨2, ![64, 512]⟩
abbrev S80x512 : Shape := ⟨2, ![80, 512]⟩

abbrev nBuf : Space → Nat
  | .hbm => 41
  | .vmem => 11
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x16x64, .f32⟩
  | .hbm, ⟨3, _⟩ => ⟨S1x16384x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x1024, .f32⟩
  | .hbm, ⟨9, _⟩ => ⟨S1024x16384, .f32⟩
  | .hbm, ⟨10, _⟩ => ⟨S_, .f32⟩
  | .hbm, ⟨11, _⟩ => ⟨S_, .f32⟩
  | .hbm, ⟨12, _⟩ => ⟨S1024x16384, .f32⟩
  | .hbm, ⟨13, _⟩ => ⟨S1024x16384, .f32⟩
  | .hbm, ⟨14, _⟩ => ⟨S1024x16384, .bf16⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S1024x16384, .f32⟩
  | .hbm, ⟨19, _⟩ => ⟨S1024x16384, .bf16⟩
  | .hbm, ⟨20, _⟩ => ⟨S16x64x64x256, .bf16⟩
  | .hbm, ⟨21, _⟩ => ⟨S16x64x64x256, .bf16⟩
  | .hbm, ⟨22, _⟩ => ⟨S16384x16, .f32⟩
  | .hbm, ⟨23, _⟩ => ⟨S_, .f32⟩
  | .hbm, ⟨24, _⟩ => ⟨S_, .f32⟩
  | .hbm, ⟨25, _⟩ => ⟨S16384x16, .f32⟩
  | .hbm, ⟨26, _⟩ => ⟨S_, .f32⟩
  | .hbm, ⟨27, _⟩ => ⟨S16384x16, .f32⟩
  | .hbm, ⟨28, _⟩ => ⟨S16384x16, .f32⟩
  | .hbm, ⟨29, _⟩ => ⟨S16384x16, .bf16⟩
  | .hbm, ⟨30, _⟩ => ⟨S16384x16, .f32⟩
  | .hbm, ⟨31, _⟩ => ⟨S16384x16, .f32⟩
  | .hbm, ⟨32, _⟩ => ⟨S16384x16, .bf16⟩
  | .hbm, ⟨33, _⟩ => ⟨S16384x16, .f32⟩
  | .hbm, ⟨34, _⟩ => ⟨S16384x16, .f32⟩
  | .hbm, ⟨35, _⟩ => ⟨S16384x16, .bf16⟩
  | .hbm, ⟨36, _⟩ => ⟨S16384x48, .bf16⟩
  | .hbm, ⟨37, _⟩ => ⟨S_, .i32⟩
  | .hbm, ⟨38, _⟩ => ⟨S_, .bf16⟩
  | .hbm, ⟨39, _⟩ => ⟨S16384x128, .bf16⟩
  | .hbm, ⟨40, _⟩ => ⟨S1024x16384, .f32⟩
  | .local _ .vmem, ⟨0, _⟩ => ⟨S128x512, .bf16⟩
  | .local _ .vmem, ⟨1, _⟩ => ⟨S128x512, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S2x64x64x256, .bf16⟩
  | .local _ .vmem, ⟨6, _⟩ => ⟨S2x64x64x256, .bf16⟩
  | .local _ .vmem, ⟨7, _⟩ => ⟨S128x512, .f32⟩
  | .local _ .vmem, ⟨8, _⟩ => ⟨S128x512, .f32⟩
  | .local _ .vmem, ⟨9, _⟩ => ⟨S512x1024, .f32⟩
  | .local _ .vmem, ⟨10, _⟩ => ⟨S512x1024, .f32⟩
  | _, _ => ⟨S1x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_cst : Ref sig .tc := ⟨.hbm, 23, rfl⟩
abbrev main_call0_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call1_v0 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v59 : BitVec 32 := Scalar.muli arg1 c512_i32
  v59
def k0_off1 (i : grid0.Coords) : Fin 2 → Nat :=
  let arg1 : BitVec 32 := BitVec.ofNat 32 (i 1).val
  let c512_i32 : BitVec 32 := 512#32
  let v59 : BitVec 32 := Scalar.muli arg1 c512_i32
  let v60 : BitVec 32 := v59
  let v61 : Index := Scalar.indexCast v60
  let c0_13 : Index := 0#32
  ![v61.toNat, 0]
def k0_mult2 (i : grid0.Coords) : BitVec 32 :=
  let arg1 : BitVec 32 := BitVec.ofNat 32 (i 1).val
  let c512_i32_22 : BitVec 32 := 512#32
  let v85 : BitVec 32 := Scalar.muli arg1 c512_i32_22
  v85
def k0_mult3 (i : grid0.Coords) : BitVec 32 :=
  let arg1 : BitVec 32 := BitVec.ofNat 32 (i 1).val
  let c512_i32_30 : BitVec 32 := 512#32
  let v111 : BitVec 32 := Scalar.muli arg1 c512_i32_30
  v111
def k0_mult4 (i : grid0.Coords) : BitVec 32 :=
  let arg1 : BitVec 32 := BitVec.ofNat 32 (i 1).val
  let c512_i32_39 : BitVec 32 := 512#32
  let v137 : BitVec 32 := Scalar.muli arg1 c512_i32_39
  v137
@[reducible] def k0_t1_loop (i : grid0.Coords) : Scf.Loop 32 :=
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_65 : BitVec 32 := 1#32
  ⟨c0_i32_63, v192, c1_i32_65⟩
def k0_mult5 (i : grid0.Coords) (k0_t1 : Fin (k0_t1_loop i).trips) : BitVec 32 :=
  let c2_i32_85 : BitVec 32 := 2#32
  let c0_i32_63 : BitVec 32 := 0#32
  let c1_i32_65 : BitVec 32 := 1#32
  let arg9 : BitVec 32 := Scf.iv c0_i32_63 c1_i32_65 k0_t1
  let v233 : BitVec 32 := Scalar.muli c2_i32_85 arg9
  let c512_i32_89 : BitVec 32 := 512#32
  let v238 : BitVec 32 := Scalar.muli v233 c512_i32_89
  v238
def k0_off2 (i : grid0.Coords) (k0_t1 : Fin (k0_t1_loop i).trips) : Fin 2 → Nat :=
  let c2_i32_85 : BitVec 32 := 2#32
  let c0_i32_63 : BitVec 32 := 0#32
  let c1_i32_65 : BitVec 32 := 1#32
  let arg9 : BitVec 32 := Scf.iv c0_i32_63 c1_i32_65 k0_t1
  let v233 : BitVec 32 := Scalar.muli c2_i32_85 arg9
  let c512_i32_89 : BitVec 32 := 512#32
  let v238 : BitVec 32 := Scalar.muli v233 c512_i32_89
  let v239 : BitVec 32 := v238
  let v240 : Index := Scalar.indexCast v239
  let c0_90 : Index := 0#32
  ![v240.toNat, 0]
def k0_off3 (i : grid0.Coords) (k0_t1 : Fin (k0_t1_loop i).trips) (c0_i32_99 : BitVec 32) : Fin 4 → Nat :=
  let c0_100 : Index := 0#32
  let c0_i32_63 : BitVec 32 := 0#32
  let c1_i32_65 : BitVec 32 := 1#32
  let arg9 : BitVec 32 := Scf.iv c0_i32_63 c1_i32_65 k0_t1
  let c0_i32_86 : BitVec 32 := 0#32
  let v234 : BitVec 1 := Scalar.cmpi .eq arg9 c0_i32_86
  let arg1 : BitVec 32 := BitVec.ofNat 32 (i 1).val
  let c2_i32_87 : BitVec 32 := 2#32
  let v235 : BitVec 32 := Scalar.muli c2_i32_87 arg9
  let c1_i32_88 : BitVec 32 := 1#32
  let v236 : BitVec 32 := Scalar.subi v235 c1_i32_88
  let v237 : BitVec 32 := Scalar.select v234 arg1 v236
  let c2_i32_98 : BitVec 32 := 2#32
  let v261 : BitVec 32 := Scalar.muli v237 c2_i32_98
  let v262 : BitVec 32 := Scalar.addi v261 c0_i32_99
  let v263 : Index := Scalar.indexCast v262
  let c0_101 : Index := 0#32
  let c0_102 : Index := 0#32
  ![0, v263.toNat, 0, 0]
def k0_mult6 (i : grid0.Coords) (k0_t1 : Fin (k0_t1_loop i).trips) : BitVec 32 :=
  let c2_i32_85 : BitVec 32 := 2#32
  let c0_i32_63 : BitVec 32 := 0#32
  let c1_i32_65 : BitVec 32 := 1#32
  let arg9 : BitVec 32 := Scf.iv c0_i32_63 c1_i32_65 k0_t1
  let v233 : BitVec 32 := Scalar.muli c2_i32_85 arg9
  let c512_i32_109 : BitVec 32 := 512#32
  let v277 : BitVec 32 := Scalar.muli v233 c512_i32_109
  v277
def k0_mult7 (i : grid0.Coords) (k0_t1 : Fin (k0_t1_loop i).trips) : BitVec 32 :=
  let c2_i32_85 : BitVec 32 := 2#32
  let c0_i32_63 : BitVec 32 := 0#32
  let c1_i32_65 : BitVec 32 := 1#32
  let arg9 : BitVec 32 := Scf.iv c0_i32_63 c1_i32_65 k0_t1
  let v233 : BitVec 32 := Scalar.muli c2_i32_85 arg9
  let c512_i32_129 : BitVec 32 := 512#32
  let v316 : BitVec 32 := Scalar.muli v233 c512_i32_129
  v316
def k0_off4 (i : grid0.Coords) (k0_t1 : Fin (k0_t1_loop i).trips) (c0_i32_139 : BitVec 32) : Fin 4 → Nat :=
  let c1 : Index := 1#32
  let c0_i32_63 : BitVec 32 := 0#32
  let c1_i32_65 : BitVec 32 := 1#32
  let arg9 : BitVec 32 := Scf.iv c0_i32_63 c1_i32_65 k0_t1
  let c0_i32_86 : BitVec 32 := 0#32
  let v234 : BitVec 1 := Scalar.cmpi .eq arg9 c0_i32_86
  let arg1 : BitVec 32 := BitVec.ofNat 32 (i 1).val
  let c2_i32_87 : BitVec 32 := 2#32
  let v235 : BitVec 32 := Scalar.muli c2_i32_87 arg9
  let c1_i32_88 : BitVec 32 := 1#32
  let v236 : BitVec 32 := Scalar.subi v235 c1_i32_88
  let v237 : BitVec 32 := Scalar.select v234 arg1 v236
  let c2_i32_138 : BitVec 32 := 2#32
  let v339 : BitVec 32 := Scalar.muli v237 c2_i32_138
  let v340 : BitVec 32 := Scalar.addi v339 c0_i32_139
  let v341 : Index := Scalar.indexCast v340
  let c0_140 : Index := 0#32
  let c0_141 : Index := 0#32
  ![1, v341.toNat, 0, 0]
def k0_mult8 (i : grid0.Coords) (k0_t1 : Fin (k0_t1_loop i).trips) : BitVec 32 :=
  let c2_i32_85 : BitVec 32 := 2#32
  let c0_i32_63 : BitVec 32 := 0#32
  let c1_i32_65 : BitVec 32 := 1#32
  let arg9 : BitVec 32 := Scf.iv c0_i32_63 c1_i32_65 k0_t1
  let v233 : BitVec 32 := Scalar.muli c2_i32_85 arg9
  let c512_i32_148 : BitVec 32 := 512#32
  let v355 : BitVec 32 := Scalar.muli v233 c512_i32_148
  v355
def k0_mult9 (i : grid0.Coords) (k0_t1 : Fin (k0_t1_loop i).trips) : BitVec 32 :=
  let c2_i32_168 : BitVec 32 := 2#32
  let c0_i32_63 : BitVec 32 := 0#32
  let c1_i32_65 : BitVec 32 := 1#32
  let arg9 : BitVec 32 := Scf.iv c0_i32_63 c1_i32_65 k0_t1
  let v394 : BitVec 32 := Scalar.muli c2_i32_168 arg9
  let c1_i32_169 : BitVec 32 := 1#32
  let v395 : BitVec 32 := Scalar.addi v394 c1_i32_169
  let c512_i32_171 : BitVec 32 := 512#32
  let v397 : BitVec 32 := Scalar.muli v395 c512_i32_171
  v397
def k0_off5 (i : grid0.Coords) (k0_t1 : Fin (k0_t1_loop i).trips) : Fin 2 → Nat :=
  let c2_i32_168 : BitVec 32 := 2#32
  let c0_i32_63 : BitVec 32 := 0#32
  let c1_i32_65 : BitVec 32 := 1#32
  let arg9 : BitVec 32 := Scf.iv c0_i32_63 c1_i32_65 k0_t1
  let v394 : BitVec 32 := Scalar.muli c2_i32_168 arg9
  let c1_i32_169 : BitVec 32 := 1#32
  let v395 : BitVec 32 := Scalar.addi v394 c1_i32_169
  let c512_i32_171 : BitVec 32 := 512#32
  let v397 : BitVec 32 := Scalar.muli v395 c512_i32_171
  let v398 : BitVec 32 := v397
  let v399 : Index := Scalar.indexCast v398
  let c0_172 : Index := 0#32
  ![v399.toNat, 0]
def k0_off6 (i : grid0.Coords) (k0_t1 : Fin (k0_t1_loop i).trips) (c0_i32_181 : BitVec 32) : Fin 4 → Nat :=
  let c0_182 : Index := 0#32
  let c2_i32_170 : BitVec 32 := 2#32
  let c0_i32_63 : BitVec 32 := 0#32
  let c1_i32_65 : BitVec 32 := 1#32
  let arg9 : BitVec 32 := Scf.iv c0_i32_63 c1_i32_65 k0_t1
  let v396 : BitVec 32 := Scalar.muli c2_i32_170 arg9
  let c2_i32_180 : BitVec 32 := 2#32
  let v420 : BitVec 32 := Scalar.muli v396 c2_i32_180
  let v421 : BitVec 32 := Scalar.addi v420 c0_i32_181
  let v422 : Index := Scalar.indexCast v421
  let c0_183 : Index := 0#32
  let c0_184 : Index := 0#32
  ![0, v422.toNat, 0, 0]
def k0_mult10 (i : grid0.Coords) (k0_t1 : Fin (k0_t1_loop i).trips) : BitVec 32 :=
  let c2_i32_168 : BitVec 32 := 2#32
  let c0_i32_63 : BitVec 32 := 0#32
  let c1_i32_65 : BitVec 32 := 1#32
  let arg9 : BitVec 32 := Scf.iv c0_i32_63 c1_i32_65 k0_t1
  let v394 : BitVec 32 := Scalar.muli c2_i32_168 arg9
  let c1_i32_169 : BitVec 32 := 1#32
  let v395 : BitVec 32 := Scalar.addi v394 c1_i32_169
  let c512_i32_191 : BitVec 32 := 512#32
  let v436 : BitVec 32 := Scalar.muli v395 c512_i32_191
  v436
def k0_mult11 (i : grid0.Coords) (k0_t1 : Fin (k0_t1_loop i).trips) : BitVec 32 :=
  let c2_i32_168 : BitVec 32 := 2#32
  let c0_i32_63 : BitVec 32 := 0#32
  let c1_i32_65 : BitVec 32 := 1#32
  let arg9 : BitVec 32 := Scf.iv c0_i32_63 c1_i32_65 k0_t1
  let v394 : BitVec 32 := Scalar.muli c2_i32_168 arg9
  let c1_i32_169 : BitVec 32 := 1#32
  let v395 : BitVec 32 := Scalar.addi v394 c1_i32_169
  let c512_i32_211 : BitVec 32 := 512#32
  let v475 : BitVec 32 := Scalar.muli v395 c512_i32_211
  v475
def k0_off7 (i : grid0.Coords) (k0_t1 : Fin (k0_t1_loop i).trips) (c0_i32_221 : BitVec 32) : Fin 4 → Nat :=
  let c1_222 : Index := 1#32
  let c2_i32_170 : BitVec 32 := 2#32
  let c0_i32_63 : BitVec 32 := 0#32
  let c1_i32_65 : BitVec 32 := 1#32
  let arg9 : BitVec 32 := Scf.iv c0_i32_63 c1_i32_65 k0_t1
  let v396 : BitVec 32 := Scalar.muli c2_i32_170 arg9
  let c2_i32_220 : BitVec 32 := 2#32
  let v498 : BitVec 32 := Scalar.muli v396 c2_i32_220
  let v499 : BitVec 32 := Scalar.addi v498 c0_i32_221
  let v500 : Index := Scalar.indexCast v499
  let c0_223 : Index := 0#32
  let c0_224 : Index := 0#32
  ![1, v500.toNat, 0, 0]
def k0_mult12 (i : grid0.Coords) (k0_t1 : Fin (k0_t1_loop i).trips) : BitVec 32 :=
  let c2_i32_168 : BitVec 32 := 2#32
  let c0_i32_63 : BitVec 32 := 0#32
  let c1_i32_65 : BitVec 32 := 1#32
  let arg9 : BitVec 32 := Scf.iv c0_i32_63 c1_i32_65 k0_t1
  let v394 : BitVec 32 := Scalar.muli c2_i32_168 arg9
  let c1_i32_169 : BitVec 32 := 1#32
  let v395 : BitVec 32 := Scalar.addi v394 c1_i32_169
  let c512_i32_231 : BitVec 32 := 512#32
  let v514 : BitVec 32 := Scalar.muli v395 c512_i32_231
  v514
@[reducible] def k0_t2_loop (i : grid0.Coords) : Scf.Loop 32 :=
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let v189 : BitVec 32 := Scalar.addi c0_i32_63 v188
  let c1_i32_66 : BitVec 32 := 1#32
  ⟨v192, v189, c1_i32_66⟩
def k0_mult13 (i : grid0.Coords) (k0_t2 : Fin (k0_t2_loop i).trips) : BitVec 32 :=
  let c2_i32_85 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v233 : BitVec 32 := Scalar.muli c2_i32_85 arg9
  let c512_i32_89 : BitVec 32 := 512#32
  let v238 : BitVec 32 := Scalar.muli v233 c512_i32_89
  v238
def k0_off8 (i : grid0.Coords) (k0_t2 : Fin (k0_t2_loop i).trips) : Fin 2 → Nat :=
  let c2_i32_85 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v233 : BitVec 32 := Scalar.muli c2_i32_85 arg9
  let c512_i32_89 : BitVec 32 := 512#32
  let v238 : BitVec 32 := Scalar.muli v233 c512_i32_89
  let v239 : BitVec 32 := v238
  let v240 : Index := Scalar.indexCast v239
  let c0_90 : Index := 0#32
  ![v240.toNat, 0]
def k0_off9 (i : grid0.Coords) (k0_t2 : Fin (k0_t2_loop i).trips) (c0_i32_99 : BitVec 32) : Fin 4 → Nat :=
  let c0_100 : Index := 0#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let c0_i32_86 : BitVec 32 := 0#32
  let v234 : BitVec 1 := Scalar.cmpi .eq arg9 c0_i32_86
  let c2_i32_87 : BitVec 32 := 2#32
  let v235 : BitVec 32 := Scalar.muli c2_i32_87 arg9
  let c1_i32_88 : BitVec 32 := 1#32
  let v236 : BitVec 32 := Scalar.subi v235 c1_i32_88
  let v237 : BitVec 32 := Scalar.select v234 arg1 v236
  let c2_i32_98 : BitVec 32 := 2#32
  let v261 : BitVec 32 := Scalar.muli v237 c2_i32_98
  let v262 : BitVec 32 := Scalar.addi v261 c0_i32_99
  let v263 : Index := Scalar.indexCast v262
  let c0_101 : Index := 0#32
  let c0_102 : Index := 0#32
  ![0, v263.toNat, 0, 0]
def k0_mult14 (i : grid0.Coords) (k0_t2 : Fin (k0_t2_loop i).trips) : BitVec 32 :=
  let c2_i32_85 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v233 : BitVec 32 := Scalar.muli c2_i32_85 arg9
  let c512_i32_109 : BitVec 32 := 512#32
  let v277 : BitVec 32 := Scalar.muli v233 c512_i32_109
  v277
def k0_mult15 (i : grid0.Coords) (k0_t2 : Fin (k0_t2_loop i).trips) : BitVec 32 :=
  let c2_i32_85 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v233 : BitVec 32 := Scalar.muli c2_i32_85 arg9
  let c512_i32_129 : BitVec 32 := 512#32
  let v316 : BitVec 32 := Scalar.muli v233 c512_i32_129
  v316
def k0_off10 (i : grid0.Coords) (k0_t2 : Fin (k0_t2_loop i).trips) (c0_i32_139 : BitVec 32) : Fin 4 → Nat :=
  let c1 : Index := 1#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let c0_i32_86 : BitVec 32 := 0#32
  let v234 : BitVec 1 := Scalar.cmpi .eq arg9 c0_i32_86
  let c2_i32_87 : BitVec 32 := 2#32
  let v235 : BitVec 32 := Scalar.muli c2_i32_87 arg9
  let c1_i32_88 : BitVec 32 := 1#32
  let v236 : BitVec 32 := Scalar.subi v235 c1_i32_88
  let v237 : BitVec 32 := Scalar.select v234 arg1 v236
  let c2_i32_138 : BitVec 32 := 2#32
  let v339 : BitVec 32 := Scalar.muli v237 c2_i32_138
  let v340 : BitVec 32 := Scalar.addi v339 c0_i32_139
  let v341 : Index := Scalar.indexCast v340
  let c0_140 : Index := 0#32
  let c0_141 : Index := 0#32
  ![1, v341.toNat, 0, 0]
def k0_mult16 (i : grid0.Coords) (k0_t2 : Fin (k0_t2_loop i).trips) : BitVec 32 :=
  let c2_i32_85 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v233 : BitVec 32 := Scalar.muli c2_i32_85 arg9
  let c512_i32_148 : BitVec 32 := 512#32
  let v355 : BitVec 32 := Scalar.muli v233 c512_i32_148
  v355
def k0_mult17 (i : grid0.Coords) (k0_t2 : Fin (k0_t2_loop i).trips) : BitVec 32 :=
  let c2_i32_168 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v394 : BitVec 32 := Scalar.muli c2_i32_168 arg9
  let c1_i32_169 : BitVec 32 := 1#32
  let v395 : BitVec 32 := Scalar.addi v394 c1_i32_169
  let c512_i32_171 : BitVec 32 := 512#32
  let v397 : BitVec 32 := Scalar.muli v395 c512_i32_171
  v397
def k0_off11 (i : grid0.Coords) (k0_t2 : Fin (k0_t2_loop i).trips) : Fin 2 → Nat :=
  let c2_i32_168 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v394 : BitVec 32 := Scalar.muli c2_i32_168 arg9
  let c1_i32_169 : BitVec 32 := 1#32
  let v395 : BitVec 32 := Scalar.addi v394 c1_i32_169
  let c512_i32_171 : BitVec 32 := 512#32
  let v397 : BitVec 32 := Scalar.muli v395 c512_i32_171
  let v398 : BitVec 32 := v397
  let v399 : Index := Scalar.indexCast v398
  let c0_172 : Index := 0#32
  ![v399.toNat, 0]
def k0_off12 (i : grid0.Coords) (k0_t2 : Fin (k0_t2_loop i).trips) (c0_i32_181 : BitVec 32) : Fin 4 → Nat :=
  let c0_182 : Index := 0#32
  let c2_i32_170 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v396 : BitVec 32 := Scalar.muli c2_i32_170 arg9
  let c2_i32_180 : BitVec 32 := 2#32
  let v420 : BitVec 32 := Scalar.muli v396 c2_i32_180
  let v421 : BitVec 32 := Scalar.addi v420 c0_i32_181
  let v422 : Index := Scalar.indexCast v421
  let c0_183 : Index := 0#32
  let c0_184 : Index := 0#32
  ![0, v422.toNat, 0, 0]
def k0_mult18 (i : grid0.Coords) (k0_t2 : Fin (k0_t2_loop i).trips) : BitVec 32 :=
  let c2_i32_168 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v394 : BitVec 32 := Scalar.muli c2_i32_168 arg9
  let c1_i32_169 : BitVec 32 := 1#32
  let v395 : BitVec 32 := Scalar.addi v394 c1_i32_169
  let c512_i32_191 : BitVec 32 := 512#32
  let v436 : BitVec 32 := Scalar.muli v395 c512_i32_191
  v436
def k0_mult19 (i : grid0.Coords) (k0_t2 : Fin (k0_t2_loop i).trips) : BitVec 32 :=
  let c2_i32_168 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v394 : BitVec 32 := Scalar.muli c2_i32_168 arg9
  let c1_i32_169 : BitVec 32 := 1#32
  let v395 : BitVec 32 := Scalar.addi v394 c1_i32_169
  let c512_i32_211 : BitVec 32 := 512#32
  let v475 : BitVec 32 := Scalar.muli v395 c512_i32_211
  v475
def k0_off13 (i : grid0.Coords) (k0_t2 : Fin (k0_t2_loop i).trips) (c0_i32_221 : BitVec 32) : Fin 4 → Nat :=
  let c1_222 : Index := 1#32
  let c2_i32_170 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v396 : BitVec 32 := Scalar.muli c2_i32_170 arg9
  let c2_i32_220 : BitVec 32 := 2#32
  let v498 : BitVec 32 := Scalar.muli v396 c2_i32_220
  let v499 : BitVec 32 := Scalar.addi v498 c0_i32_221
  let v500 : Index := Scalar.indexCast v499
  let c0_223 : Index := 0#32
  let c0_224 : Index := 0#32
  ![1, v500.toNat, 0, 0]
def k0_mult20 (i : grid0.Coords) (k0_t2 : Fin (k0_t2_loop i).trips) : BitVec 32 :=
  let c2_i32_168 : BitVec 32 := 2#32
  let c0_i32_63 : BitVec 32 := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v188 : BitVec 32 := Scalar.subi v187 c0_i32_63
  let c1_i32_64 : BitVec 32 := 1#32
  let v190 : BitVec 32 := Scalar.divsi v188 c1_i32_64
  let v191 : BitVec 32 := Scalar.muli v190 c1_i32_64
  let v192 : BitVec 32 := Scalar.addi c0_i32_63 v191
  let c1_i32_66 : BitVec 32 := 1#32
  let arg9 : BitVec 32 := Scf.iv v192 c1_i32_66 k0_t2
  let v394 : BitVec 32 := Scalar.muli c2_i32_168 arg9
  let c1_i32_169 : BitVec 32 := 1#32
  let v395 : BitVec 32 := Scalar.addi v394 c1_i32_169
  let c512_i32_231 : BitVec 32 := 512#32
  let v514 : BitVec 32 := Scalar.muli v395 c512_i32_231
  v514
def k0_cond1 (i : grid0.Coords) : BitVec 1 :=
  let arg1 : BitVec 32 := BitVec.ofNat 32 (i 1).val
  let c2_i32_70 : BitVec 32 := 2#32
  let c0_i32_71 : BitVec 32 := 0#32
  let v199 : BitVec 1 := Scalar.cmpi .eq c2_i32_70 c0_i32_71
  let c1_i32_72 : BitVec 32 := 1#32
  let v200 : BitVec 32 := Scalar.select v199 c1_i32_72 c2_i32_70
  let v201 : BitVec 32 := Scalar.remsi arg1 v200
  let c0_i32_74 : BitVec 32 := 0#32
  let v203 : BitVec 1 := Scalar.cmpi .slt v201 c0_i32_74
  let c0_i32_75 : BitVec 32 := 0#32
  let v204 : BitVec 1 := Scalar.cmpi .slt v200 c0_i32_75
  let v205 : BitVec 1 := Scalar.xori v203 v204
  let c0_i32_73 : BitVec 32 := 0#32
  let v202 : BitVec 1 := Scalar.cmpi .ne v201 c0_i32_73
  let v206 : BitVec 1 := Scalar.andi v205 v202
  let v207 : BitVec 32 := Scalar.addi v201 v200
  let v208 : BitVec 32 := Scalar.select v206 v207 v201
  let c1_i32_76 : BitVec 32 := 1#32
  let v209 : BitVec 1 := Scalar.cmpi .eq v208 c1_i32_76
  let v210 : BitVec 32 := Scalar.extui v209
  let c0_i32_77 : BitVec 32 := 0#32
  let v211 : BitVec 1 := Scalar.cmpi .ne v210 c0_i32_77
  v211

def k0_mult21 (i : grid0.Coords) : BitVec 32 :=
  let c2_i32_85 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v233 : BitVec 32 := Scalar.muli c2_i32_85 v187
  let c512_i32_86 : BitVec 32 := 512#32
  let v234 : BitVec 32 := Scalar.muli v233 c512_i32_86
  v234
def k0_off14 (i : grid0.Coords) : Fin 2 → Nat :=
  let c2_i32_85 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v233 : BitVec 32 := Scalar.muli c2_i32_85 v187
  let c512_i32_86 : BitVec 32 := 512#32
  let v234 : BitVec 32 := Scalar.muli v233 c512_i32_86
  let v235 : BitVec 32 := v234
  let v236 : Index := Scalar.indexCast v235
  let c0_87 : Index := 0#32
  ![v236.toNat, 0]
def k0_off15 (i : grid0.Coords) (c0_i32_96 : BitVec 32) : Fin 4 → Nat :=
  let c0_97 : Index := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let c0_i32_67 : BitVec 32 := 0#32
  let v195 : BitVec 1 := Scalar.cmpi .eq v187 c0_i32_67
  let c2_i32_68 : BitVec 32 := 2#32
  let v196 : BitVec 32 := Scalar.muli c2_i32_68 v187
  let c1_i32_69 : BitVec 32 := 1#32
  let v197 : BitVec 32 := Scalar.subi v196 c1_i32_69
  let v198 : BitVec 32 := Scalar.select v195 arg1 v197
  let c2_i32_95 : BitVec 32 := 2#32
  let v257 : BitVec 32 := Scalar.muli v198 c2_i32_95
  let v258 : BitVec 32 := Scalar.addi v257 c0_i32_96
  let v259 : Index := Scalar.indexCast v258
  let c0_98 : Index := 0#32
  let c0_99 : Index := 0#32
  ![0, v259.toNat, 0, 0]
def k0_mult22 (i : grid0.Coords) : BitVec 32 :=
  let c2_i32_85 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v233 : BitVec 32 := Scalar.muli c2_i32_85 v187
  let c512_i32_106 : BitVec 32 := 512#32
  let v273 : BitVec 32 := Scalar.muli v233 c512_i32_106
  v273
def k0_mult23 (i : grid0.Coords) : BitVec 32 :=
  let c2_i32_85 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v233 : BitVec 32 := Scalar.muli c2_i32_85 v187
  let c512_i32_126 : BitVec 32 := 512#32
  let v312 : BitVec 32 := Scalar.muli v233 c512_i32_126
  v312
def k0_off16 (i : grid0.Coords) (c0_i32_136 : BitVec 32) : Fin 4 → Nat :=
  let c1 : Index := 1#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let c0_i32_67 : BitVec 32 := 0#32
  let v195 : BitVec 1 := Scalar.cmpi .eq v187 c0_i32_67
  let c2_i32_68 : BitVec 32 := 2#32
  let v196 : BitVec 32 := Scalar.muli c2_i32_68 v187
  let c1_i32_69 : BitVec 32 := 1#32
  let v197 : BitVec 32 := Scalar.subi v196 c1_i32_69
  let v198 : BitVec 32 := Scalar.select v195 arg1 v197
  let c2_i32_135 : BitVec 32 := 2#32
  let v335 : BitVec 32 := Scalar.muli v198 c2_i32_135
  let v336 : BitVec 32 := Scalar.addi v335 c0_i32_136
  let v337 : Index := Scalar.indexCast v336
  let c0_137 : Index := 0#32
  let c0_138 : Index := 0#32
  ![1, v337.toNat, 0, 0]
def k0_mult24 (i : grid0.Coords) : BitVec 32 :=
  let c2_i32_85 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v233 : BitVec 32 := Scalar.muli c2_i32_85 v187
  let c512_i32_145 : BitVec 32 := 512#32
  let v351 : BitVec 32 := Scalar.muli v233 c512_i32_145
  v351
def k0_off17 (i : grid0.Coords) (c0_i32_169 : BitVec 32) : Fin 4 → Nat :=
  let c0_170 : Index := 0#32
  let c2_i32_165 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v390 : BitVec 32 := Scalar.muli c2_i32_165 v187
  let c2_i32_168 : BitVec 32 := 2#32
  let v399 : BitVec 32 := Scalar.muli v390 c2_i32_168
  let v400 : BitVec 32 := Scalar.addi v399 c0_i32_169
  let v401 : Index := Scalar.indexCast v400
  let c0_171 : Index := 0#32
  let c0_172 : Index := 0#32
  ![0, v401.toNat, 0, 0]
def k0_off18 (i : grid0.Coords) (c0_i32_195 : BitVec 32) : Fin 4 → Nat :=
  let c1_196 : Index := 1#32
  let c2_i32_165 : BitVec 32 := 2#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let v390 : BitVec 32 := Scalar.muli c2_i32_165 v187
  let c2_i32_194 : BitVec 32 := 2#32
  let v447 : BitVec 32 := Scalar.muli v390 c2_i32_194
  let v448 : BitVec 32 := Scalar.addi v447 c0_i32_195
  let v449 : Index := Scalar.indexCast v448
  let c0_197 : Index := 0#32
  let c0_198 : Index := 0#32
  ![1, v449.toNat, 0, 0]
def k0_off19 (i : grid0.Coords) (c0_i32_88 : BitVec 32) : Fin 4 → Nat :=
  let c0_89 : Index := 0#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let c0_i32_67 : BitVec 32 := 0#32
  let v195 : BitVec 1 := Scalar.cmpi .eq v187 c0_i32_67
  let c2_i32_68 : BitVec 32 := 2#32
  let v196 : BitVec 32 := Scalar.muli c2_i32_68 v187
  let c1_i32_69 : BitVec 32 := 1#32
  let v197 : BitVec 32 := Scalar.subi v196 c1_i32_69
  let v198 : BitVec 32 := Scalar.select v195 arg1 v197
  let c2_i32_87 : BitVec 32 := 2#32
  let v241 : BitVec 32 := Scalar.muli v198 c2_i32_87
  let v242 : BitVec 32 := Scalar.addi v241 c0_i32_88
  let v243 : Index := Scalar.indexCast v242
  let c0_90 : Index := 0#32
  let c0_91 : Index := 0#32
  ![0, v243.toNat, 0, 0]
def k0_off20 (i : grid0.Coords) (c0_i32_114 : BitVec 32) : Fin 4 → Nat :=
  let c1 : Index := 1#32
  let arg1 : BitVec 32 := BitVec.ofNat 32 (i 1).val
  let c0_i32_57 : BitVec 32 := 0#32
  let v172 : BitVec 1 := Scalar.cmpi .sgt arg1 c0_i32_57
  let v173 : BitVec 32 := Scalar.extui v172
  let c0_i32_58 : BitVec 32 := 0#32
  let v174 : BitVec 1 := Scalar.cmpi .slt arg1 c0_i32_58
  let v175 : BitVec 32 := Scalar.extui v174
  let v176 : BitVec 32 := Scalar.subi v173 v175
  let c2_i32_56 : BitVec 32 := 2#32
  let c0_i32_59 : BitVec 32 := 0#32
  let v177 : BitVec 1 := Scalar.cmpi .sgt c2_i32_56 c0_i32_59
  let v178 : BitVec 32 := Scalar.extui v177
  let c0_i32_60 : BitVec 32 := 0#32
  let v179 : BitVec 1 := Scalar.cmpi .slt c2_i32_56 c0_i32_60
  let v180 : BitVec 32 := Scalar.extui v179
  let v181 : BitVec 32 := Scalar.subi v178 v180
  let v182 : BitVec 1 := Scalar.cmpi .ne v176 v181
  let v183 : BitVec 32 := Scalar.remsi arg1 c2_i32_56
  let c0_i32_61 : BitVec 32 := 0#32
  let v184 : BitVec 1 := Scalar.cmpi .ne v183 c0_i32_61
  let v185 : BitVec 1 := Scalar.andi v182 v184
  let v171 : BitVec 32 := Scalar.divsi arg1 c2_i32_56
  let c1_i32_62 : BitVec 32 := 1#32
  let v186 : BitVec 32 := Scalar.subi v171 c1_i32_62
  let v187 : BitVec 32 := Scalar.select v185 v186 v171
  let c0_i32_67 : BitVec 32 := 0#32
  let v195 : BitVec 1 := Scalar.cmpi .eq v187 c0_i32_67
  let c2_i32_68 : BitVec 32 := 2#32
  let v196 : BitVec 32 := Scalar.muli c2_i32_68 v187
  let c1_i32_69 : BitVec 32 := 1#32
  let v197 : BitVec 32 := Scalar.subi v196 c1_i32_69
  let v198 : BitVec 32 := Scalar.select v195 arg1 v197
  let c2_i32_113 : BitVec 32 := 2#32
  let v289 : BitVec 32 := Scalar.muli v198 c2_i32_113
  let v290 : BitVec 32 := Scalar.addi v289 c0_i32_114
  let v291 : Index := Scalar.indexCast v290
  let c0_115 : Index := 0#32
  let c0_116 : Index := 0#32
  ![1, v291.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x64x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x16384x16x64 : Shape := ⟨4, ![1, 16384, 16, 64]⟩
abbrev S1x16384x16 : Shape := ⟨3, ![1, 16384, 16]⟩
abbrev S_ : Shape := ⟨0, ![]⟩
abbrev S1x16x16384 : Shape := ⟨3, ![1, 16, 16384]⟩
abbrev S1x16x16384x16384 : Shape := ⟨4, ![1, 16, 16384, 16384]⟩
abbrev S1x16x16384x1 : Shape := ⟨4, ![1, 16, 16384, 1]⟩
abbrev S1x16x1x16384 : Shape := ⟨4, ![1, 16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16x64x16384 : Shape := ⟨4, ![1, 16, 64, 16384]⟩
abbrev S16384x1024 : Shape := ⟨2, ![16384, 1024]⟩
abbrev S1024x16384 : Shape := ⟨2, ![1024, 16384]⟩

abbrev nBuf : Space → Nat
  | .hbm => 47
  | .vmem => 0
  | .smem => 0
  | _ => 0

abbrev bufTy : (tb : Table) → Fin (tcTables nBuf tb) → BufTy
  | .hbm, ⟨0, _⟩ => ⟨S1x16384x16x64, .f32⟩
  | .hbm, ⟨1, _⟩ => ⟨S1x16384x16x64, .f32⟩
  | .hbm, ⟨2, _⟩ => ⟨S1x16384x16x64, .f32⟩
  | .hbm, ⟨3, _⟩ => ⟨S1x16384x16, .f32⟩
  | .hbm, ⟨4, _⟩ => ⟨S_, .f32⟩
  | .hbm, ⟨5, _⟩ => ⟨S_, .f32⟩
  | .hbm, ⟨6, _⟩ => ⟨S1x16384x16, .f32⟩
  | .hbm, ⟨7, _⟩ => ⟨S1x16x16384, .f32⟩
  | .hbm, ⟨8, _⟩ => ⟨S1x16x16384x16384, .f32⟩
  | .hbm, ⟨9, _⟩ => ⟨S_, .f32⟩
  | .hbm, ⟨10, _⟩ => ⟨S1x16x16384x16384, .f32⟩
  | .hbm, ⟨11, _⟩ => ⟨S1x16x16384x16384, .f32⟩
  | .hbm, ⟨12, _⟩ => ⟨S1x16x16384x1, .f32⟩
  | .hbm, ⟨13, _⟩ => ⟨S1x16x16384x16384, .f32⟩
  | .hbm, ⟨14, _⟩ => ⟨S1x16x16384x16384, .f32⟩
  | .hbm, ⟨15, _⟩ => ⟨S1x16x1x16384, .f32⟩
  | .hbm, ⟨16, _⟩ => ⟨S1x16x16384x16384, .f32⟩
  | .hbm, ⟨17, _⟩ => ⟨S1x16x16384x16384, .f32⟩
  | .hbm, ⟨18, _⟩ => ⟨S16384, .i32⟩
  | .hbm, ⟨19, _⟩ => ⟨S1x16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S_, .f32⟩
  | .hbm, ⟨25, _⟩ => ⟨S_, .f32⟩
  | .hbm, ⟨26, _⟩ => ⟨S1x16x16384x16384, .i1⟩
  | .hbm, ⟨27, _⟩ => ⟨S1x16x16384x16384, .f32⟩
  | .hbm, ⟨28, _⟩ => ⟨S1x16x16384x16384, .f32⟩
  | .hbm, ⟨29, _⟩ => ⟨S_, .f32⟩
  | .hbm, ⟨30, _⟩ => ⟨S1x16x16384, .f32⟩
  | .hbm, ⟨31, _⟩ => ⟨S_, .f32⟩
  | .hbm, ⟨32, _⟩ => ⟨S1x16x16384, .f32⟩
  | .hbm, ⟨33, _⟩ => ⟨S1x16x16384, .f32⟩
  | .hbm, ⟨34, _⟩ => ⟨S1x16x16384x1, .f32⟩
  | .hbm, ⟨35, _⟩ => ⟨S1x16x16384x16384, .f32⟩
  | .hbm, ⟨36, _⟩ => ⟨S1x16x16384x16384, .f32⟩
  | .hbm, ⟨37, _⟩ => ⟨S1x16x16384x16384, .f32⟩
  | .hbm, ⟨38, _⟩ => ⟨S_, .f32⟩
  | .hbm, ⟨39, _⟩ => ⟨S1x16x16384, .f32⟩
  | .hbm, ⟨40, _⟩ => ⟨S1x16x16384x1, .f32⟩
  | .hbm, ⟨41, _⟩ => ⟨S1x16x16384x16384, .f32⟩
  | .hbm, ⟨42, _⟩ => ⟨S1x16x16384x16384, .f32⟩
  | .hbm, ⟨43, _⟩ => ⟨S1x16x64x16384, .f32⟩
  | .hbm, ⟨44, _⟩ => ⟨S1x16384x16x64, .f32⟩
  | .hbm, ⟨45, _⟩ => ⟨S16384x1024, .f32⟩
  | .hbm, ⟨46, _⟩ => ⟨S1024x16384, .f32⟩
  | _, _ => ⟨S1x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024 : Shape := ⟨1, ![1024]⟩
abbrev S1024x8208 : Shape := ⟨2, ![1024, 8208]⟩
abbrev S16 : Shape := ⟨1, ![16]⟩
abbrev S1024x1024 : Shape := ⟨2, ![1024, 1024]⟩
abbrev S1024x16 : Shape := ⟨2, ![1024, 16]⟩
abbrev S1x1024x1x16 : Shape := ⟨4, ![1, 1024, 1, 16]⟩
abbrev S1x1024x3x16 : Shape := ⟨4, ![1, 1024, 3, 16]⟩
abbrev S1024x48 : Shape := ⟨2, ![1024, 48]⟩
abbrev S_ : Shape := ⟨0, ![]⟩
abbrev S1024x128 : Shape := ⟨2, ![1024, 128]⟩
abbrev S1x16 : Shape := ⟨2, ![1, 16]⟩
abbrev S3x16 : Shape := ⟨2, ![3, 16]⟩
abbrev S48 : Shape := ⟨1, ![48]⟩
abbrev S128 : Shape := ⟨1, ![128]⟩
abbrev S1x128 : Shape := ⟨2, ![1, 128]⟩
abbrev S16384x16 : Shape := ⟨2, ![16384, 16]⟩
abbrev S1024x16384 : Shape := ⟨2, ![1024, 16384]⟩
abbrev S16x64x64x256 : Shape := ⟨4, ![16, 64, 64, 256]⟩
abbrev S16384x128 : Shape := ⟨2, ![16384, 128]⟩
abbrev S256x1024 : Shape := ⟨2, ![256, 1024]⟩
abbrev S256x16 : Shape := ⟨2, ![256, 16]⟩
abbrev S1024x256 : Shape := ⟨2, ![1024, 256]⟩
abbrev S16x1x64x256 : Shape := ⟨4, ![16, 1, 64, 256]⟩
abbrev S256x128 : Shape := ⟨2, ![256, 128]⟩
abbrev S256x256 : Shape := ⟨2, ![256, 256]⟩
abbrev S8x128 : Shape := ⟨2, ![8, 128]⟩
abbrev S256 : Shape := ⟨1, ![256]⟩
abbrev S256x1 : Shape := ⟨2, ![256, 1]⟩
abbrev S64x256 : Shape := ⟨2, ![64, 256]⟩
abbrev S1x1x64x256 : Shape := ⟨4, ![1, 1, 64, 256]⟩

abbrev nBuf : Space → Nat
  | .hbm => 45
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x8208, .f32⟩
  | .hbm, ⟨5, _⟩ => ⟨S16, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x16, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1x1024x1x16, .f32⟩
  | .hbm, ⟨16, _⟩ => ⟨S1x1024x3x16, .f32⟩
  | .hbm, ⟨17, _⟩ => ⟨S1024x48, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1x16, .f32⟩
  | .hbm, ⟨23, _⟩ => ⟨S3x16, .f32⟩
  | .hbm, ⟨24, _⟩ => ⟨S48, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1024x1024, .bf16⟩
  | .hbm, ⟨37, _⟩ => ⟨S1024x1024, .bf16⟩
  | .hbm, ⟨38, _⟩ => ⟨S16384x1024, .f32⟩
  | .hbm, ⟨39, _⟩ => ⟨S16384x1024, .f32⟩
  | .hbm, ⟨40, _⟩ => ⟨S16384x16, .f32⟩
  | .hbm, ⟨41, _⟩ => ⟨S16384x1024, .bf16⟩
  | .hbm, ⟨42, _⟩ => ⟨S1024x16384, .bf16⟩
  | .hbm, ⟨43, _⟩ => ⟨S16x64x64x256, .bf16⟩
  | .hbm, ⟨44, _⟩ => ⟨S16384x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S1x128, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x16, .f32⟩
  | .local _ .vmem, ⟨16, _⟩ => ⟨S256x16, .f32⟩
  | .local _ .vmem, ⟨17, _⟩ => ⟨S256x1024, .bf16⟩
  | .local _ .vmem, ⟨18, _⟩ => ⟨S256x1024, .bf16⟩
  | .local _ .vmem, ⟨19, _⟩ => ⟨S1024x256, .bf16⟩
  | .local _ .vmem, ⟨20, _⟩ => ⟨S1024x256, .bf16⟩
  | .local _ .vmem, ⟨21, _⟩ => ⟨S16x1x64x256, .bf16⟩
  | .local _ .vmem, ⟨22, _⟩ => ⟨S16x1x64x256, .bf16⟩
  | .local _ .vmem, ⟨23, _⟩ => ⟨S256x128, .bf16⟩
  | .local _ .vmem, ⟨24, _⟩ => ⟨S256x128, .bf16⟩
  | .local _ .vmem, ⟨25, _⟩ => ⟨S256x256, .bf16⟩
  | .local _ .vmem, ⟨26, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev main_v27_6 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S1x1024 : Shape := ⟨2, ![1, 1024]⟩
abbrev S1024 : Shape := ⟨1, ![1024]⟩
abbrev S1024x8208 : Shape := ⟨2, ![1024, 8208]⟩
abbrev S16 : Shape := ⟨1, ![16]⟩
abbrev S_ : Shape := ⟨0, ![]⟩
abbrev S16384 : Shape := ⟨1, ![16384]⟩
abbrev S16384x1 : Shape := ⟨2, ![16384, 1]⟩
abbrev S16384x8208 : Shape := ⟨2, ![16384, 8208]⟩
abbrev S16384x16 : Shape := ⟨2, ![16384, 16]⟩
abbrev S1x16 : Shape := ⟨2, ![1, 16]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x8208, .f32⟩
  | .hbm, ⟨5, _⟩ => ⟨S16, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x8208, .f32⟩
  | .hbm, ⟨30, _⟩ => ⟨S16384x1024, .f32⟩
  | .hbm, ⟨31, _⟩ => ⟨S16384x1024, .f32⟩
  | .hbm, ⟨32, _⟩ => ⟨S16384x16, .f32⟩
  | .hbm, ⟨33, _⟩ => ⟨S1x16, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S_, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x16, .i1⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S16384x16, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v26 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024 : Shape := ⟨1, ![1024]⟩
abbrev S1024x8208 : Shape := ⟨2, ![1024, 8208]⟩
abbrev S3x1024 : Shape := ⟨2, ![3, 1024]⟩
abbrev S1024x1024 : Shape := ⟨2, ![1024, 1024]⟩
abbrev S1024x16 : Shape := ⟨2, ![1024, 16]⟩
abbrev S_ : Shape := ⟨0, ![]⟩
abbrev S8x1024 : Shape := ⟨2, ![8, 1024]⟩
abbrev S256x1024 : Shape := ⟨2, ![256, 1024]⟩
abbrev S264x1024 : Shape := ⟨2, ![264, 1024]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x8208, .f32⟩
  | .hbm, ⟨5, _⟩ => ⟨S3x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x16, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S_, .i32⟩
  | .hbm, ⟨21, _⟩ => ⟨S_, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S8x1024, .f32⟩
  | .local _ .vmem, ⟨11, _⟩ => ⟨S8x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S264x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S16384x1024 : Shape := ⟨2, ![16384, 1024]⟩
abbrev S1x1024 : Shape := ⟨2, ![1, 1024]⟩
abbrev S1024 : Shape := ⟨1, ![1024]⟩
abbrev S1024x8208 : Shape := ⟨2, ![1024, 8208]⟩
abbrev S3x1024 : Shape := ⟨2, ![3, 1024]⟩
abbrev S_ : Shape := ⟨0, ![]⟩
abbrev S16384 : Shape := ⟨1, ![16384]⟩
abbrev S16384x1 : Shape := ⟨2, ![16384, 1]⟩
abbrev S16384x8208 : Shape := ⟨2, ![16384, 8208]⟩
abbrev S2x1024 : Shape := ⟨2, ![2, 1024]⟩
abbrev S16386x1024 : Shape := ⟨2, ![16386, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x8208, .f32⟩
  | .hbm, ⟨5, _⟩ => ⟨S3x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x8208, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S2x1024, .f32⟩
  | .hbm, ⟨38, _⟩ => ⟨S16386x1024, .f32⟩
  | .hbm, ⟨39, _⟩ => ⟨S16384x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel4.lean ====
abbrev S32x1024 : Shape := ⟨2, ![32, 1024]⟩
abbrev S1024 : Shape := ⟨1, ![1024]⟩
abbrev S1024x8208 : Shape := ⟨2, ![1024, 8208]⟩
abbrev S16 : Shape := ⟨1, ![16]⟩
abbrev S1024x1024 : Shape := ⟨2, ![1024, 1024]⟩
abbrev S1024x16 : Shape := ⟨2, ![1024, 16]⟩
abbrev S1x1024x1x16 : Shape := ⟨4, ![1, 1024, 1, 16]⟩
abbrev S1x1024x3x16 : Shape := ⟨4, ![1, 1024, 3, 16]⟩
abbrev S1024x48 : Shape := ⟨2, ![1024, 48]⟩
abbrev S_ : Shape := ⟨0, ![]⟩
abbrev S1024x128 : Shape := ⟨2, ![1024, 128]⟩
abbrev S1x16 : Shape := ⟨2, ![1, 16]⟩
abbrev S3x16 : Shape := ⟨2, ![3, 16]⟩
abbrev S48 : Shape := ⟨1, ![48]⟩
abbrev S128 : Shape := ⟨1, ![128]⟩
abbrev S1x128 : Shape := ⟨2, ![1, 128]⟩
abbrev S1x1024 : Shape := ⟨2, ![1, 1024]⟩
abbrev S32x128 : Shape := ⟨2, ![32, 128]⟩
abbrev S32 : Shape := ⟨1, ![32]⟩
abbrev S32x1 : Shape := ⟨2, ![32, 1]⟩
abbrev S32x16 : Shape := ⟨2, ![32, 16]⟩

abbrev nBuf : Space → Nat
  | .hbm => 41
  | .vmem => 13
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x8208, .f32⟩
  | .hbm, ⟨5, _⟩ => ⟨S16, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x16, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1x1024x1x16, .f32⟩
  | .hbm, ⟨16, _⟩ => ⟨S1x1024x3x16, .f32⟩
  | .hbm, ⟨17, _⟩ => ⟨S1024x48, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1x16, .f32⟩
  | .hbm, ⟨23, _⟩ => ⟨S3x16, .f32⟩
  | .hbm, ⟨24, _⟩ => ⟨S48, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S_, .f32⟩
  | .hbm, ⟨33, _⟩ => ⟨S32x1024, .f32⟩
  | .hbm, ⟨34, _⟩ => ⟨S32x1024, .f32⟩
  | .hbm, ⟨35, _⟩ => ⟨S1x1024, .f32⟩
  | .hbm, ⟨36, _⟩ => ⟨S32x1024, .f32⟩
  | .hbm, ⟨37, _⟩ => ⟨S32x1024, .f32⟩
  | .hbm, ⟨38, _⟩ => ⟨S32x1024, .f32⟩
  | .hbm, ⟨39, _⟩ => ⟨S32x128, .f32⟩
  | .hbm, ⟨40, _⟩ => ⟨S32x16, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1x128, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S32x1024 : Shape := ⟨2, ![32, 1024]⟩
abbrev S1024 : Shape := ⟨1, ![1024]⟩
abbrev S1024x8208 : Shape := ⟨2, ![1024, 8208]⟩
abbrev S16 : Shape := ⟨1, ![16]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x8208 : Shape := ⟨2, ![32, 8208]⟩
abbrev S32x16 : Shape := ⟨2, ![32, 16]⟩
abbrev S1x16 : Shape := ⟨2, ![1, 16]⟩

abbrev nBuf : Space → Nat
  | .hbm => 50
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x8208, .f32⟩
  | .hbm, ⟨5, _⟩ => ⟨S16, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S1x1024, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x8208, .f32⟩
  | .hbm, ⟨28, _⟩ => ⟨S32x1024, .f32⟩
  | .hbm, ⟨29, _⟩ => ⟨S32x1024, .f32⟩
  | .hbm, ⟨30, _⟩ => ⟨S32x16, .f32⟩
  | .hbm, ⟨31, _⟩ => ⟨S1x16, .f32⟩
  | .hbm, ⟨32, _⟩ => ⟨S32x16, .f32⟩
  | .hbm, ⟨33, _⟩ => ⟨S32x16, .f32⟩
  | .hbm, ⟨34, _⟩ => ⟨S32x16, .f32⟩
  | .hbm, ⟨35, _⟩ => ⟨S_, .f32⟩
  | .hbm, ⟨36, _⟩ => ⟨S32x16, .f32⟩
  | .hbm, ⟨37, _⟩ => ⟨S32x16, .f32⟩
  | .hbm, ⟨38, _⟩ => ⟨S32x16, .f32⟩
  | .hbm, ⟨39, _⟩ => ⟨S32x16, .f32⟩
  | .hbm, ⟨40, _⟩ => ⟨S32x16, .i1⟩
  | .hbm, ⟨41, _⟩ => ⟨S32x16, .f32⟩
  | .hbm, ⟨42, _⟩ => ⟨S32x16, .f32⟩
  | .hbm, ⟨43, _⟩ => ⟨S32x16, .f32⟩
  | .hbm, ⟨44, _⟩ => ⟨S32x16, .f32⟩
  | .hbm, ⟨45, _⟩ => ⟨S32x16, .f32⟩
  | .hbm, ⟨46, _⟩ => ⟨S32x16, .f32⟩
  | .hbm, ⟨47, _⟩ => ⟨S32x16, .f32⟩
  | .hbm, ⟨48, _⟩ => ⟨S32x16, .f32⟩
  | .hbm, ⟨49, _⟩ => ⟨S32x16, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S1024x8208 : Shape := ⟨2, ![1024, 8208]⟩
abbrev S3x1024 : Shape := ⟨2, ![3, 1024]⟩
abbrev S32x2x1024 : Shape := ⟨3, ![32, 2, 1024]⟩
abbrev S1024x1024 : Shape := ⟨2, ![1024, 1024]⟩
abbrev S1024x16 : Shape := ⟨2, ![1024, 16]⟩
abbrev S_ : Shape := ⟨0, ![]⟩
abbrev S8x1024 : Shape := ⟨2, ![8, 1024]⟩
abbrev S1x1024 : Shape := ⟨2, ![1, 1024]⟩
abbrev S32x1x1024 : Shape := ⟨3, ![32, 1, 1024]⟩
abbrev S32 : Shape := ⟨1, ![32]⟩
abbrev S32x1 : Shape := ⟨2, ![32, 1]⟩

abbrev nBuf : Space → Nat
  | .hbm => 35
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x8208, .f32⟩
  | .hbm, ⟨5, _⟩ => ⟨S3x1024, .f32⟩
  | .hbm, ⟨6, _⟩ => ⟨S32x2x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x16, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S_, .i32⟩
  | .hbm, ⟨22, _⟩ => ⟨S_, .f32⟩
  | .hbm, ⟨23, _⟩ => ⟨S8x1024, .f32⟩
  | .hbm, ⟨24, _⟩ => ⟨S_, .f32⟩
  | .hbm, ⟨25, _⟩ => ⟨S32x1024, .f32⟩
  | .hbm, ⟨26, _⟩ => ⟨S32x1024, .f32⟩
  | .hbm, ⟨27, _⟩ => ⟨S1x1024, .f32⟩
  | .hbm, ⟨28, _⟩ => ⟨S32x1x1024, .f32⟩
  | .hbm, ⟨29, _⟩ => ⟨S32x1024, .f32⟩
  | .hbm, ⟨30, _⟩ => ⟨S32x1x1024, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S8x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S32x1024 : Shape := ⟨2, ![32, 1024]⟩
abbrev S1024 : Shape := ⟨1, ![1024]⟩
abbrev S1024x8208 : Shape := ⟨2, ![1024, 8208]⟩
abbrev S3x1024 : Shape := ⟨2, ![3, 1024]⟩
abbrev S32x2x1024 : Shape := ⟨3, ![32, 2, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x8208 : Shape := ⟨2, ![32, 8208]⟩
abbrev S32x1x1024 : Shape := ⟨3, ![32, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x8208, .f32⟩
  | .hbm, ⟨5, _⟩ => ⟨S3x1024, .f32⟩
  | .hbm, ⟨6, _⟩ => ⟨S32x2x1024, .f32⟩
  | .hbm, ⟨7, _⟩ => ⟨S32x1024, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x1024, .f32⟩
  | .hbm, ⟨19, _⟩ => ⟨S32x1024, .f32⟩
  | .hbm, ⟨20, _⟩ => ⟨S1x1024, .f32⟩
  | .hbm, ⟨21, _⟩ => ⟨S32x1024, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S32x8208, .f32⟩
  | .hbm, ⟨29, _⟩ => ⟨S32x1024, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S32x1x1024, .f32⟩
  | .hbm, ⟨36, _⟩ => ⟨S32x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S32x1024, .f32⟩
  | .hbm, ⟨41, _⟩ => ⟨S32x1024, .f32⟩
  | .hbm, ⟨42, _⟩ => ⟨S32x1x1024, .f32⟩
  | .hbm, ⟨43, _⟩ => ⟨S32x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S32x1024, .f32⟩
  | .hbm, ⟨48, _⟩ => ⟨S32x1024, .f32⟩
  | .hbm, ⟨49, _⟩ => ⟨S32x1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S32x1024, .f32⟩
  | .hbm, ⟨54, _⟩ => ⟨S32x1024, .f32⟩
  | .hbm, ⟨55, _⟩ => ⟨S32x1024, .f32⟩
  | .hbm, ⟨56, _⟩ => ⟨S32x1024, .f32⟩
  | .hbm, ⟨57, _⟩ => ⟨S32x1024, .f32⟩
  | .hbm, ⟨58, _⟩ => ⟨S_, .f32⟩
  | .hbm, ⟨59, _⟩ => ⟨S32x1024, .f32⟩
  | .hbm, ⟨60, _⟩ => ⟨S32x1024, .f32⟩
  | .hbm, ⟨61, _⟩ => ⟨S_, .f32⟩
  | .hbm, ⟨62, _⟩ => ⟨S32x1024, .f32⟩
  | .hbm, ⟨63, _⟩ => ⟨S32x1024, .f32⟩
  | .hbm, ⟨64, _⟩ => ⟨S32x1024, .f32⟩
  | .hbm, ⟨65, _⟩ => ⟨S32x1024, .f32⟩
  | .hbm, ⟨66, _⟩ => ⟨S_, .f32⟩
  | .hbm, ⟨67, _⟩ => ⟨S32x1024, .f32⟩
  | .hbm, ⟨68, _⟩ => ⟨S32x1024, .f32⟩
  | .hbm, ⟨69, _⟩ => ⟨S_, .f32⟩
  | .hbm, ⟨70, _⟩ => ⟨S32x1024, .f32⟩
  | .hbm, ⟨71, _⟩ => ⟨S32x1024, .f32⟩
  | .hbm, ⟨72, _⟩ => ⟨S32x1024, .f32⟩
  | .hbm, ⟨73, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.Offsets.lean ====
/- Where the loads of one grid point of the attention lie, and how many trips its loop makes: each closed form holds at all 256 grid points. -/
module

public import proofs.«01_k».proof.Proof.Gen.KernelIdeal.Loops

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

/-! ## Where the loads of a grid point lie -/

/-- The key block consumed `n`-th by query block `i`: the query block's own first, then blocks 0, 1, …. -/
def seqB (i n : ℕ) : ℕ := if n = 0 then i else n - 1

theorem trips1 : ∀ i : grid0.Coords, (k0_t1_loop i).trips = (i 1).val / 2 := by decide +kernel
theorem trips2 : ∀ i : grid0.Coords, (k0_t2_loop i).trips = 0 := by decide +kernel
theorem cond_iff : ∀ i : grid0.Coords, k0_cond1 i = 1#1 ↔ (i 1).val % 2 = 1 := by decide +kernel
theorem off1_eq : ∀ i : grid0.Coords, k0_off1 i = ![512 * ((i 1).val % 32), 0] := by decide +kernel
theorem off2_eq : ∀ (i : grid0.Coords) (k : Fin (k0_t1_loop i).trips), k0_off2 i k = ![512 * ((2 * k.val) % 32), 0] := by decide +kernel
theorem off5_eq : ∀ (i : grid0.Coords) (k : Fin (k0_t1_loop i).trips), k0_off5 i k = ![512 * ((2 * k.val + 1) % 32), 0] := by decide +kernel
theorem off14_eq : ∀ i : grid0.Coords, k0_cond1 i = 1#1 → k0_off14 i = ![512 * (((i 1).val / 2 * 2) % 32), 0] := by decide +kernel
theorem off3_eq0 : ∀ (i : grid0.Coords) (k : Fin (k0_t1_loop i).trips), k0_off3 i k 0#32 = ![0, (2 * seqB (i 1).val (2 * k.val)) % 64, 0, 0] := by decide +kernel
theorem off3_eq1 : ∀ (i : grid0.Coords) (k : Fin (k0_t1_loop i).trips), k0_off3 i k 1#32 = ![0, (2 * seqB (i 1).val (2 * k.val) + 1) % 64, 0, 0] := by decide +kernel
theorem off4_eq0 : ∀ (i : grid0.Coords) (k : Fin (k0_t1_loop i).trips), k0_off4 i k 0#32 = ![1, (2 * seqB (i 1).val (2 * k.val)) % 64, 0, 0] := by decide +kernel
theorem off4_eq1 : ∀ (i : grid0.Coords) (k : Fin (k0_t1_loop i).trips), k0_off4 i k 1#32 = ![1, (2 * seqB (i 1).val (2 * k.val) + 1) % 64, 0, 0] := by decide +kernel
theorem off6_eq0 : ∀ (i : grid0.Coords) (k : Fin (k0_t1_loop i).trips), k0_off6 i k 0#32 = ![0, (2 * seqB (i 1).val (2 * k.val + 1)) % 64, 0, 0] := by decide +kernel
theorem off6_eq1 : ∀ (i : grid0.Coords) (k : Fin (k0_t1_loop i).trips), k0_off6 i k 1#32 = ![0, (2 * seqB (i 1).val (2 * k.val + 1) + 1) % 64, 0, 0] := by decide +kernel
theorem off7_eq0 : ∀ (i : grid0.Coords) (k : Fin (k0_t1_loop i).trips), k0_off7 i k 0#32 = ![1, (2 * seqB (i 1).val (2 * k.val + 1)) % 64, 0, 0] := by decide +kernel
theorem off7_eq1 : ∀ (i : grid0.Coords) (k : Fin (k0_t1_loop i).trips), k0_off7 i k 1#32 = ![1, (2 * seqB (i 1).val (2 * k.val + 1) + 1) % 64, 0, 0] := by decide +kernel
theorem off15_eq0 : ∀ i : grid0.Coords, k0_cond1 i = 1#1 → k0_off15 i 0#32 = ![0, (2 * seqB (i 1).val ((i 1).val / 2 * 2)) % 64, 0, 0] := by decide +kernel
theorem off15_eq1 : ∀ i : grid0.Coords, k0_cond1 i = 1#1 → k0_off15 i 1#32 = ![0, (2 * seqB (i 1).val ((i 1).val / 2 * 2) + 1) % 64, 0, 0] := by decide +kernel
theorem off16_eq0 : ∀ i : grid0.Coords, k0_cond1 i = 1#1 → k0_off16 i 0#32 = ![1, (2 * seqB (i 1).val ((i 1).val / 2 * 2)) % 64, 0, 0] := by decide +kernel
theorem off16_eq1 : ∀ i : grid0.Coords, k0_cond1 i = 1#1 → k0_off16 i 1#32 = ![1, (2 * seqB (i 1).val ((i 1).val / 2 * 2) + 1) % 64, 0, 0] := by decide +kernel
theorem off17_eq0 : ∀ i : grid0.Coords, k0_cond1 i = 1#1 → k0_off17 i 0#32 = ![0, (2 * seqB (i 1).val ((i 1).val / 2 * 2 + 1)) % 64, 0, 0] := by decide +kernel
theorem off17_eq1 : ∀ i : grid0.Coords, k0_cond1 i = 1#1 → k0_off17 i 1#32 = ![0, (2 * seqB (i 1).val ((i 1).val / 2 * 2 + 1) + 1) % 64, 0, 0] := by decide +kernel
theorem off18_eq0 : ∀ i : grid0.Coords, k0_cond1 i = 1#1 → k0_off18 i 0#32 = ![1, (2 * seqB (i 1).val ((i 1).val / 2 * 2 + 1)) % 64, 0, 0] := by decide +kernel
theorem off18_eq1 : ∀ i : grid0.Coords, k0_cond1 i = 1#1 → k0_off18 i 1#32 = ![1, (2 * seqB (i 1).val ((i 1).val / 2 * 2 + 1) + 1) % 64, 0, 0] := by decide +kernel
theorem off19_eq0 : ∀ i : grid0.Coords, ¬ k0_cond1 i = 1#1 → k0_off19 i 0#32 = ![0, (2 * seqB (i 1).val ((i 1).val / 2 * 2)) % 64, 0, 0] := by decide +kernel
theorem off19_eq1 : ∀ i : grid0.Coords, ¬ k0_cond1 i = 1#1 → k0_off19 i 1#32 = ![0, (2 * seqB (i 1).val ((i 1).val / 2 * 2) + 1) % 64, 0, 0] := by decide +kernel
theorem off20_eq0 : ∀ i : grid0.Coords, ¬ k0_cond1 i = 1#1 → k0_off20 i 0#32 = ![1, (2 * seqB (i 1).val ((i 1).val / 2 * 2)) % 64, 0, 0] := by decide +kernel
theorem off20_eq1 : ∀ i : grid0.Coords, ¬ k0_cond1 i = 1#1 → k0_off20 i 1#32 = ![1, (2 * seqB (i 1).val ((i 1).val / 2 * 2) + 1) % 64, 0, 0] := by decide +kernel

end Cert.KernelIdeal.Attn

end
-- ==== Proof.Fold.lean ====
/- What a grid point of the attention computes, block of keys by block of keys: the scores of one chunk of queries against a block, the running maximum, and the running weighted sums. -/
module

public import proofs.«01_k».proof.Proof.Offsets
public import Idealize.ShloMosaic.Lib.VecWindow
public import Idealize.ShloMosaic.Lib.Pointwise.Reshape

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

/-- Rows `512·b … 512·b + 511` of an array of 16384 rows. -/
def blk (x : Vec F S16384x128 .bf16) (b : ℕ) : Vec F S512x128 .bf16 :=
  VecWindow.window x ![512 * (b % 32), 0] S512x128.size (by intro a; have := Nat.mod_lt b (show 0 < 32 by decide); fin_cases a <;> simp <;> omega)

/-- The values of head `h` of the pair at the 256 keys of half block `r`. -/
def vblk (x : Vec F S2x64x64x256 .bf16) (h : Fin 2) (r : ℕ) : Vec F S1x1x64x256 .bf16 :=
  VecWindow.window x ![h.val, r % 64, 0, 0] S1x1x64x256.size (by
    intro a; have := Nat.mod_lt r (show 0 < 64 by decide); have := h.isLt; fin_cases a <;> simp <;> omega)

theorem load_blk {arg : Memref sig .tc .vmem S16384x128 .bf16} (harg : arg.IsWhole) (x : Vec F S16384x128 .bf16) (b : ℕ) {off : Fin 2 → ℕ}
    (inb) (h : off = ![512 * (b % 32), 0]) :
    arg.view.readAt (Elt F) (Rect.unit (s := S16384x128) off S512x128.size inb).toLoadRect (harg.unread x) = blk x b := by
  rw [View.readAt_unit _ _ _ h, harg.read_unread]; rfl

theorem load_vblk {arg : Memref sig .tc .vmem S2x64x64x256 .bf16} (harg : arg.IsWhole) (x : Vec F S2x64x64x256 .bf16) (h : Fin 2) (r : ℕ) {off : Fin 4 → ℕ}
    (inb) (ho : off = ![h.val, r % 64, 0, 0]) :
    arg.view.readAt (Elt F) (Rect.unit (s := S2x64x64x256) off S1x1x64x256.size inb).toLoadRect (harg.unread x) = vblk x h r := by
  rw [View.readAt_unit _ _ _ ho, harg.read_unread]; rfl

/-! ## The four column chunks of a score buffer -/

section Chunks
variable {κ : Kind} {sp : Space} {Val : EltTy → Type} (v : View sig κ sp S512x1024 .f32) (f : v.ty.Contents Val)

/-- A load of the chunk at column `o` after a store of it reads what was stored. -/
theorem chunk_same (o : ℕ) (inb inb') (w) (L : List (View.Piece Val S512x1024 .f32)) :
    v.readAt Val (Rect.unit (s := S512x1024) ![0, o] S512x256.size inb).toLoadRect
      (v.writes Val f (⟨Rect.unit (s := S512x1024) ![0, o] S512x256.size inb', w⟩ :: L)) = w := by
  rw [View.readAt_unit v _ inb rfl inb, View.read_writes_cons_put v f inb' w L rfl, VecWindow.window_put_same]

/-- A load of the chunk at column `o` does not see a store of another chunk. -/
theorem chunk_ne (o o' : ℕ) (h : o + 256 ≤ o' ∨ o' + 256 ≤ o) (inb inb') (w) (L : List (View.Piece Val S512x1024 .f32)) :
    v.readAt Val (Rect.unit (s := S512x1024) ![0, o] S512x256.size inb).toLoadRect
      (v.writes Val f (⟨Rect.unit (s := S512x1024) ![0, o'] S512x256.size inb', w⟩ :: L))
      = v.readAt Val (Rect.unit (s := S512x1024) ![0, o] S512x256.size inb).toLoadRect (v.writes Val f L) := by
  rw [View.readAt_unit v _ inb rfl inb, View.readAt_unit v _ inb rfl inb, View.read_writes_cons_put v f inb' w L rfl]
  exact VecWindow.window_put_of_disjoint (s := S512x1024) _ ![0, o'] S512x256.size ![0, o] S512x256.size inb w 1 (by simp; omega)

variable (w0 w1 w2 w3 : S512x256.Idx → Val .f32) (L : List (View.Piece Val S512x1024 .f32))

/-- The pieces of the four chunks' stores, the last chunk's newest, in front of earlier ones. -/
abbrev four : List (View.Piece Val S512x1024 .f32) :=
  ⟨Rect.unit (s := S512x1024) ![0, 768] S512x256.size inb_S512x1024_S512x256_0_768, w3⟩ ::
  ⟨Rect.unit (s := S512x1024) ![0, 512] S512x256.size inb_S512x1024_S512x256_0_512, w2⟩ ::
  ⟨Rect.unit (s := S512x1024) ![0, 256] S512x256.size inb_S512x1024_S512x256_0_256, w1⟩ ::
  ⟨Rect.unit (s := S512x1024) ![0, 0] S512x256.size inb_S512x1024_S512x256_0_0, w0⟩ :: L

theorem four0 (inb) : v.readAt Val (Rect.unit (s := S512x1024) ![0, 0] S512x256.size inb).toLoadRect (v.writes Val f (four w0 w1 w2 w3 L)) = w0 := by
  rw [four, chunk_ne _ _ _ _ (by omega), chunk_ne _ _ _ _ (by omega), chunk_ne _ _ _ _ (by omega), chunk_same]
theorem four1 (inb) : v.readAt Val (Rect.unit (s := S512x1024) ![0, 256] S512x256.size inb).toLoadRect (v.writes Val f (four w0 w1 w2 w3 L)) = w1 := by
  rw [four, chunk_ne _ _ _ _ (by omega), chunk_ne _ _ _ _ (by omega), chunk_same]
theorem four2 (inb) : v.readAt Val (Rect.unit (s := S512x1024) ![0, 512] S512x256.size inb).toLoadRect (v.writes Val f (four w0 w1 w2 w3 L)) = w2 := by
  rw [four, chunk_ne _ _ _ _ (by omega), chunk_same]
theorem four3 (inb) : v.readAt Val (Rect.unit (s := S512x1024) ![0, 768] S512x256.size inb).toLoadRect (v.writes Val f (four w0 w1 w2 w3 L)) = w3 := by
  rw [four, chunk_same]
end Chunks

theorem cast_scores (S : FVec F S512x256 .f32) : shapeCast S512x256 S shapeCasts_S512x256_S512x256 = S := shapeCast_id _ _

/-! ## One chunk's softmax, block by block -/

/-- What one chunk of a grid point's queries (256 queries of one head) works on. -/
structure Chunk (F : FTy → Type) where
  /-- the query block -/
  i : ℕ
  /-- the queries over the selection of their head's decay columns -/
  qa : FVec F S256x256 .bf16
  /-- the chunk's first query within the block -/
  off : BitVec 32
  /-- the head of the pair -/
  h : Fin 2
  /-- the keys -/
  ks : Vec F S16384x128 .bf16
  /-- the keys' decay columns -/
  fs : Vec F S16384x128 .bf16
  /-- the values -/
  vs : Vec F S2x64x64x256 .bf16

/-- The positions of a chunk's queries, along the columns of a score block. -/
def qpos (i : ℕ) (off : BitVec 32) : IVec S512x256 32 :=
  addi (broadcast S512x256 (Scalar.addi (Scalar.muli (BitVec.ofNat 32 i) 512#32) off)) (iota .tc S512x256 32 [1] iota_S512x256_d1_w32)

/-- The maximum of each column of a score block. -/
def colMax (S : FVec F S512x256 .f32) : FVec F S1x256 .f32 :=
  shapeCast S1x256 (multiReduction .maximumf [0] S256 S 0xFF800000#32 reduces_S512x256_S256 (.inl rfl) rfl) shapeCasts_S256_S1x256

namespace Chunk
variable (C : Chunk F)

/-- The scores of the `n`-th key block consumed: the query block's own, the later keys masked, then every block before it. -/
def S : ℕ → FVec F S512x256 .f32
  | 0 => k0_pay203 (k0_pay7 C.qa (blk C.ks C.i) (blk C.fs C.i)) (k0_pay201 (BitVec.ofNat 32 C.i)) (qpos C.i C.off)
  | n + 1 => k0_pay7 C.qa (blk C.ks n) (blk C.fs n)

/-- The running maximum before the `n`-th block is consumed. -/
def M : ℕ → FVec F S1x256 .f32
  | 0 => k0_pay209
  | n + 1 => k0_pay10 (colMax (C.S n)) (M n)

/-- The running weighted sum of the values, and of ones, before the `n`-th block is consumed. -/
def A : ℕ → FVec F S80x256 .f32
  | 0 => k0_pay213
  | n + 1 => k0_pay14 k0_pay193 (A n) (k0_pay11 (colMax (C.S n)) (C.M n)) (k0_pay12 (colMax (C.S n)) (C.M n) (C.S n))
      (k0_pay13 (vblk C.vs C.h (2 * seqB C.i n))) (vblk C.vs C.h (2 * seqB C.i n + 1))

theorem S_succ (n : ℕ) : C.S (n + 1) = k0_pay7 C.qa (blk C.ks n) (blk C.fs n) := rfl
theorem M_succ (n : ℕ) : C.M (n + 1) = k0_pay10 (colMax (C.S n)) (C.M n) := rfl
theorem A_succ (n : ℕ) : C.A (n + 1) = k0_pay14 k0_pay193 (C.A n) (k0_pay11 (colMax (C.S n)) (C.M n)) (k0_pay12 (colMax (C.S n)) (C.M n) (C.S n))
      (k0_pay13 (vblk C.vs C.h (2 * seqB C.i n))) (vblk C.vs C.h (2 * seqB C.i n + 1)) := rfl

end Chunk

/-- The chunk's output: the sum of the weighted values over the sum of the weights. -/
def Chunk.out (C : Chunk F) : FVec F S64x256 .f32 := k0_pay3 (C.A (C.i + 1))

end Cert.KernelIdeal.Attn

end
-- ==== Proof.LoopValue.lean ====
/- The attention's loop over earlier key blocks: what it carries and what the first score buffer holds before each trip. -/
module

public import proofs.«01_k».proof.Proof.Fold

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

/-- What the loop carries before block `n` is consumed: the four chunks' newest column maxima, running maxima and sums. -/
def carry (C : Fin 4 → Chunk F) (n : ℕ) : FVec F S1x256 .f32 × FVec F S1x256 .f32 × FVec F S1x256 .f32 × FVec F S1x256 .f32 × FVec F S1x256 .f32 × FVec F S1x256 .f32 × FVec F S1x256 .f32 × FVec F S1x256 .f32 × FVec F S80x256 .f32 × FVec F S80x256 .f32 × FVec F S80x256 .f32 × FVec F S80x256 .f32 :=
  (colMax ((C 0).S n), colMax ((C 1).S n), colMax ((C 2).S n), colMax ((C 3).S n), (C 0).M n, (C 1).M n, (C 2).M n, (C 3).M n, (C 0).A n, (C 1).A n, (C 2).A n, (C 3).A n)

/-- A score buffer holds the four chunks' scores of the `n`-th block. -/
def Holds (C : Fin 4 → Chunk F) (n : ℕ) {κ : Kind} {sp : Space} (v : View sig κ sp S512x1024 .f32) (f : v.ty.Contents (Elt F)) : Prop :=
  v.readAt (Elt F) (Rect.unit (s := S512x1024) ![0, 0] S512x256.size inb_S512x1024_S512x256_0_0).toLoadRect f = (C 0).S n ∧
  v.readAt (Elt F) (Rect.unit (s := S512x1024) ![0, 256] S512x256.size inb_S512x1024_S512x256_0_256).toLoadRect f = (C 1).S n ∧
  v.readAt (Elt F) (Rect.unit (s := S512x1024) ![0, 512] S512x256.size inb_S512x1024_S512x256_0_512).toLoadRect f = (C 2).S n ∧
  v.readAt (Elt F) (Rect.unit (s := S512x1024) ![0, 768] S512x256.size inb_S512x1024_S512x256_0_768).toLoadRect f = (C 3).S n

/-- The four chunks of grid point `i` on the given queries: two heads, two halves of the query block. -/
def chunks (i : grid0.Coords) (v48 v49 v50 v51 : FVec F S256x256 .bf16) (x3 x4 : Vec F S16384x128 .bf16) (x5 : Vec F S2x64x64x256 .bf16) : Fin 4 → Chunk F :=
  ![⟨(i 1).val, v48, 0#32, 0, x3, x4, x5⟩, ⟨(i 1).val, v49, 256#32, 0, x3, x4, x5⟩, ⟨(i 1).val, v50, 0#32, 1, x3, x4, x5⟩, ⟨(i 1).val, v51, 256#32, 1, x3, x4, x5⟩]

theorem holds_four (C : Fin 4 → Chunk F) (n : ℕ) {κ : Kind} {sp : Space} (v : View sig κ sp S512x1024 .f32) (f : v.ty.Contents (Elt F))
    (w0 w1 w2 w3 : FVec F S512x256 .f32) (L : List (View.Piece (Elt F) S512x1024 .f32))
    (h0 : w0 = (C 0).S n) (h1 : w1 = (C 1).S n) (h2 : w2 = (C 2).S n) (h3 : w3 = (C 3).S n) : Holds C n v (v.writes (Elt F) f (four w0 w1 w2 w3 L)) := by
  subst h0 h1 h2 h3
  exact ⟨four0 v f _ _ _ _ L _, four1 v f _ _ _ _ L _, four2 v f _ _ _ _ L _, four3 v f _ _ _ _ L _⟩

section Trip
variable (c : Dev nD) (i : grid0.Coords) {arg2 : Memref sig .tc .vmem S128x512 .bf16} (harg2 : arg2.IsWhole) {arg3 : Memref sig .tc .vmem S16384x128 .bf16} (harg3 : arg3.IsWhole) {arg4 : Memref sig .tc .vmem S16384x128 .bf16} (harg4 : arg4.IsWhole) {arg5 : Memref sig .tc .vmem S2x64x64x256 .bf16} (harg5 : arg5.IsWhole) {arg6 : Memref sig .tc .vmem S128x512 .f32} (harg6 : arg6.IsWhole) {arg7 : Memref sig .tc .vmem S512x1024 .f32} (harg7 : arg7.IsWhole) {arg8 : Memref sig .tc .vmem S512x1024 .f32} (harg8 : arg8.IsWhole)
  (arg1 : BitVec 32) (v48 v49 v50 v51 : FVec F S256x256 .bf16) (v84 v110 v136 v162 v163 v164 v165 v166 : FVec F S1x256 .f32) (v167 : FVec F S80x256 .f32)
  (x3 x4 : Vec F S16384x128 .bf16) (x5 : Vec F S2x64x64x256 .bf16)

local notation "CK" => chunks i v48 v49 v50 v51 x3 x4 x5

/-- The second buffer, once a trip has filled it, holds the scores of the trip's second block. -/
theorem trip_second (k : Fin (k0_t1_loop i).trips) :
    Holds CK (2 * k.val + 1) arg8.view (arg8.view.writes (Elt F) arg8.view.junk
      (trip_k0_t1.sl.HW_arg8_4 i arg3 arg4 v48 v49 v50 v51 (harg3.unread x3) (harg4.unread x4) k)) := by
  unfold trip_k0_t1.sl.HW_arg8_4
  rw [load_blk harg3 x3 _ _ (off2_eq i k), load_blk harg4 x4 _ _ (off2_eq i k)]
  exact holds_four CK (2 * k.val + 1) arg8.view _ _ _ _ _ [] (cast_scores _) (cast_scores _) (cast_scores _) (cast_scores _)

/-- … and leaves the scores of the block after in the first buffer, whatever was stored there before. -/
theorem trip_first (k : Fin (k0_t1_loop i).trips) (f7 : BufTy.Contents (Elt F) arg7.view.ty) (f8 : BufTy.Contents (Elt F) arg8.view.ty) (acc) (L) (g7 : BufTy.Contents (Elt F) arg7.view.ty) :
    Holds CK (2 * k.val + 2) arg7.view (arg7.view.writes (Elt F) g7
      ((tripL_k0_t1 Variants.none c none i arg2 harg2 arg3 harg3 arg4 harg4 arg5 harg5 arg6 harg6 arg7 harg7 arg8 harg8 arg1 v48 v49 v50 v51 k0_pay193 v84 v110 v136 v162 v163 v164 v165 v166 v167
        (harg3.unread x3) (harg4.unread x4) (harg5.unread x5) k acc f7 f8).1 ++ L)) := by
  unfold tripL_k0_t1 trip_k0_t1
  dsimp only
  rw [load_blk harg3 x3 _ _ (off5_eq i k), load_blk harg4 x4 _ _ (off5_eq i k)]
  exact holds_four CK (2 * k.val + 2) arg7.view g7 _ _ _ _ L (cast_scores _) (cast_scores _) (cast_scores _) (cast_scores _)

attribute [local irreducible] Chunk.S Chunk.M Chunk.A

set_option maxHeartbeats 2000000 in
/-- One trip consumes two blocks and leaves the next one's scores in the first buffer. -/
theorem trip_value (k : Fin (k0_t1_loop i).trips) (f7 : BufTy.Contents (Elt F) arg7.view.ty) (f8 : BufTy.Contents (Elt F) arg8.view.ty)
    (h7 : Holds CK (2 * k.val) arg7.view f7) :
    tripR_k0_t1 Variants.none c none i arg2 harg2 arg3 harg3 arg4 harg4 arg5 harg5 arg6 harg6 arg7 harg7 arg8 harg8 arg1 v48 v49 v50 v51 k0_pay193 v84 v110 v136 v162 v163 v164 v165 v166 v167
        (harg3.unread x3) (harg4.unread x4) (harg5.unread x5) k (carry CK (2 * k.val)) f7 f8 = carry CK (2 * k.val + 2) := by
  obtain ⟨e0, e1, e2, e3⟩ := h7
  unfold tripR_k0_t1 trip_k0_t1
  dsimp only
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.v415, trip_k0_t1.sl.v454, trip_k0_t1.sl.v493, trip_k0_t1.sl.v532]
  have hg := trip_second (arg8 := arg8) (i := i) (harg3 := harg3) (harg4 := harg4) (v48 := v48) (v49 := v49) (v50 := v50) (v51 := v51) (x3 := x3) (x4 := x4) (x5 := x5) (k := k)
  obtain ⟨g0, g1, g2, g3⟩ := hg
  unfold View.readCov
  rw [g0, g1, g2, g3]
  rw [e0, e1, e2, e3]
  rw [load_blk harg3 x3 _ _ (off2_eq i k), load_blk harg4 x4 _ _ (off2_eq i k),
    load_blk harg3 x3 _ _ (off5_eq i k), load_blk harg4 x4 _ _ (off5_eq i k),
    load_vblk harg5 x5 0 _ _ (off3_eq0 i k), load_vblk harg5 x5 0 _ _ (off3_eq1 i k),
    load_vblk harg5 x5 1 _ _ (off4_eq0 i k), load_vblk harg5 x5 1 _ _ (off4_eq1 i k),
    load_vblk harg5 x5 0 _ _ (off6_eq0 i k), load_vblk harg5 x5 0 _ _ (off6_eq1 i k),
    load_vblk harg5 x5 1 _ _ (off7_eq0 i k), load_vblk harg5 x5 1 _ _ (off7_eq1 i k)]
  dsimp only [carry]
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_)))))))))))
  · rw [show 2 * k.val + 2 = (2 * k.val + 1) + 1 from rfl, Chunk.S_succ]; rfl
  · rw [show 2 * k.val + 2 = (2 * k.val + 1) + 1 from rfl, Chunk.S_succ]; rfl
  · rw [show 2 * k.val + 2 = (2 * k.val + 1) + 1 from rfl, Chunk.S_succ]; rfl
  · rw [show 2 * k.val + 2 = (2 * k.val + 1) + 1 from rfl, Chunk.S_succ]; rfl
  · rw [show 2 * k.val + 2 = (2 * k.val + 1) + 1 from rfl, Chunk.M_succ, Chunk.M_succ, Chunk.S_succ]; rfl
  · rw [show 2 * k.val + 2 = (2 * k.val + 1) + 1 from rfl, Chunk.M_succ, Chunk.M_succ, Chunk.S_succ]; rfl
  · rw [show 2 * k.val + 2 = (2 * k.val + 1) + 1 from rfl, Chunk.M_succ, Chunk.M_succ, Chunk.S_succ]; rfl
  · rw [show 2 * k.val + 2 = (2 * k.val + 1) + 1 from rfl, Chunk.M_succ, Chunk.M_succ, Chunk.S_succ]; rfl
  · rw [show 2 * k.val + 2 = (2 * k.val + 1) + 1 from rfl, Chunk.A_succ, Chunk.A_succ, Chunk.M_succ, Chunk.S_succ]; rfl
  · rw [show 2 * k.val + 2 = (2 * k.val + 1) + 1 from rfl, Chunk.A_succ, Chunk.A_succ, Chunk.M_succ, Chunk.S_succ]; rfl
  · rw [show 2 * k.val + 2 = (2 * k.val + 1) + 1 from rfl, Chunk.A_succ, Chunk.A_succ, Chunk.M_succ, Chunk.S_succ]; rfl
  · rw [show 2 * k.val + 2 = (2 * k.val + 1) + 1 from rfl, Chunk.A_succ, Chunk.A_succ, Chunk.M_succ, Chunk.S_succ]; rfl

/-- Before each trip the loop carries, and the first buffer holds, what the block-by-block fold gives. -/
theorem st_value (G7 : BufTy.Contents (Elt F) arg7.view.ty) (G8 : BufTy.Contents (Elt F) arg8.view.ty) (h0 : Holds CK 0 arg7.view G7) :
    ∀ n, n ≤ (k0_t1_loop i).trips →
      (st_k0_t1 Variants.none c none i arg2 harg2 arg3 harg3 arg4 harg4 arg5 harg5 arg6 harg6 arg7 harg7 arg8 harg8 arg1 v48 v49 v50 v51 k0_pay193 v84 v110 v136 v162 v163 v164 v165 v166 v167
        (harg3.unread x3) (harg4.unread x4) (harg5.unread x5) G7 G8 (carry CK 0) n).1 = carry CK (2 * n) ∧
      Holds CK (2 * n) arg7.view (arg7.view.writes (Elt F) G7
        (st_k0_t1 Variants.none c none i arg2 harg2 arg3 harg3 arg4 harg4 arg5 harg5 arg6 harg6 arg7 harg7 arg8 harg8 arg1 v48 v49 v50 v51 k0_pay193 v84 v110 v136 v162 v163 v164 v165 v166 v167
          (harg3.unread x3) (harg4.unread x4) (harg5.unread x5) G7 G8 (carry CK 0) n).2.1) := by
  intro n
  induction n with
  | zero => intro _; rw [st_k0_t1_zero]; exact ⟨rfl, h0⟩
  | succ n ih =>
    intro hn
    obtain ⟨ih1, ih2⟩ := ih (by omega)
    have hs := st_k0_t1_succ Variants.none c none i arg2 harg2 arg3 harg3 arg4 harg4 arg5 harg5 arg6 harg6 arg7 harg7 arg8 harg8 arg1 v48 v49 v50 v51 k0_pay193 v84 v110 v136 v162 v163 v164 v165 v166 v167
        (harg3.unread x3) (harg4.unread x4) (harg5.unread x5) G7 G8 (carry CK 0) ⟨n, by omega⟩
    dsimp only at hs
    rw [hs, ih1]
    dsimp only
    constructor
    · exact trip_value (c := c) (i := i) (harg2 := harg2) (harg3 := harg3) (harg4 := harg4) (harg5 := harg5) (harg6 := harg6) (harg7 := harg7) (harg8 := harg8) (k := ⟨n, by omega⟩) (f7 := _) (f8 := _) (h7 := ih2) ..
    · have h := trip_first (c := c) (i := i) (harg2 := harg2) (harg3 := harg3) (harg4 := harg4) (harg5 := harg5) (harg6 := harg6) (harg7 := harg7) (harg8 := harg8) (arg1 := arg1) (v48 := v48) (v49 := v49) (v50 := v50) (v51 := v51) (v84 := v84) (v110 := v110) (v136 := v136) (v162 := v162) (v163 := v163) (v164 := v164) (v165 := v165) (v166 := v166) (v167 := v167) (x3 := x3) (x4 := x4) (x5 := x5) (k := ⟨n, by omega⟩)
        (g7 := G7) (acc := carry CK (2 * n))
      exact h _ _ _

end Trip

end Cert.KernelIdeal.Attn

end
-- ==== Proof.OutBlock.lean ====
/- The block of the output that one grid point of the attention writes. -/
module

public import proofs.«01_k».proof.Proof.LoopValue
public import Idealize.ShloMosaic.Lib.PointwiseCore
public import Idealize.ShloMosaic.Lib.WritesUnit
public import Mathlib.Tactic.FinCases

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

/-- The four chunks of grid point `i` on its input blocks. -/
def pointChunks (i : grid0.Coords) (x2 : Vec F S128x512 .bf16) (x3 x4 : Vec F S16384x128 .bf16) (x5 : Vec F S2x64x64x256 .bf16) : Fin 4 → Chunk F :=
  chunks i (k0_pay189 (k0_pay184 i x2)) (k0_pay190 (k0_pay184 i x2)) (k0_pay191 (k0_pay185 x2) (k0_pay186 i) (k0_pay187 i))
    (k0_pay192 (k0_pay185 x2) (k0_pay186 i) (k0_pay187 i)) x3 x4 x5

/-- The output block of four chunks: head by rows, half of the query block by columns. -/
def outBlk (C : Fin 4 → Chunk F) : Vec F S128x512 .f32 := fun j =>
  (C (if (j 0).val < 64 then (if (j 1).val < 256 then 0 else 1) else (if (j 1).val < 256 then 2 else 3))).out
    (ix2 ⟨(j 0).val % 64, Nat.mod_lt _ (by decide)⟩ ⟨(j 1).val % 256, Nat.mod_lt _ (by decide)⟩)

theorem out_hit {κ : Kind} {sp : Space} (v : View sig κ sp S128x512 .f32) (f : v.ty.Contents (Elt F)) (p q : ℕ) (inb) (w : FVec F S64x256 .f32)
    (L : List (View.Piece (Elt F) S128x512 .f32)) (j0 : Fin 128) (j1 : Fin 512) (hp : j0.val = p + j0.val % 64) (hq : j1.val = q + j1.val % 256) :
    v.read (Elt F) (v.writes (Elt F) f (⟨Rect.unit (s := S128x512) ![p, q] S64x256.size inb, w⟩ :: L)) (ix2 j0 j1)
      = w (ix2 ⟨j0.val % 64, Nat.mod_lt _ (by decide)⟩ ⟨j1.val % 256, Nat.mod_lt _ (by decide)⟩) :=
  View.read_writes_cons_unit_of_mem (s := S128x512) (size := S64x256.size) v f inb w L (ix2 j0 j1)
    (ix2 ⟨j0.val % 64, Nat.mod_lt _ (by decide)⟩ ⟨j1.val % 256, Nat.mod_lt _ (by decide)⟩) rfl (by
      intro x; match x with
      | ⟨0, _⟩ => exact hp
      | ⟨1, _⟩ => exact hq)

theorem out_miss0 {κ : Kind} {sp : Space} (v : View sig κ sp S128x512 .f32) (f : v.ty.Contents (Elt F)) (p q : ℕ) (inb) (w : FVec F S64x256 .f32)
    (L : List (View.Piece (Elt F) S128x512 .f32)) (j0 : Fin 128) (j1 : Fin 512) (hp : j0.val < p ∨ p + 64 ≤ j0.val) :
    v.read (Elt F) (v.writes (Elt F) f (⟨Rect.unit (s := S128x512) ![p, q] S64x256.size inb, w⟩ :: L)) (ix2 j0 j1)
      = v.read (Elt F) (v.writes (Elt F) f L) (ix2 j0 j1) :=
  View.read_writes_cons_unit_of_not_mem (s := S128x512) (size := S64x256.size) v f inb w L (ix2 j0 j1) rfl 0 hp

theorem out_miss1 {κ : Kind} {sp : Space} (v : View sig κ sp S128x512 .f32) (f : v.ty.Contents (Elt F)) (p q : ℕ) (inb) (w : FVec F S64x256 .f32)
    (L : List (View.Piece (Elt F) S128x512 .f32)) (j0 : Fin 128) (j1 : Fin 512) (hq : j1.val < q ∨ q + 256 ≤ j1.val) :
    v.read (Elt F) (v.writes (Elt F) f (⟨Rect.unit (s := S128x512) ![p, q] S64x256.size inb, w⟩ :: L)) (ix2 j0 j1)
      = v.read (Elt F) (v.writes (Elt F) f L) (ix2 j0 j1) :=
  View.read_writes_cons_unit_of_not_mem (s := S128x512) (size := S64x256.size) v f inb w L (ix2 j0 j1) rfl 1 hq

/-- The four stores of the output block leave the four chunks' outputs. -/
theorem out_four (C : Fin 4 → Chunk F) {κ : Kind} {sp : Space} (v : View sig κ sp S128x512 .f32) (f : v.ty.Contents (Elt F))
    (w0 w1 w2 w3 : FVec F S64x256 .f32) (h0 : w0 = (C 0).out) (h1 : w1 = (C 1).out) (h2 : w2 = (C 2).out) (h3 : w3 = (C 3).out) :
    v.read (Elt F) (v.writes (Elt F) f
      [⟨Rect.unit (s := S128x512) ![64, 256] S64x256.size inb_S128x512_S64x256_64_256, w3⟩,
       ⟨Rect.unit (s := S128x512) ![64, 0] S64x256.size inb_S128x512_S64x256_64_0, w2⟩,
       ⟨Rect.unit (s := S128x512) ![0, 256] S64x256.size inb_S128x512_S64x256_0_256, w1⟩,
       ⟨Rect.unit (s := S128x512) ![0, 0] S64x256.size inb_S128x512_S64x256_0_0, w0⟩]) = outBlk C := by
  subst h0 h1 h2 h3
  funext j
  idx_vars j
  have hj0 := j0.isLt
  have hj1 := j1.isLt
  unfold outBlk
  simp only [ix2_0, ix2_1]
  by_cases a : j0.val < 64 <;> by_cases b : j1.val < 256
  · rw [out_miss0 _ _ _ _ _ _ _ _ _ (by omega), out_miss0 _ _ _ _ _ _ _ _ _ (by omega), out_miss1 _ _ _ _ _ _ _ _ _ (by omega), out_hit _ _ _ _ _ _ _ _ _ (by omega) (by omega)]
    simp [a, b]
  · rw [out_miss0 _ _ _ _ _ _ _ _ _ (by omega), out_miss0 _ _ _ _ _ _ _ _ _ (by omega), out_hit _ _ _ _ _ _ _ _ _ (by omega) (by omega)]
    simp [a, b]
  · rw [out_miss1 _ _ _ _ _ _ _ _ _ (by omega), out_hit _ _ _ _ _ _ _ _ _ (by omega) (by omega)]
    simp [a, b]
  · rw [out_hit _ _ _ _ _ _ _ _ _ (by omega) (by omega)]
    simp [a, b]

end Cert.KernelIdeal.Attn

end
-- ==== Proof.RunOdd.lean ====
/- The attention body run whole at a grid point whose query block is odd: what it stores into its output block, found by the run. -/
module

public import proofs.«01_k».proof.Proof.Gen.KernelIdeal.Loops
public import proofs.«01_k».proof.Proof.Gen.KernelIdeal.Frame
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the run's term is large
set_option maxHeartbeats 4000000 in
/-- The body at an odd query block: from the four inputs at their contents and the output and both score buffers at any, it leaves the inputs as they were and the output with the pieces `L` written. -/
noncomputable def runOdd (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
    (hc : k0_cond1 i = 1#1) (x2 : Vec F S128x512 .bf16) (x3 : Vec F S16384x128 .bf16) (x4 : Vec F S16384x128 .bf16)
    (x5 : Vec F S2x64x64x256 .bf16) (x7 x8 : Vec F S512x1024 .f32) :
    { L : List (View.Piece (Elt F) S128x512 .f32) // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
          ∗ owns (c : Thread nD τ) arg7 fullShare x7 ∗ owns (c : Thread nD τ) arg8 fullShare x8
          ∗ (iprop(owns (c : Thread nD τ) arg2 fullShare x2 ∗ owns (c : Thread nD τ) arg3 fullShare x3 ∗ owns (c : Thread nD τ) arg4 fullShare x4 ∗ owns (c : Thread nD τ) arg5 fullShare x5
              ∗ (∃ f, arg6.view.loc (c : Thread nD τ) ↦[arg6.view.set]{fullShare} arg6.view.writes (Elt F) f L)
              ∗ (∃ d, owns (c : Thread nD τ) arg7 fullShare d) ∗ (∃ d, owns (c : Thread nD τ) arg8 fullShare d)) -∗ K ⟨⟩))
        ⊢ wp frame (wpE (defs₀ (F := F)) Variants.none c none) E (cc0_attn_prompt i arg2 harg2 arg3 harg3 arg4 harg4 arg5 harg5 arg6 harg6 arg7 harg7 arg8 harg8) K } := by
  refine ⟨?_, fun E K => ?run⟩
  case run =>
    simp only [cc0_attn_prompt_eq_skeleton]; unfold cc0_attn_prompt_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _, _; isplitr; swap; · iexact H7
      ipureintro; rfl
    iexists _, _; isplitr; swap; · iexact H8
    ipureintro; rfl

end Cert.KernelIdeal.Attn

end
-- ==== Proof.RunEven.lean ====
/- The attention body run whole at a grid point whose query block is even: what it stores into its output block, found by the run. -/
module

public import proofs.«01_k».proof.Proof.Gen.KernelIdeal.Loops
public import proofs.«01_k».proof.Proof.Gen.KernelIdeal.Frame
public import proofs.«01_k».proof.Proof.RunOdd
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the run's term is large
set_option maxHeartbeats 4000000 in
/-- The body at an even query block: from the four inputs at their contents and the output and both score buffers at any, it leaves the inputs as they were and the output with the pieces `L` written. -/
noncomputable def runEven (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
    (hc : ¬ k0_cond1 i = 1#1) (x2 : Vec F S128x512 .bf16) (x3 : Vec F S16384x128 .bf16) (x4 : Vec F S16384x128 .bf16)
    (x5 : Vec F S2x64x64x256 .bf16) (x7 x8 : Vec F S512x1024 .f32) :
    { L : List (View.Piece (Elt F) S128x512 .f32) // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
          ∗ owns (c : Thread nD τ) arg7 fullShare x7 ∗ owns (c : Thread nD τ) arg8 fullShare x8
          ∗ (iprop(owns (c : Thread nD τ) arg2 fullShare x2 ∗ owns (c : Thread nD τ) arg3 fullShare x3 ∗ owns (c : Thread nD τ) arg4 fullShare x4 ∗ owns (c : Thread nD τ) arg5 fullShare x5
              ∗ (∃ f, arg6.view.loc (c : Thread nD τ) ↦[arg6.view.set]{fullShare} arg6.view.writes (Elt F) f L)
              ∗ (∃ d, owns (c : Thread nD τ) arg7 fullShare d) ∗ (∃ d, owns (c : Thread nD τ) arg8 fullShare d)) -∗ K ⟨⟩))
        ⊢ wp frame (wpE (defs₀ (F := F)) Variants.none c none) E (cc0_attn_prompt i arg2 harg2 arg3 harg3 arg4 harg4 arg5 harg5 arg6 harg6 arg7 harg7 arg8 harg8) K } := by
  refine ⟨?_, fun E K => ?run⟩
  case run =>
    simp only [cc0_attn_prompt_eq_skeleton]; unfold cc0_attn_prompt_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2; obtain rfl := harg3.eq_unread hf3; obtain rfl := harg4.eq_unread hf4
    obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _, _; isplitr; swap; · iexact H7
      ipureintro; rfl
    iexists _, _; isplitr; swap; · iexact H8
    ipureintro; rfl

end Cert.KernelIdeal.Attn

end
-- ==== Proof.EvenStart.lean ====
/- What the attention body has computed before its loop, at an even query block. -/
module

public import proofs.«01_k».proof.Proof.OutBlock
public import proofs.«01_k».proof.Proof.RunEven

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

section
variable (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
  (x2 : Vec F S128x512 .bf16) (x3 x4 : Vec F S16384x128 .bf16) (x5 : Vec F S2x64x64x256 .bf16) (x7 x8 : Vec F S512x1024 .f32)

theorem runEven_q0 : runEven.sl.r_2 c i arg2 harg2 x2 = k0_pay189 (k0_pay184 i x2) := by
  unfold runEven.sl.r_2 runEven.sl.r; rw [View.readAt_full arg2.view (s := S128x512), harg2.read_unread]
theorem runEven_q1 : runEven.sl.r_3 c i arg2 harg2 x2 = k0_pay190 (k0_pay184 i x2) := by
  unfold runEven.sl.r_3 runEven.sl.r; rw [View.readAt_full arg2.view (s := S128x512), harg2.read_unread]
theorem runEven_q2 : runEven.sl.r_4 c i arg2 harg2 x2 = k0_pay191 (k0_pay185 x2) (k0_pay186 i) (k0_pay187 i) := by
  unfold runEven.sl.r_4 runEven.sl.r_1; rw [View.readAt_full arg2.view (s := S128x512), harg2.read_unread]
theorem runEven_q3 : runEven.sl.r_5 c i arg2 harg2 x2 = k0_pay192 (k0_pay185 x2) (k0_pay186 i) (k0_pay187 i) := by
  unfold runEven.sl.r_5 runEven.sl.r_1; rw [View.readAt_full arg2.view (s := S128x512), harg2.read_unread]
theorem runEven_t0 : runEven.sl.r_6 c i arg2 harg2 arg3 harg3 arg4 harg4 x2 x3 x4 = colMax ((pointChunks i x2 x3 x4 x5 0).S 0) := by
  unfold runEven.sl.r_6 runEven.sl.r; rw [View.readAt_full arg2.view (s := S128x512), harg2.read_unread, load_blk harg3 x3 _ _ (off1_eq i), load_blk harg4 x4 _ _ (off1_eq i)]; rfl
theorem runEven_t1 : runEven.sl.r_7 c i arg2 harg2 arg3 harg3 arg4 harg4 x2 x3 x4 = colMax ((pointChunks i x2 x3 x4 x5 1).S 0) := by
  unfold runEven.sl.r_7; rw [runEven_q1, load_blk harg3 x3 _ _ (off1_eq i), load_blk harg4 x4 _ _ (off1_eq i)]; rfl
theorem runEven_t2 : runEven.sl.r_11 c i arg2 harg2 arg3 harg3 arg4 harg4 x2 x3 x4 = colMax ((pointChunks i x2 x3 x4 x5 2).S 0) := by
  unfold runEven.sl.r_11 runEven.sl.r_8; rw [runEven_q2, load_blk harg3 x3 _ _ (off1_eq i), load_blk harg4 x4 _ _ (off1_eq i)]; rfl
theorem runEven_t3 : runEven.sl.r_12 c i arg2 harg2 arg3 harg3 arg4 harg4 x2 x3 x4 = colMax ((pointChunks i x2 x3 x4 x5 3).S 0) := by
  unfold runEven.sl.r_12; rw [runEven_q3, load_blk harg3 x3 _ _ (off1_eq i), load_blk harg4 x4 _ _ (off1_eq i)]; rfl

/-- The first buffer holds the query block's own scores before the loop. -/
theorem runEven_first : Holds (pointChunks i x2 x3 x4 x5) 0 arg7.view (arg7.view.writes (Elt F) arg7.view.junk (runEven.sl.H7_4 c i arg2 harg2 arg3 harg3 arg4 harg4 x2 x3 x4)) := by
  unfold runEven.sl.H7_4 runEven.sl.r_8 runEven.sl.r
  rw [runEven_q1, runEven_q2, runEven_q3, View.readAt_full arg2.view (s := S128x512), harg2.read_unread, load_blk harg3 x3 _ _ (off1_eq i), load_blk harg4 x4 _ _ (off1_eq i)]
  exact holds_four (pointChunks i x2 x3 x4 x5) 0 arg7.view _ _ _ _ _ [] (cast_scores _) (cast_scores _) (cast_scores _) (cast_scores _)
end

end Cert.KernelIdeal.Attn

end
-- ==== Proof.EvenCarried.lean ====
/- What the attention body's loop leaves at an even query block: the carried values and the score buffer. -/
module

public import proofs.«01_k».proof.Proof.EvenStart

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

section
variable (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
  (x2 : Vec F S128x512 .bf16) (x3 x4 : Vec F S16384x128 .bf16) (x5 : Vec F S2x64x64x256 .bf16) (x7 x8 : Vec F S512x1024 .f32)

local notation "PC" => pointChunks i x2 x3 x4 x5

/-- What the loop starts from. -/
theorem runEven_init : (colMax ((PC 0).S 0), colMax ((PC 1).S 0), colMax ((PC 2).S 0), colMax ((PC 3).S 0), k0_pay209, k0_pay210, k0_pay211, k0_pay212,
    k0_pay213, k0_pay214, k0_pay215, k0_pay216) = carry PC 0 := rfl

attribute [local irreducible] Chunk.S Chunk.M Chunk.A

set_option maxHeartbeats 2000000 in
/-- What the loop leaves in the twelve carried values. -/
theorem runEven_carried : (runEven.sl.r_13 c i arg2 harg2 arg3 harg3 arg4 harg4 arg5 harg5 arg6 harg6 arg7 harg7 arg8 harg8 x2 x3 x4 x5 x8, runEven.sl.r_14 c i arg2 harg2 arg3 harg3 arg4 harg4 arg5 harg5 arg6 harg6 arg7 harg7 arg8 harg8 x2 x3 x4 x5 x8, runEven.sl.r_15 c i arg2 harg2 arg3 harg3 arg4 harg4 arg5 harg5 arg6 harg6 arg7 harg7 arg8 harg8 x2 x3 x4 x5 x8, runEven.sl.r_16 c i arg2 harg2 arg3 harg3 arg4 harg4 arg5 harg5 arg6 harg6 arg7 harg7 arg8 harg8 x2 x3 x4 x5 x8, runEven.sl.r_17 c i arg2 harg2 arg3 harg3 arg4 harg4 arg5 harg5 arg6 harg6 arg7 harg7 arg8 harg8 x2 x3 x4 x5 x8, runEven.sl.r_18 c i arg2 harg2 arg3 harg3 arg4 harg4 arg5 harg5 arg6 harg6 arg7 harg7 arg8 harg8 x2 x3 x4 x5 x8, runEven.sl.r_19 c i arg2 harg2 arg3 harg3 arg4 harg4 arg5 harg5 arg6 harg6 arg7 harg7 arg8 harg8 x2 x3 x4 x5 x8, runEven.sl.r_20 c i arg2 harg2 arg3 harg3 arg4 harg4 arg5 harg5 arg6 harg6 arg7 harg7 arg8 harg8 x2 x3 x4 x5 x8, runEven.sl.r_21 c i arg2 harg2 arg3 harg3 arg4 harg4 arg5 harg5 arg6 harg6 arg7 harg7 arg8 harg8 x2 x3 x4 x5 x8, runEven.sl.r_22 c i arg2 harg2 arg3 harg3 arg4 harg4 arg5 harg5 arg6 harg6 arg7 harg7 arg8 harg8 x2 x3 x4 x5 x8, runEven.sl.r_23 c i arg2 harg2 arg3 harg3 arg4 harg4 arg5 harg5 arg6 harg6 arg7 harg7 arg8 harg8 x2 x3 x4 x5 x8, runEven.sl.r_24 c i arg2 harg2 arg3 harg3 arg4 harg4 arg5 harg5 arg6 harg6 arg7 harg7 arg8 harg8 x2 x3 x4 x5 x8) = carry PC (2 * ((i 1).val / 2)) := by
  have hT := st_value (c := c) (i := i) (harg2 := harg2) (harg3 := harg3) (harg4 := harg4) (harg5 := harg5) (harg6 := harg6) (harg7 := harg7) (harg8 := harg8)
    (arg1 := BitVec.ofNat 32 (i 1).val) (v48 := k0_pay189 (k0_pay184 i x2)) (v49 := k0_pay190 (k0_pay184 i x2)) (v50 := k0_pay191 (k0_pay185 x2) (k0_pay186 i) (k0_pay187 i))
    (v51 := k0_pay192 (k0_pay185 x2) (k0_pay186 i) (k0_pay187 i)) (v84 := colMax ((pointChunks i x2 x3 x4 x5 0).S 0)) (v110 := colMax ((pointChunks i x2 x3 x4 x5 1).S 0))
    (v136 := colMax ((pointChunks i x2 x3 x4 x5 2).S 0)) (v162 := colMax ((pointChunks i x2 x3 x4 x5 3).S 0)) (v163 := k0_pay209) (v164 := k0_pay210) (v165 := k0_pay211) (v166 := k0_pay212)
    (v167 := k0_pay213) (x3 := x3) (x4 := x4) (x5 := x5) (G7 := _) (G8 := harg8.unread x8) (h0 := runEven_first c i arg2 harg2 arg3 harg3 arg4 harg4 arg7 x2 x3 x4 x5) ((i 1).val / 2) (trips1 i).ge
  obtain ⟨hT, -⟩ := hT
  unfold runEven.sl.r_13 runEven.sl.r_14 runEven.sl.r_15 runEven.sl.r_16 runEven.sl.r_17 runEven.sl.r_18 runEven.sl.r_19 runEven.sl.r_20 runEven.sl.r_21 runEven.sl.r_22 runEven.sl.r_23 runEven.sl.r_24
  rw [show Scf.trips (k0_t2_loop i).lb (k0_t2_loop i).ub (k0_t2_loop i).st = 0 from trips2 i,
    show Scf.trips (k0_t1_loop i).lb (k0_t1_loop i).ub (k0_t1_loop i).st = (i 1).val / 2 from trips1 i]
  simp only [st_k0_t2_zero]
  rw [runEven_q0, runEven_q1, runEven_q2, runEven_q3, runEven_t0 (x5 := x5), runEven_t1 (x5 := x5), runEven_t2 (x5 := x5), runEven_t3 (x5 := x5), runEven_init]
  exact hT

set_option maxHeartbeats 2000000 in
/-- … and in the first buffer: the scores of the block still to be consumed. -/
theorem runEven_held : runEven.sl.v236 c i arg2 harg2 arg3 harg3 arg4 harg4 arg5 harg5 arg6 harg6 arg7 harg7 arg8 harg8 x2 x3 x4 x5 x8 = (PC 0).S (2 * ((i 1).val / 2)) ∧ runEven.sl.v260 c i arg2 harg2 arg3 harg3 arg4 harg4 arg5 harg5 arg6 harg6 arg7 harg7 arg8 harg8 x2 x3 x4 x5 x8 = (PC 1).S (2 * ((i 1).val / 2)) ∧ runEven.sl.v284 c i arg2 harg2 arg3 harg3 arg4 harg4 arg5 harg5 arg6 harg6 arg7 harg7 arg8 harg8 x2 x3 x4 x5 x8 = (PC 2).S (2 * ((i 1).val / 2)) ∧ runEven.sl.v308 c i arg2 harg2 arg3 harg3 arg4 harg4 arg5 harg5 arg6 harg6 arg7 harg7 arg8 harg8 x2 x3 x4 x5 x8 = (PC 3).S (2 * ((i 1).val / 2)) := by
  have hT := st_value (c := c) (i := i) (harg2 := harg2) (harg3 := harg3) (harg4 := harg4) (harg5 := harg5) (harg6 := harg6) (harg7 := harg7) (harg8 := harg8)
    (arg1 := BitVec.ofNat 32 (i 1).val) (v48 := k0_pay189 (k0_pay184 i x2)) (v49 := k0_pay190 (k0_pay184 i x2)) (v50 := k0_pay191 (k0_pay185 x2) (k0_pay186 i) (k0_pay187 i))
    (v51 := k0_pay192 (k0_pay185 x2) (k0_pay186 i) (k0_pay187 i)) (v84 := colMax ((pointChunks i x2 x3 x4 x5 0).S 0)) (v110 := colMax ((pointChunks i x2 x3 x4 x5 1).S 0))
    (v136 := colMax ((pointChunks i x2 x3 x4 x5 2).S 0)) (v162 := colMax ((pointChunks i x2 x3 x4 x5 3).S 0)) (v163 := k0_pay209) (v164 := k0_pay210) (v165 := k0_pay211) (v166 := k0_pay212)
    (v167 := k0_pay213) (x3 := x3) (x4 := x4) (x5 := x5) (G7 := _) (G8 := harg8.unread x8) (h0 := runEven_first c i arg2 harg2 arg3 harg3 arg4 harg4 arg7 x2 x3 x4 x5) ((i 1).val / 2) (trips1 i).ge
  obtain ⟨-, hT⟩ := hT
  unfold runEven.sl.v236 runEven.sl.v260 runEven.sl.v284 runEven.sl.v308
  rw [show Scf.trips (k0_t2_loop i).lb (k0_t2_loop i).ub (k0_t2_loop i).st = 0 from trips2 i,
    show Scf.trips (k0_t1_loop i).lb (k0_t1_loop i).ub (k0_t1_loop i).st = (i 1).val / 2 from trips1 i]
  have hz : ∀ (L : List (View.Piece (Elt F) S512x1024 .f32)), [] ++ L = L := fun _ => rfl
  unfold st_k0_t2
  dsimp only
  simp only [hz]
  unfold View.readCov
  rw [View.writes_append]
  rw [runEven_q0, runEven_q1, runEven_q2, runEven_q3, runEven_t0 (x5 := x5), runEven_t1 (x5 := x5), runEven_t2 (x5 := x5), runEven_t3 (x5 := x5), runEven_init]
  exact hT
end

end Cert.KernelIdeal.Attn

end
-- ==== Proof.EvenValue.lean ====
/- What the attention body stores into its output block at an even query block. -/
module

public import proofs.«01_k».proof.Proof.EvenCarried

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

attribute [local irreducible] Chunk.S Chunk.M Chunk.A

section
variable (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
  (hc : ¬ k0_cond1 i = 1#1) (x2 : Vec F S128x512 .bf16) (x3 x4 : Vec F S16384x128 .bf16) (x5 : Vec F S2x64x64x256 .bf16) (x7 x8 : Vec F S512x1024 .f32)

set_option maxHeartbeats 2000000 in
/-- What the body stores at an even query block: the four chunks' softmax-weighted values, whatever the score buffers held. -/
theorem runEven_value (f : arg6.view.ty.Contents (Elt F)) :
    arg6.view.read (Elt F) (arg6.view.writes (Elt F) f (runEven c i arg2 harg2 arg3 harg3 arg4 harg4 arg5 harg5 arg6 harg6 arg7 harg7 arg8 harg8 hc x2 x3 x4 x5 x7 x8).1) = outBlk (pointChunks i x2 x3 x4 x5) := by
  have hi : 2 * ((i 1).val / 2) = (i 1).val := by
    have h : ¬ (i 1).val % 2 = 1 := fun h => hc ((cond_iff i).2 h)
    omega
  have hi' : (i 1).val / 2 * 2 = (i 1).val := by omega
  have hcar := runEven_carried c i arg2 harg2 arg3 harg3 arg4 harg4 arg5 harg5 arg6 harg6 arg7 harg7 arg8 harg8 x2 x3 x4 x5 x8
  have hbuf := runEven_held c i arg2 harg2 arg3 harg3 arg4 harg4 arg5 harg5 arg6 harg6 arg7 harg7 arg8 harg8 x2 x3 x4 x5 x8
  rw [hi] at hcar hbuf
  simp only [carry, Prod.mk.injEq] at hcar
  obtain ⟨c0, c1, c2, c3, c4, c5, c6, c7, c8, c9, c10, c11⟩ := hcar
  obtain ⟨b0, b1, b2, b3⟩ := hbuf
  unfold runEven
  dsimp only
  refine out_four _ _ _ _ _ _ _ ?_ ?_ ?_ ?_
  · show _ = k0_pay3 ((pointChunks i x2 x3 x4 x5 0).A ((i 1).val + 1))
    rw [Chunk.A_succ]
    unfold runEven.sl.r_25
    rw [b0, c0, c4, c8, load_vblk harg5 x5 0 _ _ (off19_eq0 i hc), load_vblk harg5 x5 0 _ _ (off19_eq1 i hc), hi']
    rfl
  · show _ = k0_pay3 ((pointChunks i x2 x3 x4 x5 1).A ((i 1).val + 1))
    rw [Chunk.A_succ]
    unfold runEven.sl.r_29 runEven.sl.r_28 runEven.sl.r_27 runEven.sl.r_26
    rw [b1, c1, c5, c9, load_vblk harg5 x5 0 _ _ (off19_eq0 i hc), load_vblk harg5 x5 0 _ _ (off19_eq1 i hc), hi']
    rfl
  · show _ = k0_pay3 ((pointChunks i x2 x3 x4 x5 2).A ((i 1).val + 1))
    rw [Chunk.A_succ]
    unfold runEven.sl.r_30
    rw [b2, c2, c6, c10, load_vblk harg5 x5 1 _ _ (off20_eq0 i hc), load_vblk harg5 x5 1 _ _ (off20_eq1 i hc), hi']
    rfl
  · show _ = k0_pay3 ((pointChunks i x2 x3 x4 x5 3).A ((i 1).val + 1))
    rw [Chunk.A_succ]
    unfold runEven.sl.r_32 runEven.sl.r_31
    rw [b3, c3, c7, c11, load_vblk harg5 x5 1 _ _ (off20_eq0 i hc), load_vblk harg5 x5 1 _ _ (off20_eq1 i hc), hi']
    rfl
end

end Cert.KernelIdeal.Attn

end
-- ==== Proof.OddStart.lean ====
/- What the attention body has computed before its loop, at an odd query block. -/
module

public import proofs.«01_k».proof.Proof.OutBlock
public import proofs.«01_k».proof.Proof.RunOdd

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

section
variable (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
  (x2 : Vec F S128x512 .bf16) (x3 x4 : Vec F S16384x128 .bf16) (x5 : Vec F S2x64x64x256 .bf16) (x7 x8 : Vec F S512x1024 .f32)

theorem runOdd_q0 : runOdd.sl.r_2 c i arg2 harg2 x2 = k0_pay189 (k0_pay184 i x2) := by
  unfold runOdd.sl.r_2 runOdd.sl.r; rw [View.readAt_full arg2.view (s := S128x512), harg2.read_unread]
theorem runOdd_q1 : runOdd.sl.r_3 c i arg2 harg2 x2 = k0_pay190 (k0_pay184 i x2) := by
  unfold runOdd.sl.r_3 runOdd.sl.r; rw [View.readAt_full arg2.view (s := S128x512), harg2.read_unread]
theorem runOdd_q2 : runOdd.sl.r_4 c i arg2 harg2 x2 = k0_pay191 (k0_pay185 x2) (k0_pay186 i) (k0_pay187 i) := by
  unfold runOdd.sl.r_4 runOdd.sl.r_1; rw [View.readAt_full arg2.view (s := S128x512), harg2.read_unread]
theorem runOdd_q3 : runOdd.sl.r_5 c i arg2 harg2 x2 = k0_pay192 (k0_pay185 x2) (k0_pay186 i) (k0_pay187 i) := by
  unfold runOdd.sl.r_5 runOdd.sl.r_1; rw [View.readAt_full arg2.view (s := S128x512), harg2.read_unread]
theorem runOdd_t0 : runOdd.sl.r_6 c i arg2 harg2 arg3 harg3 arg4 harg4 x2 x3 x4 = colMax ((pointChunks i x2 x3 x4 x5 0).S 0) := by
  unfold runOdd.sl.r_6 runOdd.sl.r; rw [View.readAt_full arg2.view (s := S128x512), harg2.read_unread, load_blk harg3 x3 _ _ (off1_eq i), load_blk harg4 x4 _ _ (off1_eq i)]; rfl
theorem runOdd_t1 : runOdd.sl.r_7 c i arg2 harg2 arg3 harg3 arg4 harg4 x2 x3 x4 = colMax ((pointChunks i x2 x3 x4 x5 1).S 0) := by
  unfold runOdd.sl.r_7; rw [runOdd_q1, load_blk harg3 x3 _ _ (off1_eq i), load_blk harg4 x4 _ _ (off1_eq i)]; rfl
theorem runOdd_t2 : runOdd.sl.r_11 c i arg2 harg2 arg3 harg3 arg4 harg4 x2 x3 x4 = colMax ((pointChunks i x2 x3 x4 x5 2).S 0) := by
  unfold runOdd.sl.r_11 runOdd.sl.r_8; rw [runOdd_q2, load_blk harg3 x3 _ _ (off1_eq i), load_blk harg4 x4 _ _ (off1_eq i)]; rfl
theorem runOdd_t3 : runOdd.sl.r_12 c i arg2 harg2 arg3 harg3 arg4 harg4 x2 x3 x4 = colMax ((pointChunks i x2 x3 x4 x5 3).S 0) := by
  unfold runOdd.sl.r_12; rw [runOdd_q3, load_blk harg3 x3 _ _ (off1_eq i), load_blk harg4 x4 _ _ (off1_eq i)]; rfl

/-- The first buffer holds the query block's own scores before the loop. -/
theorem runOdd_first : Holds (pointChunks i x2 x3 x4 x5) 0 arg7.view (arg7.view.writes (Elt F) arg7.view.junk (runOdd.sl.H7_4 c i arg2 harg2 arg3 harg3 arg4 harg4 x2 x3 x4)) := by
  unfold runOdd.sl.H7_4 runOdd.sl.r_8 runOdd.sl.r
  rw [runOdd_q1, runOdd_q2, runOdd_q3, View.readAt_full arg2.view (s := S128x512), harg2.read_unread, load_blk harg3 x3 _ _ (off1_eq i), load_blk harg4 x4 _ _ (off1_eq i)]
  exact holds_four (pointChunks i x2 x3 x4 x5) 0 arg7.view _ _ _ _ _ [] (cast_scores _) (cast_scores _) (cast_scores _) (cast_scores _)
end

end Cert.KernelIdeal.Attn

end
-- ==== Proof.OddCarried.lean ====
/- What the attention body's loop leaves at an odd query block: the carried values and the score buffer. -/
module

public import proofs.«01_k».proof.Proof.OddStart

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

section
variable (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
  (x2 : Vec F S128x512 .bf16) (x3 x4 : Vec F S16384x128 .bf16) (x5 : Vec F S2x64x64x256 .bf16) (x7 x8 : Vec F S512x1024 .f32)

local notation "PC" => pointChunks i x2 x3 x4 x5

/-- What the loop starts from. -/
theorem runOdd_init : (colMax ((PC 0).S 0), colMax ((PC 1).S 0), colMax ((PC 2).S 0), colMax ((PC 3).S 0), k0_pay209, k0_pay210, k0_pay211, k0_pay212,
    k0_pay213, k0_pay214, k0_pay215, k0_pay216) = carry PC 0 := rfl

attribute [local irreducible] Chunk.S Chunk.M Chunk.A

set_option maxHeartbeats 2000000 in
/-- What the loop leaves in the twelve carried values. -/
theorem runOdd_carried : (runOdd.sl.r_13 c i arg2 harg2 arg3 harg3 arg4 harg4 arg5 harg5 arg6 harg6 arg7 harg7 arg8 harg8 x2 x3 x4 x5 x8, runOdd.sl.r_14 c i arg2 harg2 arg3 harg3 arg4 harg4 arg5 harg5 arg6 harg6 arg7 harg7 arg8 harg8 x2 x3 x4 x5 x8, runOdd.sl.r_15 c i arg2 harg2 arg3 harg3 arg4 harg4 arg5 harg5 arg6 harg6 arg7 harg7 arg8 harg8 x2 x3 x4 x5 x8, runOdd.sl.r_16 c i arg2 harg2 arg3 harg3 arg4 harg4 arg5 harg5 arg6 harg6 arg7 harg7 arg8 harg8 x2 x3 x4 x5 x8, runOdd.sl.r_17 c i arg2 harg2 arg3 harg3 arg4 harg4 arg5 harg5 arg6 harg6 arg7 harg7 arg8 harg8 x2 x3 x4 x5 x8, runOdd.sl.r_18 c i arg2 harg2 arg3 harg3 arg4 harg4 arg5 harg5 arg6 harg6 arg7 harg7 arg8 harg8 x2 x3 x4 x5 x8, runOdd.sl.r_19 c i arg2 harg2 arg3 harg3 arg4 harg4 arg5 harg5 arg6 harg6 arg7 harg7 arg8 harg8 x2 x3 x4 x5 x8, runOdd.sl.r_20 c i arg2 harg2 arg3 harg3 arg4 harg4 arg5 harg5 arg6 harg6 arg7 harg7 arg8 harg8 x2 x3 x4 x5 x8, runOdd.sl.r_21 c i arg2 harg2 arg3 harg3 arg4 harg4 arg5 harg5 arg6 harg6 arg7 harg7 arg8 harg8 x2 x3 x4 x5 x8, runOdd.sl.r_22 c i arg2 harg2 arg3 harg3 arg4 harg4 arg5 harg5 arg6 harg6 arg7 harg7 arg8 harg8 x2 x3 x4 x5 x8, runOdd.sl.r_23 c i arg2 harg2 arg3 harg3 arg4 harg4 arg5 harg5 arg6 harg6 arg7 harg7 arg8 harg8 x2 x3 x4 x5 x8, runOdd.sl.r_24 c i arg2 harg2 arg3 harg3 arg4 harg4 arg5 harg5 arg6 harg6 arg7 harg7 arg8 harg8 x2 x3 x4 x5 x8) = carry PC (2 * ((i 1).val / 2)) := by
  have hT := st_value (c := c) (i := i) (harg2 := harg2) (harg3 := harg3) (harg4 := harg4) (harg5 := harg5) (harg6 := harg6) (harg7 := harg7) (harg8 := harg8)
    (arg1 := BitVec.ofNat 32 (i 1).val) (v48 := k0_pay189 (k0_pay184 i x2)) (v49 := k0_pay190 (k0_pay184 i x2)) (v50 := k0_pay191 (k0_pay185 x2) (k0_pay186 i) (k0_pay187 i))
    (v51 := k0_pay192 (k0_pay185 x2) (k0_pay186 i) (k0_pay187 i)) (v84 := colMax ((pointChunks i x2 x3 x4 x5 0).S 0)) (v110 := colMax ((pointChunks i x2 x3 x4 x5 1).S 0))
    (v136 := colMax ((pointChunks i x2 x3 x4 x5 2).S 0)) (v162 := colMax ((pointChunks i x2 x3 x4 x5 3).S 0)) (v163 := k0_pay209) (v164 := k0_pay210) (v165 := k0_pay211) (v166 := k0_pay212)
    (v167 := k0_pay213) (x3 := x3) (x4 := x4) (x5 := x5) (G7 := _) (G8 := harg8.unread x8) (h0 := runOdd_first c i arg2 harg2 arg3 harg3 arg4 harg4 arg7 x2 x3 x4 x5) ((i 1).val / 2) (trips1 i).ge
  obtain ⟨hT, -⟩ := hT
  unfold runOdd.sl.r_13 runOdd.sl.r_14 runOdd.sl.r_15 runOdd.sl.r_16 runOdd.sl.r_17 runOdd.sl.r_18 runOdd.sl.r_19 runOdd.sl.r_20 runOdd.sl.r_21 runOdd.sl.r_22 runOdd.sl.r_23 runOdd.sl.r_24
  rw [show Scf.trips (k0_t2_loop i).lb (k0_t2_loop i).ub (k0_t2_loop i).st = 0 from trips2 i,
    show Scf.trips (k0_t1_loop i).lb (k0_t1_loop i).ub (k0_t1_loop i).st = (i 1).val / 2 from trips1 i]
  simp only [st_k0_t2_zero]
  rw [runOdd_q0, runOdd_q1, runOdd_q2, runOdd_q3, runOdd_t0 (x5 := x5), runOdd_t1 (x5 := x5), runOdd_t2 (x5 := x5), runOdd_t3 (x5 := x5), runOdd_init]
  exact hT

set_option maxHeartbeats 2000000 in
/-- … and in the first buffer: the scores of the block still to be consumed. -/
theorem runOdd_held : runOdd.sl.v252 c i arg2 harg2 arg3 harg3 arg4 harg4 arg5 harg5 arg6 harg6 arg7 harg7 arg8 harg8 x2 x3 x4 x5 x8 = (PC 0).S (2 * ((i 1).val / 2)) ∧ runOdd.sl.v291 c i arg2 harg2 arg3 harg3 arg4 harg4 arg5 harg5 arg6 harg6 arg7 harg7 arg8 harg8 x2 x3 x4 x5 x8 = (PC 1).S (2 * ((i 1).val / 2)) ∧ runOdd.sl.v330 c i arg2 harg2 arg3 harg3 arg4 harg4 arg5 harg5 arg6 harg6 arg7 harg7 arg8 harg8 x2 x3 x4 x5 x8 = (PC 2).S (2 * ((i 1).val / 2)) ∧ runOdd.sl.v369 c i arg2 harg2 arg3 harg3 arg4 harg4 arg5 harg5 arg6 harg6 arg7 harg7 arg8 harg8 x2 x3 x4 x5 x8 = (PC 3).S (2 * ((i 1).val / 2)) := by
  have hT := st_value (c := c) (i := i) (harg2 := harg2) (harg3 := harg3) (harg4 := harg4) (harg5 := harg5) (harg6 := harg6) (harg7 := harg7) (harg8 := harg8)
    (arg1 := BitVec.ofNat 32 (i 1).val) (v48 := k0_pay189 (k0_pay184 i x2)) (v49 := k0_pay190 (k0_pay184 i x2)) (v50 := k0_pay191 (k0_pay185 x2) (k0_pay186 i) (k0_pay187 i))
    (v51 := k0_pay192 (k0_pay185 x2) (k0_pay186 i) (k0_pay187 i)) (v84 := colMax ((pointChunks i x2 x3 x4 x5 0).S 0)) (v110 := colMax ((pointChunks i x2 x3 x4 x5 1).S 0))
    (v136 := colMax ((pointChunks i x2 x3 x4 x5 2).S 0)) (v162 := colMax ((pointChunks i x2 x3 x4 x5 3).S 0)) (v163 := k0_pay209) (v164 := k0_pay210) (v165 := k0_pay211) (v166 := k0_pay212)
    (v167 := k0_pay213) (x3 := x3) (x4 := x4) (x5 := x5) (G7 := _) (G8 := harg8.unread x8) (h0 := runOdd_first c i arg2 harg2 arg3 harg3 arg4 harg4 arg7 x2 x3 x4 x5) ((i 1).val / 2) (trips1 i).ge
  obtain ⟨-, hT⟩ := hT
  unfold runOdd.sl.v252 runOdd.sl.v291 runOdd.sl.v330 runOdd.sl.v369
  rw [show Scf.trips (k0_t2_loop i).lb (k0_t2_loop i).ub (k0_t2_loop i).st = 0 from trips2 i,
    show Scf.trips (k0_t1_loop i).lb (k0_t1_loop i).ub (k0_t1_loop i).st = (i 1).val / 2 from trips1 i]
  have hz : ∀ (L : List (View.Piece (Elt F) S512x1024 .f32)), [] ++ L = L := fun _ => rfl
  unfold st_k0_t2
  dsimp only
  simp only [hz]
  unfold View.readCov
  rw [View.writes_append]
  rw [runOdd_q0, runOdd_q1, runOdd_q2, runOdd_q3, runOdd_t0 (x5 := x5), runOdd_t1 (x5 := x5), runOdd_t2 (x5 := x5), runOdd_t3 (x5 := x5), runOdd_init]
  exact hT
end

end Cert.KernelIdeal.Attn

end
-- ==== Proof.OddValue.lean ====
/- What the attention body stores into its output block at an odd query block. -/
module

public import proofs.«01_k».proof.Proof.OddCarried

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

section
variable (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
  (hc : k0_cond1 i = 1#1) (x2 : Vec F S128x512 .bf16) (x3 x4 : Vec F S16384x128 .bf16) (x5 : Vec F S2x64x64x256 .bf16) (x7 x8 : Vec F S512x1024 .f32)

set_option maxHeartbeats 2000000 in
/-- After the loop the conditional's first branch fills the second buffer with the scores of the last block before the query's own. -/
theorem runOdd_second : Holds (pointChunks i x2 x3 x4 x5) ((i 1).val / 2 * 2 + 1) arg8.view (arg8.view.writes (Elt F) arg8.view.junk (runOdd.sl.H8_4 c i arg2 harg2 arg3 harg3 arg4 harg4 arg5 harg5 arg6 harg6 arg7 harg7 arg8 harg8 hc x2 x3 x4 x5 x8)) := by
  unfold runOdd.sl.H8_4
  rw [runOdd_q0, runOdd_q1, runOdd_q2, runOdd_q3, load_blk harg3 x3 _ _ (off14_eq i hc), load_blk harg4 x4 _ _ (off14_eq i hc)]
  exact holds_four (pointChunks i x2 x3 x4 x5) ((i 1).val / 2 * 2 + 1) arg8.view _ _ _ _ _ _ (cast_scores _) (cast_scores _) (cast_scores _) (cast_scores _)

attribute [local irreducible] Chunk.S Chunk.M Chunk.A

set_option maxHeartbeats 2000000 in
/-- What the body stores at an odd query block: the four chunks' softmax-weighted values, whatever the score buffers held. -/
theorem runOdd_value (f : arg6.view.ty.Contents (Elt F)) :
    arg6.view.read (Elt F) (arg6.view.writes (Elt F) f (runOdd c i arg2 harg2 arg3 harg3 arg4 harg4 arg5 harg5 arg6 harg6 arg7 harg7 arg8 harg8 hc x2 x3 x4 x5 x7 x8).1) = outBlk (pointChunks i x2 x3 x4 x5) := by
  have hi : (i 1).val + 1 = (i 1).val / 2 * 2 + 1 + 1 := by
    have h : (i 1).val % 2 = 1 := (cond_iff i).1 hc
    omega
  have hcar := runOdd_carried c i arg2 harg2 arg3 harg3 arg4 harg4 arg5 harg5 arg6 harg6 arg7 harg7 arg8 harg8 x2 x3 x4 x5 x8
  have hbuf := runOdd_held c i arg2 harg2 arg3 harg3 arg4 harg4 arg5 harg5 arg6 harg6 arg7 harg7 arg8 harg8 x2 x3 x4 x5 x8
  have h8 := runOdd_second c i arg2 harg2 arg3 harg3 arg4 harg4 arg5 harg5 arg6 harg6 arg7 harg7 arg8 harg8 hc x2 x3 x4 x5 x8
  rw [Nat.mul_comm 2 ((i 1).val / 2)] at hcar hbuf
  simp only [carry, Prod.mk.injEq] at hcar
  obtain ⟨c0, c1, c2, c3, c4, c5, c6, c7, c8, c9, c10, c11⟩ := hcar
  obtain ⟨b0, b1, b2, b3⟩ := hbuf
  obtain ⟨g0, g1, g2, g3⟩ := h8
  unfold runOdd
  dsimp only
  refine out_four _ _ _ _ _ _ _ ?_ ?_ ?_ ?_
  · show _ = k0_pay3 ((pointChunks i x2 x3 x4 x5 0).A ((i 1).val + 1))
    rw [hi, Chunk.A_succ, Chunk.A_succ, Chunk.M_succ]
    unfold runOdd.sl.r_49 runOdd.sl.r_30 runOdd.sl.r_25 runOdd.sl.r_26 runOdd.sl.r_29 runOdd.sl.r_28 runOdd.sl.r_27 runOdd.sl.v394 View.readCov
    rw [g0, b0, c0, c4, c8, runOdd_q0, load_blk harg3 x3 _ _ (off14_eq i hc), load_blk harg4 x4 _ _ (off14_eq i hc),
      load_vblk harg5 x5 0 _ _ (off15_eq0 i hc), load_vblk harg5 x5 0 _ _ (off15_eq1 i hc),
      load_vblk harg5 x5 0 _ _ (off17_eq0 i hc), load_vblk harg5 x5 0 _ _ (off17_eq1 i hc), Chunk.S_succ]
    rfl
  · show _ = k0_pay3 ((pointChunks i x2 x3 x4 x5 1).A ((i 1).val + 1))
    rw [hi, Chunk.A_succ, Chunk.A_succ, Chunk.M_succ]
    unfold runOdd.sl.r_53 runOdd.sl.r_52 runOdd.sl.r_51 runOdd.sl.r_50 runOdd.sl.r_36 runOdd.sl.r_31 runOdd.sl.r_32 runOdd.sl.r_35 runOdd.sl.r_34 runOdd.sl.r_33 runOdd.sl.v418 View.readCov
    rw [g1, b1, c1, c5, c9, runOdd_q1, load_blk harg3 x3 _ _ (off14_eq i hc), load_blk harg4 x4 _ _ (off14_eq i hc),
      load_vblk harg5 x5 0 _ _ (off15_eq0 i hc), load_vblk harg5 x5 0 _ _ (off15_eq1 i hc),
      load_vblk harg5 x5 0 _ _ (off17_eq0 i hc), load_vblk harg5 x5 0 _ _ (off17_eq1 i hc), Chunk.S_succ]
    rfl
  · show _ = k0_pay3 ((pointChunks i x2 x3 x4 x5 2).A ((i 1).val + 1))
    rw [hi, Chunk.A_succ, Chunk.A_succ, Chunk.M_succ]
    unfold runOdd.sl.r_54 runOdd.sl.r_42 runOdd.sl.r_37 runOdd.sl.r_38 runOdd.sl.r_41 runOdd.sl.r_40 runOdd.sl.r_39 runOdd.sl.v442 View.readCov
    rw [g2, b2, c2, c6, c10, runOdd_q2, load_blk harg3 x3 _ _ (off14_eq i hc), load_blk harg4 x4 _ _ (off14_eq i hc),
      load_vblk harg5 x5 1 _ _ (off16_eq0 i hc), load_vblk harg5 x5 1 _ _ (off16_eq1 i hc),
      load_vblk harg5 x5 1 _ _ (off18_eq0 i hc), load_vblk harg5 x5 1 _ _ (off18_eq1 i hc), Chunk.S_succ]
    rfl
  · show _ = k0_pay3 ((pointChunks i x2 x3 x4 x5 3).A ((i 1).val + 1))
    rw [hi, Chunk.A_succ, Chunk.A_succ, Chunk.M_succ]
    unfold runOdd.sl.r_56 runOdd.sl.r_55 runOdd.sl.r_48 runOdd.sl.r_43 runOdd.sl.r_44 runOdd.sl.r_47 runOdd.sl.r_46 runOdd.sl.r_45 runOdd.sl.v466 View.readCov
    rw [g3, b3, c3, c7, c11, runOdd_q3, load_blk harg3 x3 _ _ (off14_eq i hc), load_blk harg4 x4 _ _ (off14_eq i hc),
      load_vblk harg5 x5 1 _ _ (off16_eq0 i hc), load_vblk harg5 x5 1 _ _ (off16_eq1 i hc),
      load_vblk harg5 x5 1 _ _ (off18_eq0 i hc), load_vblk harg5 x5 1 _ _ (off18_eq1 i hc), Chunk.S_succ]
    rfl
end

end Cert.KernelIdeal.Attn

end
-- ==== Proof.Run.lean ====
/- The attention program runs: at every grid point the body leaves the output block `outBlk` names, so every execution ends, the
   arguments are unchanged, every counter is at zero, and the result array's blocks are known. Stated at any float instance. -/
module

public import proofs.«01_k».proof.Proof.EvenValue
public import proofs.«01_k».proof.Proof.OddValue
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at any grid point: the inputs are left as they were, the output block holds `outBlk` of the point's chunks, and
    the two score buffers hold something. -/
theorem body_triple (c : Dev nD) (i : grid0.Coords) (arg2 : Memref sig .tc .vmem S128x512 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S2x64x64x256 .bf16) (harg5 : arg5.IsWhole) (arg6 : Memref sig .tc .vmem S128x512 .f32) (harg6 : arg6.IsWhole) (arg7 : Memref sig .tc .vmem S512x1024 .f32) (harg7 : arg7.IsWhole) (arg8 : Memref sig .tc .vmem S512x1024 .f32) (harg8 : arg8.IsWhole)
    (x2 : Vec F S128x512 .bf16) (x3 x4 : Vec F S16384x128 .bf16) (x5 : Vec F S2x64x64x256 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outBlk (pointChunks i x2 x3 x4 x5))
            ∗ (∃ d, owns (c : Thread nD τ) arg7 fullShare d) ∗ (∃ d, owns (c : Thread nD τ) arg8 fullShare d)) -∗ K ⟨⟩))
      ⊢ wp frame (wpE (defs₀ (F := F)) Variants.none c none) E (cc0_attn_prompt i arg2 harg2 arg3 harg3 arg4 harg4 arg5 harg5 arg6 harg6 arg7 harg7 arg8 harg8) K := by
  iintro ⟨H2, H3, H4, H5, H6, ⟨%x7, H7⟩, ⟨%x8, H8⟩, Hk⟩
  by_cases hc : k0_cond1 i = 1#1
  · iapply ((runOdd c i arg2 harg2 arg3 harg3 arg4 harg4 arg5 harg5 arg6 harg6 arg7 harg7 arg8 harg8 hc x2 x3 x4 x5 x7 x8).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, ⟨%f, H6⟩, H7, H8⟩
    iapply Hk
    isplitl [H2]; · iexact H2
    isplitl [H3]; · iexact H3
    isplitl [H4]; · iexact H4
    isplitl [H5]; · iexact H5
    isplitl [H6]
    · unfold owns; iexists _; isplitr
      swap; · iexact H6
      ipureintro; exact runOdd_value c i arg2 harg2 arg3 harg3 arg4 harg4 arg5 harg5 arg6 harg6 arg7 harg7 arg8 harg8 hc x2 x3 x4 x5 x7 x8 f
    isplitl [H7]; · iexact H7
    iexact H8
  · iapply ((runEven c i arg2 harg2 arg3 harg3 arg4 harg4 arg5 harg5 arg6 harg6 arg7 harg7 arg8 harg8 hc x2 x3 x4 x5 x7 x8).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, ⟨%f, H6⟩, H7, H8⟩
    iapply Hk
    isplitl [H2]; · iexact H2
    isplitl [H3]; · iexact H3
    isplitl [H4]; · iexact H4
    isplitl [H5]; · iexact H5
    isplitl [H6]
    · unfold owns; iexists _; isplitr
      swap; · iexact H6
      ipureintro; exact runEven_value c i arg2 harg2 arg3 harg3 arg4 harg4 arg5 harg5 arg6 harg6 arg7 harg7 arg8 harg8 hc x2 x3 x4 x5 x7 x8 f
    isplitl [H7]; · iexact H7
    iexact H8

/-! ## The pipeline's proof data -/

abbrev sc0 : Memref sig .tc .vmem S512x1024 .f32 := Memref.whole cc0_scratch0
abbrev sc1 : Memref sig .tc .vmem S512x1024 .f32 := Memref.whole cc0_scratch1

variable (m : (ℓ : Loc nD τ sig) → Buf (Elt F) ℓ) (ρ : Dev nD → PrngReg)

/-- What the body leaves in the output's staging buffer at point `t`. -/
def outAt (c : Dev nD) (t : Fin cfg0.N) : Vec F S128x512 .f32 :=
  outBlk (pointChunks (grid0.coords t) (iblk m c 0 t) (iblk m c 1 t) (iblk m c 2 t) (iblk m c 3 t))

/-- The arrays as the region finds them; after the body each input's buffer at its block and the output's at `outAt`; the score
    buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- What is held between points: both score buffers at anything, and the generator's register. -/
theorem between_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point meets what the pipeline asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl, show (dats m 0 c).owesAt () t.succ = (dats m 0 c).owesAt () t.castSucc from rfl,
    after0_0, after0_1, after0_2, after0_3, after0_4]
  rw [show (dats m 0 c).Φ t.castSucc = Pipeline.ΦA spec0 c from rfl, between_eq]
  unfold outAt
  iintro ⟨⟨⟨HS0, HS1⟩, Hg⟩, Ho, ⟨%d0, H0⟩, ⟨%d1, H1⟩, ⟨%d2, H2⟩, ⟨%d3, H3⟩, ⟨%d4, H4⟩⟩
  iapply (body_triple c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

-- the launch theorem's implicit arguments are found by unifying its conclusion with this one
set_option backward.isDefEq.respectTransparency.types false in
/-- Every execution ends, every window array holds what its points left, every other buffer what the host left, every counter zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_main m ρ)

end Cert.KernelIdeal.Attn

end
-- ==== Proof.Softmax.lean ====
/- The running softmax over the extended reals: whatever running maximum a fold over key blocks rescales by, its quotient is the
   softmax sum over all keys; the base two and a score shifted by a constant change nothing. Scores are real or `-∞` (a masked
   key); the values are any extended reals. -/
module

public import Idealize.ShloMosaic.PureOps.Ideal
public import Mathlib.Analysis.SpecialFunctions.Pow.Real

@[expose] public section

noncomputable section

namespace Cert.KernelIdeal.Attn

open Idealize.ShloMosaic

/-- Multiplying a sum by a nonnegative real: over the extended reals the sum's terms may be infinite of either sign. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- `2^(s - μ)` is `2^s · 2^(-μ)`, at a masked score too. -/
theorem exp2_sub {s : EReal} (hs : s ≠ ⊤) (μ : ℝ) : Ideal.exp2 (s - (μ : EReal)) = Ideal.exp2 s * (((2 : ℝ) ^ (-μ) : ℝ) : EReal) := by
  induction s using EReal.rec with
  | bot => rw [EReal.bot_sub]; simp
  | coe r =>
    rw [← EReal.coe_sub, Ideal.exp2_coe, Ideal.exp2_coe, ← EReal.coe_mul]
    congr 1
    show (2 : ℝ) ^ (r - μ) = (2 : ℝ) ^ r * (2 : ℝ) ^ (-μ)
    rw [← Real.rpow_add (by norm_num)]; rfl
  | top => exact absurd rfl hs

theorem exp_sub {s : EReal} (hs : s ≠ ⊤) (μ : ℝ) : Ideal.exp (s - (μ : EReal)) = Ideal.exp s * ((Real.exp (-μ) : ℝ) : EReal) := by
  induction s using EReal.rec with
  | bot => rw [EReal.bot_sub]; simp
  | coe r =>
    rw [← EReal.coe_sub, Ideal.exp_coe, Ideal.exp_coe, ← EReal.coe_mul, ← Real.exp_add]
    rfl
  | top => exact absurd rfl hs

/-- The maximum over a finite set, folded from `-∞`, of scores below `+∞` is below `+∞`. -/
theorem fold_max_ne_top {ι : Type} (t : Finset ι) (s : ι → EReal) (h : ∀ r, s r ≠ ⊤) : t.fold max ⊥ s ≠ ⊤ := by
  classical
  induction t using Finset.induction_on with
  | empty => simp
  | insert a t ha ih =>
    rw [Finset.fold_insert ha]
    rcases max_choice (s a) (t.fold max ⊥ s) with e | e <;> rw [e]
    · exact h a
    · exact ih

theorem le_fold_max {ι : Type} (t : Finset ι) (s : ι → EReal) {r : ι} (hr : r ∈ t) : s r ≤ t.fold max ⊥ s :=
  (Finset.le_fold_max _).2 (.inr ⟨r, hr, le_rfl⟩)

/-- A running maximum that has seen one visible score is real from then on. -/
theorem running_max_real {κ : Type} [Fintype κ] {N : ℕ} (m : ℕ → EReal) (s : ℕ → κ → EReal) (h0 : m 0 = ⊥)
    (hm : ∀ n < N, m (n + 1) = max (m n) (Finset.univ.fold max ⊥ (s n))) (hs : ∀ n < N, ∀ r, s n r ≠ ⊤) (hv : ∃ r, s 0 r ≠ ⊥) :
    ∀ n < N, ∃ μ : ℝ, m (n + 1) = (μ : EReal) := by
  have key : ∀ n < N, m (n + 1) ≠ ⊤ ∧ m (n + 1) ≠ ⊥ := by
    intro n
    induction n with
    | zero =>
      intro hN
      rw [hm 0 hN, h0]
      obtain ⟨r, hr⟩ := hv
      refine ⟨?_, fun h => hr (le_bot_iff.1 ?_)⟩
      · simpa using fold_max_ne_top _ (s 0) (hs 0 hN)
      · exact ((le_fold_max Finset.univ (s 0) (Finset.mem_univ r)).trans (le_max_right _ _)).trans h.le
    | succ n ih =>
      intro hN
      obtain ⟨a, b⟩ := ih (by omega)
      rw [hm (n + 1) hN]
      refine ⟨?_, fun h => b (le_bot_iff.1 ((le_max_left _ _).trans h.le))⟩
      rcases max_choice (m (n + 1)) (Finset.univ.fold max ⊥ (s (n + 1))) with e | e <;> rw [e]
      · exact a
      · exact fold_max_ne_top _ _ (hs _ hN)
  exact fun n hN => ⟨(m (n + 1)).toReal, (EReal.coe_toReal (key n hN).1 (key n hN).2).symm⟩

/-- The running weighted sum: rescaled at each block by what the maximum moved, it is the sum of `u · 2^s` over the blocks seen, times
    `2^(-maximum)`. -/
theorem running_sum {κ : Type} [Fintype κ] {N : ℕ} (m a : ℕ → EReal) (s u : ℕ → κ → EReal) (h0 : m 0 = ⊥) (ha0 : a 0 = 0)
    (ha : ∀ n < N, a (n + 1) = Ideal.exp2 (m n - m (n + 1)) * a n + ∑ r, u n r * Ideal.exp2 (s n r - m (n + 1)))
    (hs : ∀ n < N, ∀ r, s n r ≠ ⊤) (μ : ℕ → ℝ) (hμ : ∀ n < N, m (n + 1) = (μ n : EReal)) :
    ∀ n < N, a (n + 1) = (∑ b ∈ Finset.range (n + 1), ∑ r, u b r * Ideal.exp2 (s b r)) * (((2 : ℝ) ^ (-(μ n)) : ℝ) : EReal) := by
  have hblock : ∀ n < N, (∑ r, u n r * Ideal.exp2 (s n r - m (n + 1)))
      = (∑ r, u n r * Ideal.exp2 (s n r)) * (((2 : ℝ) ^ (-(μ n)) : ℝ) : EReal) := fun n hN => by
    rw [sum_mul_real _ _ (Real.rpow_nonneg (by norm_num) _), hμ n hN]
    exact Finset.sum_congr rfl fun r _ => by rw [exp2_sub (hs n hN r), mul_assoc]
  intro n
  induction n with
  | zero =>
    intro hN
    rw [ha 0 hN, hblock 0 hN, ha0, mul_zero, zero_add, Finset.sum_range_one]
  | succ n ih =>
    intro hN
    rw [ha (n + 1) hN, hblock (n + 1) hN, ih (by omega), hμ n (by omega), hμ (n + 1) hN, Finset.sum_range_succ _ (n + 1),
      EReal.right_distrib_of_nonneg_of_ne_top (by exact_mod_cast Real.rpow_nonneg (by norm_num) _) (EReal.coe_ne_top _)]
    congr 1
    rw [mul_left_comm, ← EReal.coe_sub, Ideal.exp2_coe, ← EReal.coe_mul]
    congr 2
    show (2 : ℝ) ^ (μ n - μ (n + 1)) * (2 : ℝ) ^ (-μ n) = (2 : ℝ) ^ (-μ (n + 1))
    rw [← Real.rpow_add (by norm_num)]
    congr 1; ring

/-- The weights of scores below `+∞` are nonnegative reals. -/
theorem exp2_real {s : EReal} (hs : s ≠ ⊤) : Ideal.exp2 s = ((Ideal.exp2 s).toReal : EReal) ∧ 0 ≤ (Ideal.exp2 s).toReal ∧ (s ≠ ⊥ → 0 < (Ideal.exp2 s).toReal) := by
  induction s using EReal.rec with
  | bot => simp
  | coe r => simp only [Ideal.exp2_coe, EReal.toReal_coe]; exact ⟨trivial, (Real.rpow_pos_of_pos (by norm_num) r).le, fun _ => Real.rpow_pos_of_pos (by norm_num) r⟩
  | top => exact absurd rfl hs

theorem exp_real {s : EReal} (hs : s ≠ ⊤) : Ideal.exp s = ((Ideal.exp s).toReal : EReal) ∧ 0 ≤ (Ideal.exp s).toReal ∧ (s ≠ ⊥ → 0 < (Ideal.exp s).toReal) := by
  induction s using EReal.rec with
  | bot => simp
  | coe r => simp only [Ideal.exp_coe, EReal.toReal_coe]; exact ⟨trivial, (Real.exp_pos r).le, fun _ => Real.exp_pos r⟩
  | top => exact absurd rfl hs

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of two sums rescaled alike. -/
theorem div_rescaled (V : EReal) {l c : ℝ} (hl : 0 < l) (hc : 0 < c) : Ideal.div (V * (c : EReal)) ((l : EReal) * (c : EReal)) = V * ((1 / l : ℝ) : EReal) := by
  rw [← EReal.coe_mul, Ideal.div_coe (by positivity), mul_assoc, ← EReal.coe_mul]
  congr 2
  field_simp

variable {κ : Type} [Fintype κ]

/-- The softmax sum of `u` at scores `s`, in base `e`. -/
def softmaxSum (s u : κ → EReal) : EReal := (∑ k, u k * Ideal.exp (s k)) * ((1 / ∑ k, (Ideal.exp (s k)).toReal : ℝ) : EReal)

/-- Subtracting any real from every score before the exponentials, and dividing every weight rather than the sum, changes nothing. -/
theorem softmaxSum_shifted (s u : κ → EReal) (hs : ∀ k, s k ≠ ⊤) (hv : ∃ k, s k ≠ ⊥) (μ : ℝ) :
    (∑ k, u k * Ideal.div (Ideal.exp (s k - (μ : EReal))) (∑ k, Ideal.exp (s k - (μ : EReal)))) = softmaxSum s u := by
  have hpos : 0 < ∑ k, (Ideal.exp (s k)).toReal := by
    obtain ⟨k, hk⟩ := hv
    exact Finset.sum_pos' (fun j _ => (exp_real (hs j)).2.1) ⟨k, Finset.mem_univ k, (exp_real (hs k)).2.2 hk⟩
  have hsum : (∑ k, Ideal.exp (s k - (μ : EReal))) = ((∑ k, (Ideal.exp (s k)).toReal : ℝ) : EReal) * ((Real.exp (-μ) : ℝ) : EReal) := by
    rw [coe_sum, sum_mul_real _ _ (Real.exp_pos _).le]
    exact Finset.sum_congr rfl fun k _ => by rw [exp_sub (hs k), ← (exp_real (hs k)).1]
  rw [softmaxSum, sum_mul_real _ _ (by positivity), hsum]
  refine Finset.sum_congr rfl fun k _ => ?_
  rw [exp_sub (hs k), div_rescaled _ hpos (Real.exp_pos _), mul_assoc]

/-- The fold's quotient, in base two, is the softmax sum of the scores times `log 2`, shifted by any real. -/
theorem softmaxSum_base_two (s s2 u : κ → EReal) (hs : ∀ k, s k ≠ ⊤) (hv : ∃ k, s k ≠ ⊥) (f : ℝ)
    (h : ∀ k, (s k = ⊥ ∧ s2 k = ⊥) ∨ ∃ t : ℝ, s k = (t : EReal) ∧ s2 k = ((t * Real.log 2 + f : ℝ) : EReal)) {c : ℝ} (hc : 0 < c) :
    Ideal.div ((∑ k, u k * Ideal.exp2 (s k)) * (c : EReal)) ((∑ k, 1 * Ideal.exp2 (s k)) * (c : EReal)) = softmaxSum s2 u := by
  have hpos : 0 < ∑ k, (Ideal.exp2 (s k)).toReal := by
    obtain ⟨k, hk⟩ := hv
    exact Finset.sum_pos' (fun j _ => (exp2_real (hs j)).2.1) ⟨k, Finset.mem_univ k, (exp2_real (hs k)).2.2 hk⟩
  have hw : ∀ k, Ideal.exp (s2 k) = Ideal.exp2 (s k) * ((Real.exp f : ℝ) : EReal) := fun k => by
    rcases h k with ⟨a, b⟩ | ⟨t, a, b⟩ <;> rw [a, b]
    · simp
    · rw [Ideal.exp_coe, Ideal.exp2_coe, ← EReal.coe_mul]
      congr 1
      show _ = (2 : ℝ) ^ t * _
      rw [Real.exp_add, Real.rpow_def_of_pos (by norm_num), mul_comm t]
  have hl : (∑ k, 1 * Ideal.exp2 (s k)) = ((∑ k, (Ideal.exp2 (s k)).toReal : ℝ) : EReal) := by
    rw [coe_sum]; exact Finset.sum_congr rfl fun k _ => by rw [one_mul, ← (exp2_real (hs k)).1]
  have hr : (∑ k, (Ideal.exp (s2 k)).toReal) = (∑ k, (Ideal.exp2 (s k)).toReal) * Real.exp f := by
    rw [Finset.sum_mul]; exact Finset.sum_congr rfl fun k _ => by rw [hw, EReal.toReal_mul, EReal.toReal_coe]
  rw [hl, div_rescaled _ hpos hc, softmaxSum, hr]
  simp only [hw, ← mul_assoc]
  rw [← sum_mul_real _ _ (Real.exp_pos f).le, mul_assoc, ← EReal.coe_mul]
  congr 2
  have := Real.exp_pos f
  field_simp

/-! ## The order of the keys -/

/-- Blocks of 512 keys, the last one first, then the others in order: every key up to the last block's end, once. -/
theorem sum_blocks (i : ℕ) (hi : i < 32) (seq : ℕ → ℕ) (h0 : seq 0 = i) (hs : ∀ n, seq (n + 1) = n) (g : Fin 16384 → EReal)
    (hg : ∀ k : Fin 16384, 512 * (i + 1) ≤ k.val → g k = 0) (w : ℕ → Fin 512 → EReal)
    (hw : ∀ n < i + 1, ∀ r : Fin 512, ∀ h : 512 * seq n + r.val < 16384, w n r = g ⟨512 * seq n + r.val, h⟩) :
    (∑ n ∈ Finset.range (i + 1), ∑ r, w n r) = ∑ k, g k := by
  let G : ℕ → EReal := fun k => if h : k < 16384 then g ⟨k, h⟩ else 0
  have hseq : ∀ n < i + 1, seq n < i + 1 := fun n hn => by
    rcases n with _ | n
    · rw [h0]; omega
    · rw [hs]; omega
  have e1 : ∀ n ∈ Finset.range (i + 1), (∑ r, w n r) = ∑ r ∈ Finset.range 512, G (512 * seq n + r) := fun n hn => by
    rw [Finset.sum_range]
    refine Finset.sum_congr rfl fun r _ => ?_
    have hn' := Finset.mem_range.1 hn
    have hb : 512 * seq n + r.val < 16384 := by have := hseq n hn'; have := r.isLt; omega
    rw [hw n hn' r hb]
    show _ = dite _ _ _
    rw [dif_pos hb]
  have e2 : ∀ N, (∑ b ∈ Finset.range N, ∑ r ∈ Finset.range 512, G (512 * b + r)) = ∑ k ∈ Finset.range (512 * N), G k := by
    intro N
    induction N with
    | zero => simp
    | succ N ih => rw [Finset.sum_range_succ, ih, Nat.mul_succ, Finset.sum_range_add]
  rw [Finset.sum_congr rfl e1, Finset.sum_range_succ']
  simp only [h0, hs]
  rw [← Finset.sum_range_succ (fun b => ∑ r ∈ Finset.range 512, G (512 * b + r)) i, e2]
  rw [Finset.sum_subset (Finset.range_subset_range.2 (show 512 * (i + 1) ≤ 16384 by omega)), Finset.sum_range]
  · exact Finset.sum_congr rfl fun k _ => dif_pos k.isLt
  · intro k hk hk'
    have h1 := Finset.mem_range.1 hk
    have h2 : 512 * (i + 1) ≤ k := by simpa using hk'
    show dite _ _ _ = _
    rw [dif_pos h1]; exact hg _ h2

end Cert.KernelIdeal.Attn

end
-- ==== Proof.ChunkAt.lean ====
/- The payloads of the attention body read at an index: masks, selections, the running maximum, the weights and the quotient. -/
module

public import proofs.«01_k».proof.Proof.Fold
public import proofs.«01_k».proof.Proof.Softmax
public import Idealize.ShloMosaic.Lib.Pointwise
public import Idealize.ShloMosaic.Lib.IdealHost
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.WordCmp Idealize.ShloMosaic.TcCoe Idealize.ShloMosaic.Tactic

/-- The pattern of `-∞`. -/
theorem neg_inf : Ideal.ofBits FTy.f32 0xFF800000#32 = ⊥ := by simp [Ideal.ofBits, Ideal.ieee]

/-- A select on a comparison of two small naturals as words. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  by_cases h : a ≤ b
  · rw [(cmpi_sle_ofNat_eq_one_iff ha hb).2 h, if_pos h]; rfl
  · rw [(cmpi_sle_ofNat_eq_zero_iff ha hb).2 (by omega), if_neg h]; rfl

/-- The select of one on the three lanes of a head's decay columns. -/
theorem select_lanes (n k : ℕ) (hn : n < 16) (hk : k < 128) (w w' w'' : BitVec 32) (h : w = BitVec.ofNat 32 n) (h' : w' = BitVec.ofNat 32 (n + 16))
    (h'' : w'' = BitVec.ofNat 32 (n + 32)) :
    Scalar.select (IntOp.ori (IntOp.ori (IntOp.cmpi CmpIPredicate.eq (BitVec.ofNat 32 k) w) (IntOp.cmpi CmpIPredicate.eq (BitVec.ofNat 32 k) w'))
      (IntOp.cmpi CmpIPredicate.eq (BitVec.ofNat 32 k) w'')) (1 : EReal) 0 = if k = n ∨ k = n + 16 ∨ k = n + 32 then 1 else 0 := by
  subst h h' h''
  have e : ∀ m : ℕ, m < 48 → IntOp.cmpi CmpIPredicate.eq (BitVec.ofNat 32 k) (BitVec.ofNat 32 m) = if k = m then 1#1 else 0#1 := fun m hm => by
    by_cases a : k = m
    · rw [if_pos a]; exact (cmpi_eq_ofNat_eq_one_iff (by omega) (by omega)).2 a
    · rw [if_neg a]; exact (cmpi_eq_ofNat_eq_zero_iff (by omega) (by omega)).2 a
  rw [e n (by omega), e (n + 16) (by omega), e (n + 32) (by omega)]
  by_cases a : k = n
  · rw [if_pos a, if_neg (by omega), if_neg (by omega), if_pos (.inl a)]; rfl
  · by_cases b : k = n + 16
    · rw [if_neg a, if_pos b, if_neg (by omega), if_pos (.inr (.inl b))]; rfl
    · by_cases c : k = n + 32
      · rw [if_neg a, if_neg b, if_pos c, if_pos (.inr (.inr c))]; rfl
      · rw [if_neg a, if_neg b, if_neg c, if_neg (by tauto)]; rfl

theorem word_head (g h : ℕ) : Scalar.addi (Scalar.muli (2#32) (BitVec.ofNat 32 g)) (BitVec.ofNat 32 h) = BitVec.ofNat 32 (2 * g + h) := by
  rw [show Scalar.muli (2#32) (BitVec.ofNat 32 g) = BitVec.ofNat 32 (2 * g) from muli_ofNat 2 g]; exact addi_ofNat _ _

theorem word_add (n h : ℕ) : Scalar.addi (BitVec.ofNat 32 n) (BitVec.ofNat 32 h) = BitVec.ofNat 32 (n + h) := addi_ofNat _ _

theorem select_low (k : ℕ) (hk : k < 128) (x : EReal) : Scalar.select (IntOp.cmpi CmpIPredicate.slt (BitVec.ofNat 32 k) 64#32) x 0 = if k < 64 then x else 0 := by
  by_cases h : k < 64
  · rw [if_pos h, (cmpi_slt_ofNat_eq_one_iff (w := 32) (b := 64) (by omega) (by omega)).2 h]; rfl
  · rw [if_neg h, (cmpi_slt_ofNat_eq_zero_iff (w := 32) (b := 64) (by omega) (by omega)).2 h]; rfl

theorem select_high (k : ℕ) (hk : k < 128) (x : EReal) : Scalar.select (IntOp.cmpi CmpIPredicate.sge (BitVec.ofNat 32 k) 64#32) x 0 = if 64 ≤ k then x else 0 := by
  by_cases h : 64 ≤ k
  · rw [if_pos h, (cmpi_sge_ofNat_eq_one_iff (w := 32) (b := 64) (by omega) (by omega)).2 h]; rfl
  · rw [if_neg h, (cmpi_sge_ofNat_eq_zero_iff (w := 32) (b := 64) (by omega) (by omega)).2 (by omega)]; rfl

theorem pay7_at (qa : FVec Ideal S256x256 .bf16) (kb fb : Vec Ideal S512x128 .bf16) (r : Fin 512) (c : Fin 256) :
    k0_pay7 qa kb fb (ix2 r c) = (∑ k : Fin 128, kb (ix2 r k) * qa (ix2 ⟨k.val, by omega⟩ c)) + ∑ k : Fin 128, fb (ix2 r k) * qa (ix2 ⟨128 + k.val, by omega⟩ c) := by
  pointwise [k0_pay7]

theorem pay14_value (A : FVec Ideal S80x256 .f32) (sc : FVec Ideal S1x256 .f32) (w : FVec Ideal S512x256 .bf16) (v0 v1 : Vec Ideal S1x1x64x256 .bf16) (d : Fin 64) (c : Fin 256) :
    k0_pay14 k0_pay193 A sc w (k0_pay13 v0) v1 (ix2 ⟨d.val, by omega⟩ c)
      = sc (ix2 0 c) * A (ix2 ⟨d.val, by omega⟩ c) + ∑ r : Fin 512, (if h : r.val < 256 then v0 (ix4 0 0 d ⟨r.val, h⟩) else v1 (ix4 0 0 d ⟨r.val - 256, by omega⟩)) * w (ix2 r c) := by
  pointwise [k0_pay14, k0_pay13]

theorem pay14_ones (A : FVec Ideal S80x256 .f32) (sc : FVec Ideal S1x256 .f32) (w : FVec Ideal S512x256 .bf16) (v0 v1 : Vec Ideal S1x1x64x256 .bf16) (c : Fin 256) :
    k0_pay14 k0_pay193 A sc w (k0_pay13 v0) v1 (ix2 64 c)
      = sc (ix2 0 c) * A (ix2 64 c) + ∑ r : Fin 512, 1 * w (ix2 r c) := by
  pointwise [k0_pay14, k0_pay13, k0_pay193]

theorem colMax_at (S : FVec Ideal S512x256 .f32) (c : Fin 256) : colMax S (ix2 0 c) = Finset.univ.fold max ⊥ (fun r : Fin 512 => S (ix2 r c)) := by
  pointwise [colMax]
  rw [neg_inf]

theorem pay10_at (x m : FVec Ideal S1x256 .f32) (c : Fin 256) : k0_pay10 x m (ix2 0 c) = max (m (ix2 0 c)) (x (ix2 0 c)) := by
  pointwise [k0_pay10]

theorem pay11_at (x m : FVec Ideal S1x256 .f32) (c : Fin 256) : k0_pay11 x m (ix2 0 c) = Ideal.exp2 (m (ix2 0 c) - k0_pay10 x m (ix2 0 c)) := by
  pointwise [k0_pay11]
  rfl

theorem pay12_at (x m : FVec Ideal S1x256 .f32) (s : Vec Ideal S512x256 .f32) (r : Fin 512) (c : Fin 256) :
    k0_pay12 x m s (ix2 r c) = Ideal.exp2 (s (ix2 r c) - k0_pay10 x m (ix2 0 c)) := by
  pointwise [k0_pay12]
  rfl

theorem pay203_at (i : ℕ) (off : BitVec 32) (s : FVec Ideal S512x256 .f32) (r : Fin 512) (c : Fin 256) (hi : i < 32) (ho : off = 0#32 ∨ off = 256#32) :
    k0_pay203 s (k0_pay201 (BitVec.ofNat 32 i)) (qpos i off) (ix2 r c) = if r.val ≤ off.toNat + c.val then s (ix2 r c) else ⊥ := by
  pointwise [k0_pay203, k0_pay201, qpos]
  have hr := r.isLt
  have hc := c.isLt
  have e : ∀ o : ℕ, o ≤ 256 → off = BitVec.ofNat 32 o → Scalar.select
      (IntOp.cmpi CmpIPredicate.sle (IntOp.addi (Scalar.muli (BitVec.ofNat 32 i) 512#32) (BitVec.ofNat 32 r.val))
        (IntOp.addi (Scalar.addi (Scalar.muli (BitVec.ofNat 32 i) 512#32) off) (BitVec.ofNat 32 c.val)))
      (s (ix2 r c)) (Ideal.ofBits FTy.f32 0xFF800000#32) = if r.val ≤ o + c.val then s (ix2 r c) else ⊥ := fun o ho' h => by
    subst h
    have e1 : IntOp.addi (Scalar.muli (BitVec.ofNat 32 i) 512#32) (BitVec.ofNat 32 r.val) = BitVec.ofNat 32 (i * 512 + r.val) := by
      rw [show Scalar.muli (BitVec.ofNat 32 i) 512#32 = BitVec.ofNat 32 (i * 512) from muli_ofNat i 512, addi_ofNat]
    have e2 : IntOp.addi (Scalar.addi (Scalar.muli (BitVec.ofNat 32 i) 512#32) (BitVec.ofNat 32 o)) (BitVec.ofNat 32 c.val) = BitVec.ofNat 32 (i * 512 + o + c.val) := by
      rw [show Scalar.muli (BitVec.ofNat 32 i) 512#32 = BitVec.ofNat 32 (i * 512) from muli_ofNat i 512,
        show Scalar.addi (BitVec.ofNat 32 (i * 512)) (BitVec.ofNat 32 o) = BitVec.ofNat 32 (i * 512 + o) from addi_ofNat _ _, addi_ofNat]
    rw [e1, e2, select_sle _ _ (by omega) (by omega), neg_inf]
    congr 1
    exact propext ⟨fun _ => by omega, fun _ => by omega⟩
  rcases ho with h | h
  · rw [e 0 (by omega) h, h]; rfl
  · rw [e 256 (by omega) h, h]; rfl

theorem pay3_at (A : FVec Ideal S80x256 .f32) (d : Fin 64) (c : Fin 256) : k0_pay3 A (ix2 d c) = Ideal.div (A (ix2 ⟨d.val, by omega⟩ c)) (A (ix2 64 c)) := by
  pointwise [k0_pay3]

theorem qa0_at (i : grid0.Coords) (x2 : Vec Ideal S128x512 .bf16) (k : Fin 128) (c : Fin 256) :
    k0_pay189 (k0_pay184 i x2) (ix2 ⟨k.val, by omega⟩ c) = if k.val < 64 then x2 (ix2 k ⟨c.val, by omega⟩) else 0 := by
  pointwise [k0_pay189, k0_pay184, k0_pay183]
  exact select_low _ k.isLt _

theorem qa0_sel (i : grid0.Coords) (x2 : Vec Ideal S128x512 .bf16) (k : Fin 128) (c : Fin 256) :
    k0_pay189 (k0_pay184 i x2) (ix2 ⟨128 + k.val, by omega⟩ c)
      = if k.val = 2 * (i 0).val + 0 ∨ k.val = 2 * (i 0).val + 0 + 16 ∨ k.val = 2 * (i 0).val + 0 + 32 then 1 else 0 := by
  pointwise [k0_pay189, k0_pay184, k0_pay183]
  have hi : (i 0).val < 8 := (i 0).isLt
  exact select_lanes (2 * (i 0).val + 0) _ (by omega) k.isLt _ _ _ (word_head _ 0) (by rw [word_head _ 0]; exact word_add _ 16) (by rw [word_head _ 0]; exact word_add _ 32)

theorem qa1_at (i : grid0.Coords) (x2 : Vec Ideal S128x512 .bf16) (k : Fin 128) (c : Fin 256) :
    k0_pay190 (k0_pay184 i x2) (ix2 ⟨k.val, by omega⟩ c) = if k.val < 64 then x2 (ix2 k ⟨256 + c.val, by omega⟩) else 0 := by
  pointwise [k0_pay190, k0_pay184, k0_pay183]
  exact select_low _ k.isLt _

theorem qa1_sel (i : grid0.Coords) (x2 : Vec Ideal S128x512 .bf16) (k : Fin 128) (c : Fin 256) :
    k0_pay190 (k0_pay184 i x2) (ix2 ⟨128 + k.val, by omega⟩ c)
      = if k.val = 2 * (i 0).val + 0 ∨ k.val = 2 * (i 0).val + 0 + 16 ∨ k.val = 2 * (i 0).val + 0 + 32 then 1 else 0 := by
  pointwise [k0_pay190, k0_pay184, k0_pay183]
  have hi : (i 0).val < 8 := (i 0).isLt
  exact select_lanes (2 * (i 0).val + 0) _ (by omega) k.isLt _ _ _ (word_head _ 0) (by rw [word_head _ 0]; exact word_add _ 16) (by rw [word_head _ 0]; exact word_add _ 32)

theorem qa2_at (i : grid0.Coords) (x2 : Vec Ideal S128x512 .bf16) (k : Fin 128) (c : Fin 256) :
    k0_pay191 (k0_pay185 x2) (k0_pay186 i) (k0_pay187 i) (ix2 ⟨k.val, by omega⟩ c) = if 64 ≤ k.val then x2 (ix2 k ⟨c.val, by omega⟩) else 0 := by
  pointwise [k0_pay191, k0_pay188, k0_pay185, k0_pay183, k0_pay186, k0_pay187]
  exact select_high _ k.isLt _

theorem qa2_sel (i : grid0.Coords) (x2 : Vec Ideal S128x512 .bf16) (k : Fin 128) (c : Fin 256) :
    k0_pay191 (k0_pay185 x2) (k0_pay186 i) (k0_pay187 i) (ix2 ⟨128 + k.val, by omega⟩ c)
      = if k.val = 2 * (i 0).val + 1 ∨ k.val = 2 * (i 0).val + 1 + 16 ∨ k.val = 2 * (i 0).val + 1 + 32 then 1 else 0 := by
  pointwise [k0_pay191, k0_pay188, k0_pay185, k0_pay183, k0_pay186, k0_pay187]
  have hi : (i 0).val < 8 := (i 0).isLt
  exact select_lanes (2 * (i 0).val + 1) _ (by omega) k.isLt _ _ _ (word_head _ 1) (by rw [word_head _ 1]; exact word_add _ 16) (by rw [word_head _ 1]; exact word_add _ 32)

theorem qa3_at (i : grid0.Coords) (x2 : Vec Ideal S128x512 .bf16) (k : Fin 128) (c : Fin 256) :
    k0_pay192 (k0_pay185 x2) (k0_pay186 i) (k0_pay187 i) (ix2 ⟨k.val, by omega⟩ c) = if 64 ≤ k.val then x2 (ix2 k ⟨256 + c.val, by omega⟩) else 0 := by
  pointwise [k0_pay192, k0_pay188, k0_pay185, k0_pay183, k0_pay186, k0_pay187]
  exact select_high _ k.isLt _

theorem qa3_sel (i : grid0.Coords) (x2 : Vec Ideal S128x512 .bf16) (k : Fin 128) (c : Fin 256) :
    k0_pay192 (k0_pay185 x2) (k0_pay186 i) (k0_pay187 i) (ix2 ⟨128 + k.val, by omega⟩ c)
      = if k.val = 2 * (i 0).val + 1 ∨ k.val = 2 * (i 0).val + 1 + 16 ∨ k.val = 2 * (i 0).val + 1 + 32 then 1 else 0 := by
  pointwise [k0_pay192, k0_pay188, k0_pay185, k0_pay183, k0_pay186, k0_pay187]
  have hi : (i 0).val < 8 := (i 0).isLt
  exact select_lanes (2 * (i 0).val + 1) _ (by omega) k.isLt _ _ _ (word_head _ 1) (by rw [word_head _ 1]; exact word_add _ 16) (by rw [word_head _ 1]; exact word_add _ 32)

end Cert.KernelIdeal.Attn

end
-- ==== Proof.ChunkSoftmax.lean ====
/- One chunk's output over the reals: the fold over its key blocks is the causal softmax sum of its head's values. -/
module

public import proofs.«01_k».proof.Proof.ChunkAt

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem blk_at (x : Vec Ideal S16384x128 .bf16) (b : ℕ) (hb : b < 32) (r : Fin 512) (k : Fin 128) :
    blk x b (ix2 r k) = x (ix2 ⟨512 * b + r.val, by have := r.isLt; omega⟩ k) := by
  unfold blk VecWindow.window
  congr 1
  funext a
  apply Fin.ext
  match a with
  | ⟨0, _⟩ => show 512 * (b % 32) + 1 * r.val = 512 * b + r.val; rw [Nat.mod_eq_of_lt hb]; omega
  | ⟨1, _⟩ => show 0 + 1 * k.val = k.val; omega

theorem vblk_at (x : Vec Ideal S2x64x64x256 .bf16) (h : Fin 2) (r : ℕ) (hr : r < 64) (d : Fin 64) (k : Fin 256) :
    vblk x h r (ix4 0 0 d k) = x (ix4 h ⟨r, hr⟩ d k) := by
  unfold vblk VecWindow.window
  congr 1
  funext a
  apply Fin.ext
  match a with
  | ⟨0, _⟩ => show h.val + 0 = h.val; omega
  | ⟨1, _⟩ => show r % 64 + 0 = r; rw [Nat.mod_eq_of_lt hr]; omega
  | ⟨2, _⟩ => show 0 + 1 * d.val = d.val; omega
  | ⟨3, _⟩ => show 0 + 1 * k.val = k.val; omega

namespace Chunk
variable (C : Chunk Ideal)

/-- The chunk's value at a key. -/
def value (d : Fin 64) (k : Fin 16384) : EReal := C.vs (ix4 C.h ⟨k.val / 256, by have := k.isLt; omega⟩ d ⟨k.val % 256, Nat.mod_lt _ (by decide)⟩)

/-- The chunk's score of a key against the query of column `c`, before the mask. -/
def score (c : Fin 256) (k : Fin 16384) : EReal :=
  (∑ j : Fin 128, C.ks (ix2 k j) * C.qa (ix2 ⟨j.val, by omega⟩ c)) + ∑ j : Fin 128, C.fs (ix2 k j) * C.qa (ix2 ⟨128 + j.val, by omega⟩ c)

theorem score_block (b : ℕ) (hb : b < 32) (r : Fin 512) (c : Fin 256) :
    k0_pay7 C.qa (blk C.ks b) (blk C.fs b) (ix2 r c) = C.score c ⟨512 * b + r.val, by have := r.isLt; omega⟩ := by
  rw [pay7_at]
  unfold score
  congr 1 <;> exact Finset.sum_congr rfl fun j _ => by rw [blk_at _ b hb]

theorem S_at (hi : C.i < 32) (ho : C.off = 0#32 ∨ C.off = 256#32) (n : ℕ) (hn : n < C.i + 1) (r : Fin 512) (c : Fin 256) (h : 512 * seqB C.i n + r.val < 16384) :
    C.S n (ix2 r c) = if 512 * seqB C.i n + r.val ≤ 512 * C.i + C.off.toNat + c.val then C.score c ⟨512 * seqB C.i n + r.val, h⟩ else ⊥ := by
  rcases n with _ | n
  · show k0_pay203 (k0_pay7 C.qa (blk C.ks C.i) (blk C.fs C.i)) (k0_pay201 (BitVec.ofNat 32 C.i)) (qpos C.i C.off) (ix2 r c) = _
    rw [pay203_at C.i C.off _ r c hi ho, score_block C C.i hi]
    simp only [seqB, if_true]
    congr 1
    exact propext ⟨fun _ => by omega, fun _ => by omega⟩
  · rw [S_succ, score_block C n (by omega), if_pos]
    · simp [seqB]
    · have := r.isLt
      simp only [seqB, Nat.succ_ne_zero, if_false, Nat.add_sub_cancel]
      omega

/-- The value rows of one update of the running sum. -/
theorem A_value (n : ℕ) (hn : n < C.i + 1) (hi : C.i < 32) (d : Fin 64) (c : Fin 256) :
    C.A (n + 1) (ix2 ⟨d.val, by omega⟩ c) = Ideal.exp2 (C.M n (ix2 0 c) - C.M (n + 1) (ix2 0 c)) * C.A n (ix2 ⟨d.val, by omega⟩ c)
      + ∑ r : Fin 512, C.value d ⟨512 * seqB C.i n + r.val, by have := r.isLt; unfold seqB; split <;> omega⟩ * Ideal.exp2 (C.S n (ix2 r c) - C.M (n + 1) (ix2 0 c)) := by
  have hb : seqB C.i n < 32 := by unfold seqB; split <;> omega
  rw [A_succ, pay14_value, pay11_at, ← M_succ]
  congr 1
  refine Finset.sum_congr rfl fun r _ => ?_
  have hr := r.isLt
  rw [pay12_at, ← M_succ]
  congr 1
  unfold value
  split
  · next h =>
    rw [vblk_at _ _ _ (by omega)]
    congr 2
    · exact Fin.ext (by show 2 * seqB C.i n = (512 * seqB C.i n + r.val) / 256; omega)
    · exact Fin.ext (by show r.val = (512 * seqB C.i n + r.val) % 256; omega)
  · next h =>
    rw [vblk_at _ _ _ (by omega)]
    congr 2
    · exact Fin.ext (by show 2 * seqB C.i n + 1 = (512 * seqB C.i n + r.val) / 256; omega)
    · exact Fin.ext (by show r.val - 256 = (512 * seqB C.i n + r.val) % 256; omega)

/-- The row of ones: the running sum of the weights. -/
theorem A_ones (n : ℕ) (c : Fin 256) :
    C.A (n + 1) (ix2 64 c) = Ideal.exp2 (C.M n (ix2 0 c) - C.M (n + 1) (ix2 0 c)) * C.A n (ix2 64 c)
      + ∑ r : Fin 512, 1 * Ideal.exp2 (C.S n (ix2 r c) - C.M (n + 1) (ix2 0 c)) := by
  rw [A_succ, pay14_ones, pay11_at, ← M_succ]
  congr 1
  exact Finset.sum_congr rfl fun r _ => by rw [pay12_at, ← M_succ]

theorem M_zero_at (c : Fin 256) : C.M 0 (ix2 0 c) = ⊥ := by
  show k0_pay209 (F := Ideal) (ix2 0 c) = ⊥
  pointwise [k0_pay209]
  exact neg_inf

theorem A_zero_at (d : Fin 80) (c : Fin 256) : C.A 0 (ix2 d c) = 0 := by
  show k0_pay213 (F := Ideal) (ix2 d c) = 0
  pointwise [k0_pay213]

theorem M_at (n : ℕ) (c : Fin 256) : C.M (n + 1) (ix2 0 c) = max (C.M n (ix2 0 c)) (Finset.univ.fold max ⊥ fun r : Fin 512 => C.S n (ix2 r c)) := by
  rw [M_succ, pay10_at, colMax_at]

/-- The chunk's output: where its scores are real, in base two, the causal softmax sum of the values. -/
theorem out_at (hi : C.i < 32) (ho : C.off = 0#32 ∨ C.off = 256#32) (d : Fin 64) (c : Fin 256) (Q : ℕ) (hQ : Q = 512 * C.i + C.off.toNat + c.val)
    (T : Fin 16384 → ℝ) (hT : ∀ k, C.score c k = (T k : EReal)) (f : ℝ) :
    C.out (ix2 d c) = softmaxSum (fun k : Fin 16384 => if k.val ≤ Q then ((T k * Real.log 2 + f : ℝ) : EReal) else ⊥) (C.value d) := by
  have hoff : C.off.toNat ≤ 256 := by rcases ho with h | h <;> rw [h] <;> decide
  have hc := c.isLt
  have hseq : ∀ n < C.i + 1, ∀ r : Fin 512, 512 * seqB C.i n + r.val < 16384 := fun n hn r => by
    have := r.isLt; unfold seqB; split <;> omega
  let σ : Fin 16384 → EReal := fun k => if k.val ≤ Q then (T k : EReal) else ⊥
  have hσt : ∀ k, σ k ≠ ⊤ := fun k => by show ite _ _ _ ≠ _; split <;> simp
  have hS : ∀ n (hn : n < C.i + 1) (r : Fin 512), C.S n (ix2 r c) = σ ⟨512 * seqB C.i n + r.val, hseq n hn r⟩ := fun n hn r => by
    subst hQ; rw [S_at C hi ho n hn r c (hseq n hn r), hT]
  have hSt : ∀ n < C.i + 1, ∀ r : Fin 512, C.S n (ix2 r c) ≠ ⊤ := fun n hn r => by rw [hS n hn r]; exact hσt _
  obtain ⟨μ, hμ⟩ : ∃ μ : ℕ → ℝ, ∀ n < C.i + 1, C.M (n + 1) (ix2 0 c) = (μ n : EReal) := by
    have h := running_max_real (N := C.i + 1) (fun n => C.M n (ix2 0 c)) (fun n (r : Fin 512) => C.S n (ix2 r c)) (M_zero_at C c)
      (fun n _ => M_at C n c) hSt ⟨⟨0, by decide⟩, by
        rw [hS 0 (by omega)]
        show ite _ _ _ ≠ _
        rw [if_pos (by show 512 * seqB C.i 0 + 0 ≤ Q; simp only [seqB, if_true]; omega)]
        exact EReal.coe_ne_bot _⟩
    choose g hg using h
    exact ⟨fun n => if hn : n < C.i + 1 then g n hn else 0, fun n hn => by simp only [dif_pos hn]; exact hg n hn⟩
  have hv := running_sum (N := C.i + 1) (fun n => C.M n (ix2 0 c)) (fun n => C.A n (ix2 ⟨d.val, by omega⟩ c)) (fun n (r : Fin 512) => C.S n (ix2 r c))
    (fun n r => if hn : n < C.i + 1 then C.value d ⟨512 * seqB C.i n + r.val, hseq n hn r⟩ else 0) (M_zero_at C c) (A_zero_at C _ c)
    (fun n hn => by simp only [dif_pos hn]; exact A_value C n hn hi d c) hSt μ hμ C.i (by omega)
  have h1 := running_sum (N := C.i + 1) (fun n => C.M n (ix2 0 c)) (fun n => C.A n (ix2 64 c)) (fun n (r : Fin 512) => C.S n (ix2 r c))
    (fun n r => 1) (M_zero_at C c) (A_zero_at C _ c) (fun n hn => A_ones C n c) hSt μ hμ C.i (by omega)
  have hσ0 : ∀ k : Fin 16384, 512 * (C.i + 1) ≤ k.val → Ideal.exp2 (σ k) = 0 := fun k hk => by
    show Ideal.exp2 (ite _ _ _) = 0
    rw [if_neg (by omega), Ideal.exp2_bot]
  rw [sum_blocks C.i hi (seqB C.i) (by simp [seqB]) (by intro n; simp [seqB]) (fun k => C.value d k * Ideal.exp2 (σ k)) (fun k hk => by
      show C.value d k * Ideal.exp2 (σ k) = 0
      rw [hσ0 k hk, mul_zero])
    (fun n r => (if hn : n < C.i + 1 then C.value d ⟨512 * seqB C.i n + r.val, hseq n hn r⟩ else 0) * Ideal.exp2 (C.S n (ix2 r c)))
    (fun n hn r h => by
      show (dite _ _ _) * _ = _
      rw [dif_pos hn, hS n hn r])] at hv
  rw [sum_blocks C.i hi (seqB C.i) (by simp [seqB]) (by intro n; simp [seqB]) (fun k => 1 * Ideal.exp2 (σ k)) (fun k hk => by
      show 1 * Ideal.exp2 (σ k) = 0
      rw [hσ0 k hk, mul_zero])
    (fun n r => 1 * Ideal.exp2 (C.S n (ix2 r c)))
    (fun n hn r h => by
      show 1 * _ = _
      rw [hS n hn r])] at h1
  show k0_pay3 (C.A (C.i + 1)) (ix2 d c) = _
  rw [pay3_at, hv, h1]
  refine softmaxSum_base_two σ _ (C.value d) hσt ⟨⟨512 * C.i, by omega⟩, ?_⟩ f (fun k => ?_) (Real.rpow_pos_of_pos (by norm_num) _)
  · show ite _ _ _ ≠ _
    rw [if_pos (by show 512 * C.i ≤ Q; omega)]
    exact EReal.coe_ne_bot _
  · show (ite _ _ _ = _ ∧ ite _ _ _ = _) ∨ ∃ t : ℝ, ite _ _ _ = _ ∧ ite _ _ _ = _
    by_cases h : k.val ≤ Q
    · right; exact ⟨T k, by rw [if_pos h], by rw [if_pos h]⟩
    · left; exact ⟨by rw [if_neg h], by rw [if_neg h]⟩

end Chunk

end Cert.KernelIdeal.Attn

end
-- ==== Proof.Cumsum.lean ====
/- The running sum of the log gates, as a window sum over the padded keys, read at an index over the reals. -/
module

public import proofs.«01_k».proof.KernelIdeal
public import proofs.«01_k».proof.ReferenceIdeal
public import proofs.«01_k».proof.Proof.Softmax
public import Idealize.ShloMosaic.Lib.PointwiseCore
public import Idealize.ShloMosaic.Lib.Pointwise

@[expose] public section

set_option maxRecDepth 16384

noncomputable section

namespace Cert.KernelIdeal.Attn

open Idealize.ShloMosaic Idealize.ShloMosaic.TcCoe Idealize.ShloMosaic.Tactic

theorem foldl_add_finRange (N : ℕ) (g : Fin N → EReal) (a : EReal) : (List.finRange N).foldl (fun r n => r + g n) a = a + ∑ n, g n := by
  have h : ∀ (l : List (Fin N)) (a : EReal), l.foldl (fun r n => r + g n) a = a + (l.map g).sum := by
    intro l
    induction l with
    | nil => intro a; simp
    | cons x l ih => intro a; rw [List.foldl_cons, ih, List.map_cons, List.sum_cons, add_assoc]
  rw [h, Fin.sum_univ_def]

/-- A window sum at an index: the initial value plus, over the window, the operand's element or, off the operand, the initial value. -/
theorem window_sum {s t : Shape} (window strides lo hi : Fin s.rank → Nat) (h : s.ReduceWindows window strides lo hi t) (x : s.Idx → EReal) (init : EReal) (j : t.Idx) :
    Ideal.hostReduceWindowAdd window strides lo hi h x init j = init + ∑ q : (⟨s.rank, window⟩ : Shape).Idx,
      (if hin : ∀ a : Fin s.rank, lo a ≤ (j (a.cast h.1.symm)).val * strides a + (q a).val ∧ (j (a.cast h.1.symm)).val * strides a + (q a).val - lo a < s.size a
        then x (fun a => ⟨(j (a.cast h.1.symm)).val * strides a + (q a).val - lo a, (hin a).2⟩) else init) := by
  unfold Ideal.hostReduceWindowAdd Host.reduceWindow
  refine (foldl_add_finRange _ _ _).trans ?_
  exact congrArg (init + ·) ((Finset.sum_congr rfl fun n _ => dite_congr rfl (fun _ => rfl) fun _ => rfl).trans (Equiv.sum_comp (⟨s.rank, window⟩ : Shape).rowMajor.symm fun q =>
      if hin : ∀ a : Fin s.rank, lo a ≤ (j (a.cast h.1.symm)).val * strides a + (q a).val ∧ (j (a.cast h.1.symm)).val * strides a + (q a).val - lo a < s.size a
        then x (fun a => ⟨(j (a.cast h.1.symm)).val * strides a + (q a).val - lo a, (hin a).2⟩) else init))

/-- The sum of a row of keys up to key `s`, as a window of all keys padded low by one less. -/
def prefixSum (g : Fin 16384 → EReal) (s : Fin 16384) : EReal :=
  ∑ n : Fin 16384, if h : 16383 ≤ s.val + n.val then g ⟨s.val + n.val - 16383, by omega⟩ else 0

/-- The same sum of reals. -/
def prefixReal (g : Fin 16384 → ℝ) (s : Fin 16384) : ℝ :=
  ∑ n : Fin 16384, if h : 16383 ≤ s.val + n.val then g ⟨s.val + n.val - 16383, by omega⟩ else 0

theorem prefixSum_coe (g : Fin 16384 → EReal) (r : Fin 16384 → ℝ) (h : ∀ k, g k = (r k : EReal)) (s : Fin 16384) : prefixSum g s = (prefixReal r s : EReal) := by
  unfold prefixSum prefixReal
  rw [coe_sum]
  refine Finset.sum_congr rfl fun n _ => ?_
  split
  · exact h _
  · rfl

theorem prefix_rows (x : FVec Ideal Cert.KernelIdeal.S16384x16 .f32) {u : Shape} (init : FVec Ideal u .f32) (hw) (hu) (h0 : init (Shape.Idx.first hu) = 0) (s : Fin 16384) (H : Fin 16) :
    Host.reduceWindowAdd (F := Ideal) (t := Cert.KernelIdeal.S16384x16) ![16384, 1] ![1, 1] ![16383, 0] ![0, 0] x init hw hu (ix2 s H)
      = prefixSum (fun k => x (ix2 k H)) s := by
  unfold Host.reduceWindowAdd
  rw [Ideal.hostReduceWindowAdd_def, window_sum]
  rw [h0, zero_add]
  unfold prefixSum
  refine (sum_idx2 (n0 := 16384) (n1 := 1) _).trans ?_
  refine Finset.sum_congr rfl fun n _ => ?_
  rw [Fin.sum_univ_one]
  by_cases h : 16383 ≤ s.val + n.val
  · have hin : ∀ a : Fin 2, (![16383, 0] : Fin 2 → ℕ) a ≤ ((ix2 s H : Cert.KernelIdeal.S16384x16.Idx) (a.cast hw.1.symm)).val * (![1, 1] : Fin 2 → ℕ) a + ((ix2 n (0 : Fin 1) : (⟨2, ![16384, 1]⟩ : Shape).Idx) a).val
        ∧ ((ix2 s H : Cert.KernelIdeal.S16384x16.Idx) (a.cast hw.1.symm)).val * (![1, 1] : Fin 2 → ℕ) a + ((ix2 n (0 : Fin 1) : (⟨2, ![16384, 1]⟩ : Shape).Idx) a).val - (![16383, 0] : Fin 2 → ℕ) a < Cert.KernelIdeal.S16384x16.size a := by
      intro a
      match a with
      | ⟨0, _⟩ => show 16383 ≤ s.val * 1 + n.val ∧ s.val * 1 + n.val - 16383 < 16384; omega
      | ⟨1, _⟩ => show 0 ≤ H.val * 1 + 0 ∧ H.val * 1 + 0 - 0 < 16; omega
    rw [dif_pos h]
    refine (dif_pos hin).trans (congrArg x (funext fun a => Fin.ext ?_))
    match a with
    | ⟨0, _⟩ => show s.val * 1 + n.val - 16383 = s.val + n.val - 16383; omega
    | ⟨1, _⟩ => show H.val * 1 + 0 - 0 = H.val; omega
  · rw [dif_neg h]
    exact dif_neg fun hin => h (by have := (hin 0).1; change 16383 ≤ s.val * 1 + n.val at this; omega)

theorem prefix_slab (x : FVec Ideal Cert.ReferenceIdeal.S1x16384x16 .f32) {u : Shape} (init : FVec Ideal u .f32) (hw) (hu) (h0 : init (Shape.Idx.first hu) = 0) (s : Fin 16384) (H : Fin 16) :
    Host.reduceWindowAdd (F := Ideal) (t := Cert.ReferenceIdeal.S1x16384x16) ![1, 16384, 1] ![1, 1, 1] ![0, 16383, 0] ![0, 0, 0] x init hw hu (ix3 0 s H)
      = prefixSum (fun k => x (ix3 0 k H)) s := by
  unfold Host.reduceWindowAdd
  rw [Ideal.hostReduceWindowAdd_def, window_sum]
  rw [h0, zero_add]
  unfold prefixSum
  refine (sum_idx3 (n0 := 1) (n1 := 16384) (n2 := 1) _).trans ?_
  rw [Fin.sum_univ_one]
  refine Finset.sum_congr rfl fun n _ => ?_
  rw [Fin.sum_univ_one]
  by_cases h : 16383 ≤ s.val + n.val
  · have hin : ∀ a : Fin 3, (![0, 16383, 0] : Fin 3 → ℕ) a ≤ ((ix3 0 s H : Cert.ReferenceIdeal.S1x16384x16.Idx) (a.cast hw.1.symm)).val * (![1, 1, 1] : Fin 3 → ℕ) a + ((ix3 (0 : Fin 1) n (0 : Fin 1) : (⟨3, ![1, 16384, 1]⟩ : Shape).Idx) a).val
        ∧ ((ix3 0 s H : Cert.ReferenceIdeal.S1x16384x16.Idx) (a.cast hw.1.symm)).val * (![1, 1, 1] : Fin 3 → ℕ) a + ((ix3 (0 : Fin 1) n (0 : Fin 1) : (⟨3, ![1, 16384, 1]⟩ : Shape).Idx) a).val - (![0, 16383, 0] : Fin 3 → ℕ) a < Cert.ReferenceIdeal.S1x16384x16.size a := by
      intro a
      match a with
      | ⟨0, _⟩ => show 0 ≤ 0 * 1 + 0 ∧ 0 * 1 + 0 - 0 < 1; omega
      | ⟨1, _⟩ => show 16383 ≤ s.val * 1 + n.val ∧ s.val * 1 + n.val - 16383 < 16384; omega
      | ⟨2, _⟩ => show 0 ≤ H.val * 1 + 0 ∧ H.val * 1 + 0 - 0 < 16; omega
    rw [dif_pos h]
    refine (dif_pos hin).trans (congrArg x (funext fun a => Fin.ext ?_))
    match a with
    | ⟨0, _⟩ => show 0 * 1 + 0 - 0 = 0; omega
    | ⟨1, _⟩ => show s.val * 1 + n.val - 16383 = s.val + n.val - 16383; omega
    | ⟨2, _⟩ => show H.val * 1 + 0 - 0 = H.val; omega
  · rw [dif_neg h]
    exact dif_neg fun hin => h (by have := (hin 1).1; change 16383 ≤ s.val * 1 + n.val at this; omega)

end Cert.KernelIdeal.Attn

end
-- ==== Proof.HostAt.lean ====
/- The four arrays that the attention's region reads, at an index over the arguments: the scaled queries, the keys, the values and the
   keys' decay columns. -/
module

public import proofs.«01_k».proof.Proof.Cumsum
public import proofs.«01_k».proof.Proof.Run
public import Idealize.ShloMosaic.Lib.IdealHost
public import Idealize.ShloMosaic.Lib.StableHlo.ReadAt
public import Idealize.ShloMosaic.Lib.Tactic.IndexArith

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

theorem eighth : Ideal.ofBits FTy.f32 1040187392#32 = ((1 / 8 : ℝ) : EReal) := by
  simp [Ideal.ofBits, Ideal.ieee, -EReal.coe_mul]; norm_num

theorem two : Ideal.ofBits FTy.f32 1073741824#32 = ((2 : ℝ) : EReal) := by
  simp [Ideal.ofBits, Ideal.ieee, -EReal.coe_mul]; norm_num

theorem log_two_pos : 0 < Real.log 2 := Real.log_pos (by norm_num)

theorem inv_log_two : Ideal.div 1 (Ideal.log (Ideal.ofBits FTy.f32 1073741824#32)) = ((1 / Real.log 2 : ℝ) : EReal) := by
  rw [two]
  have h : Ideal.log ((2 : ℝ) : EReal) = ((Real.log 2 : ℝ) : EReal) := by
    show (if (2 : ℝ) ≤ 0 then (⊥ : EReal) else ((Real.log 2 : ℝ) : EReal)) = _
    rw [if_neg (by norm_num)]
  rw [h, Ideal.div_coe log_two_pos.ne', one_mul]

variable (m : (ℓ : Loc nD τ sig) → Buf (Elt Ideal) ℓ) (c : Dev nD)

abbrev argQ : Vec Ideal S1x16384x16x64 .f32 := m ((c : Thread nD τ).loc main_arg0)
abbrev argK : Vec Ideal S1x16384x16x64 .f32 := m ((c : Thread nD τ).loc main_arg1)
abbrev argV : Vec Ideal S1x16384x16x64 .f32 := m ((c : Thread nD τ).loc main_arg2)
abbrev argF : Vec Ideal S1x16384x16 .f32 := m ((c : Thread nD τ).loc main_arg3)

theorem kb_at (s : Fin 16384) (r : Fin 1024) :
    (V m c main_v9 : Vec Ideal S16384x1024 .bf16) (ix2 s r) = argK m c (ix4 0 s ⟨r.val / 64, by have := r.isLt; omega⟩ ⟨r.val % 64, Nat.mod_lt _ (by decide)⟩) := by
  unfold V hostOps0 hostOps0_1 hostOps0_2 hostOps0_3
  simp only [List.flatten_cons, List.flatten_nil, List.append_nil, List.cons_append, List.nil_append]
  after_reads_at

theorem qt_at (s : Fin 16384) (r : Fin 1024) :
    (V m c main_v7 : Vec Ideal S1024x16384 .bf16) (ix2 r s)
      = argQ m c (ix4 0 s ⟨r.val / 64, by have := r.isLt; omega⟩ ⟨r.val % 64, Nat.mod_lt _ (by decide)⟩) * (((1 / 8 : ℝ) : EReal) * ((1 / Real.log 2 : ℝ) : EReal)) := by
  unfold V hostOps0 hostOps0_1 hostOps0_2 hostOps0_3
  simp only [List.flatten_cons, List.flatten_nil, List.append_nil, List.cons_append, List.nil_append]
  after_reads_at
  rw [inv_log_two, eighth]

theorem vt_at (H : Fin 16) (b : Fin 64) (d : Fin 64) (x : Fin 256) :
    (V m c main_v14 : Vec Ideal S16x64x64x256 .bf16) (ix4 H b d x) = argV m c (ix4 0 ⟨256 * b.val + x.val, by omega⟩ H d) := by
  unfold V hostOps0 hostOps0_1 hostOps0_2 hostOps0_3
  simp only [List.flatten_cons, List.flatten_nil, List.append_nil, List.cons_append, List.nil_append]
  after_reads_at
  show m (c, Proc.tc.devRef main_arg2) _ = m (c, Proc.tc.devRef main_arg2) _
  congr 1
  funext a
  apply Fin.ext
  match a with
  | ⟨0, _⟩ => rfl
  | ⟨1, _⟩ => show b.val * 256 + x.val = 256 * b.val + x.val; omega
  | ⟨2, _⟩ => show (H.val * 64 + d.val) / 64 = H.val; omega
  | ⟨3, _⟩ => show (H.val * 64 + d.val) % 64 = d.val; omega

/-- The decay columns of head `H`: minus the running sum of its log gates in base two, then two columns of rounding residue, zero
    over the reals. -/
theorem fa_at (fr : Fin 16384 → Fin 16 → ℝ) (hf : ∀ s H, argF m c (ix3 0 s H) = (fr s H : EReal)) (s : Fin 16384) (j : Fin 128) (H : Fin 16)
    (hj : j.val = H.val ∨ j.val = H.val + 16 ∨ j.val = H.val + 32) :
    (V m c main_v28 : Vec Ideal S16384x128 .bf16) (ix2 s j)
      = if j.val = H.val then ((prefixReal (fun k => fr k H) s * -(1 / Real.log 2) : ℝ) : EReal) else ((0 : ℝ) : EReal) := by
  unfold V hostOps0 hostOps0_1 hostOps0_2 hostOps0_3
  simp only [List.flatten_cons, List.flatten_nil, List.append_nil, List.cons_append, List.nil_append]
  after_reads_at
  after_reads_at
  have h0 : (broadcastInDim S_ ![] bcast_S_S_ (constant (F := Ideal) S_ FTy.f32 0#32)) (Shape.Idx.first h_S_) = (0 : EReal) := Ideal.ofBits_zero_f32
  have hx : ∀ (x : Fin 16) (hx : x = H), Host.reduceWindowAdd (F := Ideal) (s := S16384x16) (t := S16384x16) ![16384, 1] ![1, 1] ![16383, 0] ![0, 0]
            (fun i : S16384x16.Idx => m (c, Proc.tc.devRef main_arg3) (ix3 0 (i 0) (i 1)))
            (broadcastInDim S_ ![] bcast_S_S_ (constant S_ FTy.f32 0#32))
            reduceWindows_S16384x16_S16384x16_w16384s1p16383_0_w1s1p0_0 h_S_ (ix2 s x) *
          -Ideal.div 1 (Ideal.log (Ideal.ofBits FTy.f32 1073741824#32)) = ((prefixReal (fun k => fr k H) s * -(1 / Real.log 2) : ℝ) : EReal) := by
    intro x hx
    subst hx
    rw [inv_log_two, prefix_rows _ _ _ _ h0]
    show prefixSum (fun k => argF m c (ix3 0 k x)) s * -((1 / Real.log 2 : ℝ) : EReal) = _
    rw [prefixSum_coe (fun k => argF m c (ix3 0 k x)) (fun k => fr k x) (fun k => hf k x)]
    rw [← EReal.coe_neg, ← EReal.coe_mul]
  have hH := H.isLt
  have hz : ∀ t : ℝ, (t : EReal) - t = ((0 : ℝ) : EReal) := fun t => by rw [← EReal.coe_sub, sub_self]
  rw [dif_pos (by omega)]
  rcases hj with h | h | h
  · rw [dif_pos (by omega)]
    exact (hx _ (Fin.ext h)).trans (if_pos h).symm
  · rw [dif_neg (by omega), dif_pos (by omega)]
    have e : (⟨j.val - 16, by omega⟩ : Fin 16) = H := Fin.ext (by show j.val - 16 = H.val; omega)
    exact (congrArg₂ (fun a b : EReal => a - b) (hx _ e) (hx _ e)).trans ((hz _).trans (if_neg (by omega)).symm)
  · rw [dif_neg (by omega), dif_neg (by omega)]
    have e : (⟨j.val - 16 - 16, by omega⟩ : Fin 16) = H := Fin.ext (by show j.val - 16 - 16 = H.val; omega)
    have e2 := (congrArg₂ (fun a b : EReal => a - b) (hx _ e) (hx _ e)).trans (hz _)
    exact (congrArg₂ (fun a b : EReal => a - b) e2 e2).trans ((hz _).trans (if_neg (by omega)).symm)

end Cert.KernelIdeal.Attn

end
-- ==== Proof.RefAt.lean ====
/- The reference's result at an index: for finite queries, keys and log gates, the causal softmax sum of its head's values over
   the real scores. -/
module

public import proofs.«01_k».proof.Proof.Gen.ReferenceIdeal.Run
public import proofs.«01_k».proof.Proof.HostAt
public import proofs.«01_k».proof.Proof.ChunkAt
public import Idealize.ShloMosaic.Lib.Pointwise
public import Idealize.ShloMosaic.Lib.PointwiseCore
public import Idealize.ShloMosaic.Lib.IdealHost

@[expose] public section

set_option maxRecDepth 16384

noncomputable section

namespace Cert.ReferenceIdeal.Attn

open Cert.ReferenceIdeal Cert.ReferenceIdeal.Value Cert.ReferenceIdeal.Gen
open Idealize.ShloMosaic Idealize.ShloMosaic.TcCoe Idealize.ShloMosaic.Tactic
open Cert.KernelIdeal.Attn (prefixSum prefixReal prefix_slab prefixSum_coe softmaxSum softmaxSum_shifted fold_max_ne_top le_fold_max coe_sum eighth select_sle neg_inf)

/-! ## The reference's stages -/

/-- The running sums of the log gates, head by rows. -/
def cumF (f : FVec Ideal S1x16384x16 .f32) : FVec Ideal S1x16x16384 .f32 :=
  transpose S1x16x16384 [0, 2, 1] (Host.reduceWindowAdd ![1, 16384, 1] ![1, 1, 1] ![0, 16383, 0] ![0, 0, 0] f (broadcastInDim S_ ![] bcast_S_S_ (constant S_ .f32 0x00000000#32)) reduceWindows_S1x16384x16_S1x16384x16_w1s1p0_0_w16384s1p16383_0_w1s1p0_0 h_S_) transposes_S1x16384x16_S1x16x16384_0_2_1

/-- The scores before the mask: scaled products plus the decay. -/
def rawF (q k : FVec Ideal S1x16384x16x64 .f32) (g : FVec Ideal S1x16x16384 .f32) : FVec Ideal S1x16x16384x16384 .f32 :=
  subf (addf (mulf (Host.dotGeneral dot_S1x16384x16x64_S1x16384x16x64_S1x16x16384x16384_3_3_1_1_02_02 none q k) (broadcastInDim S1x16x16384x16384 ![] bcast_S_S1x16x16384x16384 (constant S_ .f32 0x3E000000#32))) (broadcastInDim S1x16x16384x16384 ![0, 1, 2, 3] bcast_S1x16x16384x1_S1x16x16384x16384_0_1_2_3 (broadcastInDim S1x16x16384x1 ![0, 1, 2] bcast_S1x16x16384_S1x16x16384x1_0_1_2 g))) (broadcastInDim S1x16x16384x16384 ![0, 1, 2, 3] bcast_S1x16x1x16384_S1x16x16384x16384_0_1_2_3 (broadcastInDim S1x16x1x16384 ![0, 1, 3] bcast_S1x16x16384_S1x16x1x16384_0_1_3 g))

/-- The scores, minus infinity where the key comes after the query. -/
def maskF (x : FVec Ideal S1x16x16384x16384 .f32) : FVec Ideal S1x16x16384x16384 .f32 :=
  select (broadcastInDim S1x16x16384x16384 ![2, 3] bcast_S16384x16384_S1x16x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) x (broadcastInDim S1x16x16384x16384 ![] bcast_S_S1x16x16384x16384 (id (constant S_ .f32 0xFF800000#32)))

/-- The largest score of each query. -/
def rowMax (s : FVec Ideal S1x16x16384x16384 .f32) : FVec Ideal S1x16x16384 .f32 :=
  maximumf (broadcastInDim S1x16x16384 ![] bcast_S_S1x16x16384 (constant S_ .f32 0xFF800000#32)) (Host.reduce FloatOps.maximumf s (constant S_ .f32 0xFF800000#32) reducesTo_S1x16x16384x16384_S1x16x16384_d3 h_S_)

/-- The exponentials of the scores less the largest. -/
def weightF (s : FVec Ideal S1x16x16384x16384 .f32) : FVec Ideal S1x16x16384x16384 .f32 :=
  Host.exp (subf s (broadcastInDim S1x16x16384x16384 ![0, 1, 2, 3] bcast_S1x16x16384x1_S1x16x16384x16384_0_1_2_3 (broadcastInDim S1x16x16384x1 ![0, 1, 2] bcast_S1x16x16384_S1x16x16384x1_0_1_2 (rowMax s))))

/-- The sum of a query's exponentials. -/
def rowSum (w : FVec Ideal S1x16x16384x16384 .f32) : FVec Ideal S1x16x16384 .f32 :=
  Host.reduceAdd w (constant S_ .f32 0x00000000#32) reducesTo_S1x16x16384x16384_S1x16x16384_d3 h_S_

/-- The softmax. -/
def probF (w : FVec Ideal S1x16x16384x16384 .f32) : FVec Ideal S1x16x16384x16384 .f32 :=
  Host.divf w (broadcastInDim S1x16x16384x16384 ![0, 1, 2, 3] bcast_S1x16x16384x1_S1x16x16384x16384_0_1_2_3 (broadcastInDim S1x16x16384x1 ![0, 1, 2] bcast_S1x16x16384_S1x16x16384x1_0_1_2 (rowSum w)))

/-- The weighted sums of the values, laid out head by rows and queries along the lanes. -/
def outF (v : FVec Ideal S1x16384x16x64 .f32) (p : FVec Ideal S1x16x16384x16384 .f32) : FVec Ideal S1024x16384 .f32 :=
  transpose S1024x16384 [1, 0] (shapeCast S16384x1024 (transpose S1x16384x16x64 [0, 3, 1, 2] (Host.dotGeneral dot_S1x16384x16x64_S1x16x16384x16384_S1x16x64x16384_1_3_3_2_02_01 none v p) transposes_S1x16x64x16384_S1x16384x16x64_0_3_1_2) shapeCasts_S1x16384x16x64_S16384x1024) transposes_S16384x1024_S1024x16384_1_0

/-! ## The stages at an index -/

theorem cumF_at (f : FVec Ideal S1x16384x16 .f32) (H : Fin 16) (s : Fin 16384) : cumF f (ix3 0 H s) = prefixSum (fun k => f (ix3 0 k H)) s := by
  have h0 : (broadcastInDim S_ ![] Gen.bcast_S_S_ (constant (F := Ideal) S_ FTy.f32 0#32)) (Shape.Idx.first Gen.h_S_) = (0 : EReal) := Ideal.ofBits_zero_f32
  pointwise [cumF]
  exact prefix_slab _ _ _ _ h0 s H

theorem rawF_at (q k : FVec Ideal S1x16384x16x64 .f32) (g : FVec Ideal S1x16x16384 .f32) (H : Fin 16) (s x : Fin 16384) :
    rawF q k g (ix4 0 H s x) = (∑ d : Fin 64, q (ix4 0 s H d) * k (ix4 0 x H d)) * Ideal.ofBits FTy.f32 1040187392#32 + g (ix3 0 H s) - g (ix3 0 H x) := by
  pointwise [rawF]

theorem maskF_at (y : FVec Ideal S1x16x16384x16384 .f32) (H : Fin 16) (s x : Fin 16384) :
    maskF y (ix4 0 H s x) = if x.val ≤ s.val then y (ix4 0 H s x) else ⊥ := by
  pointwise [maskF]
  rw [select_sle _ _ (by omega) (by omega)]
  exact if_congr Iff.rfl rfl neg_inf

/-- A maximum along the last axis of a rank four array of any size. -/
theorem max_row {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (d : Fin n2) :
    Host.reduce max x init h hu (ix3 a b d) = Finset.univ.fold max (init (Shape.Idx.first hu)) fun k : Fin n3 => x (ix4 a b d k) :=
  (Host.reduce_eq_fold max x init h hu (ix3 a b d)).trans (h.fold_fiber_r4_a3 (ix3 a b d) max _ x)

/-- The larger of two arrays at an index. -/
theorem max_at {t : Shape} (a b : FVec Ideal t .f32) (i : t.Idx) : maximumf a b i = max (a i) (b i) := rfl

theorem rowMax_at (y : FVec Ideal S1x16x16384x16384 .f32) (H : Fin 16) (s : Fin 16384) :
    rowMax y (ix3 0 H s) = max ⊥ (Finset.univ.fold max ⊥ fun x : Fin 16384 => y (ix4 0 H s x)) := by
  have e : constant (F := Ideal) S_ .f32 0xFF800000#32 = fun _ => (⊥ : EReal) := funext fun _ => neg_inf
  unfold rowMax
  rw [e, max_at, Ideal.maximumf_eq_max, max_row]
  rfl

theorem weightF_at (y : FVec Ideal S1x16x16384x16384 .f32) (H : Fin 16) (s x : Fin 16384) :
    weightF y (ix4 0 H s x) = Ideal.exp (y (ix4 0 H s x) - rowMax y (ix3 0 H s)) := by
  pointwise [weightF]

theorem rowSum_at (w : FVec Ideal S1x16x16384x16384 .f32) (H : Fin 16) (s : Fin 16384) :
    rowSum w (ix3 0 H s) = ∑ x : Fin 16384, w (ix4 0 H s x) := by
  pointwise [rowSum]

theorem probF_at (w : FVec Ideal S1x16x16384x16384 .f32) (H : Fin 16) (s x : Fin 16384) :
    probF w (ix4 0 H s x) = Ideal.div (w (ix4 0 H s x)) (rowSum w (ix3 0 H s)) := by
  pointwise [probF]

theorem outF_at (v : FVec Ideal S1x16384x16x64 .f32) (p : FVec Ideal S1x16x16384x16384 .f32) (r : Fin 1024) (s : Fin 16384) :
    outF v p (ix2 r s) = ∑ x : Fin 16384, v (ix4 0 x ⟨r.val / 64, by have := r.isLt; omega⟩ ⟨r.val % 64, Nat.mod_lt _ (by decide)⟩) * p (ix4 0 ⟨r.val / 64, by have := r.isLt; omega⟩ s x) := by
  pointwise [outF]

/-! ## The result -/

/-- The score of key `x` for query `s` in head `H`: the scaled product plus the decay from the key to the query. -/
def realScore (q k : Fin 16384 → Fin 16 → Fin 64 → ℝ) (f : Fin 16384 → Fin 16 → ℝ) (H : Fin 16) (s x : Fin 16384) : ℝ :=
  (∑ d, q s H d * k x H d) * (1 / 8) + prefixReal (fun j => f j H) s - prefixReal (fun j => f j H) x

/-- The causal scores: minus infinity after the query. -/
def causal (q k : Fin 16384 → Fin 16 → Fin 64 → ℝ) (f : Fin 16384 → Fin 16 → ℝ) (H : Fin 16) (s x : Fin 16384) : EReal :=
  if x.val ≤ s.val then (realScore q k f H s x : EReal) else ⊥

theorem causal_ne_top (q k : Fin 16384 → Fin 16 → Fin 64 → ℝ) (f : Fin 16384 → Fin 16 → ℝ) (H : Fin 16) (s x : Fin 16384) : causal q k f H s x ≠ ⊤ := by
  unfold causal
  split
  · exact EReal.coe_ne_top _
  · exact bot_ne_top

theorem causal_self (q k : Fin 16384 → Fin 16 → Fin 64 → ℝ) (f : Fin 16384 → Fin 16 → ℝ) (H : Fin 16) (s : Fin 16384) : causal q k f H s s ≠ ⊥ := by
  unfold causal
  rw [if_pos le_rfl]
  exact EReal.coe_ne_bot _

/-- Of real arguments the masked scores are the causal scores. -/
theorem masked_at (a b : FVec Ideal S1x16384x16x64 .f32) (e : FVec Ideal S1x16384x16 .f32) (q k : Fin 16384 → Fin 16 → Fin 64 → ℝ) (f : Fin 16384 → Fin 16 → ℝ)
    (hq : ∀ s H d, a (ix4 0 s H d) = (q s H d : EReal)) (hk : ∀ s H d, b (ix4 0 s H d) = (k s H d : EReal)) (hf : ∀ s H, e (ix3 0 s H) = (f s H : EReal))
    (H : Fin 16) (s x : Fin 16384) : maskF (rawF a b (cumF e)) (ix4 0 H s x) = causal q k f H s x := by
  rw [maskF_at, rawF_at, cumF_at, cumF_at, prefixSum_coe _ (fun j => f j H) (fun j => hf j H), prefixSum_coe _ (fun j => f j H) (fun j => hf j H), eighth]
  unfold causal realScore
  congr 1
  rw [EReal.coe_sub, EReal.coe_add, EReal.coe_mul, coe_sum]
  congr 3
  exact Finset.sum_congr rfl fun d _ => by rw [hq, hk, EReal.coe_mul]

/-- The softmax of scores that are nowhere plus infinity, one of them visible in every row. -/
theorem softmax_at (v : FVec Ideal S1x16384x16x64 .f32) (y : FVec Ideal S1x16x16384x16384 .f32) (σ : Fin 16 → Fin 16384 → Fin 16384 → EReal)
    (hy : ∀ H s x, y (ix4 0 H s x) = σ H s x) (ht : ∀ H s x, σ H s x ≠ ⊤) (hb : ∀ H s, σ H s s ≠ ⊥) (r : Fin 1024) (s : Fin 16384) :
    outF v (probF (weightF y)) (ix2 r s) = softmaxSum (σ ⟨r.val / 64, by have := r.isLt; omega⟩ s)
      fun x => v (ix4 0 x ⟨r.val / 64, by have := r.isLt; omega⟩ ⟨r.val % 64, Nat.mod_lt _ (by decide)⟩) := by
  rw [outF_at]
  generalize (⟨r.val / 64, _⟩ : Fin 16) = H
  generalize (⟨r.val % 64, _⟩ : Fin 64) = D
  obtain ⟨μ, hμ⟩ : ∃ μ : ℝ, rowMax y (ix3 0 H s) = (μ : EReal) := by
    rw [rowMax_at, max_eq_right bot_le]
    simp only [hy]
    have h1 := fold_max_ne_top Finset.univ (σ H s) (ht H s)
    have h2 : Finset.univ.fold max ⊥ (σ H s) ≠ ⊥ := fun h => hb H s (le_bot_iff.1 (h ▸ le_fold_max Finset.univ (σ H s) (Finset.mem_univ s)))
    exact ⟨_, (EReal.coe_toReal h1 h2).symm⟩
  rw [← softmaxSum_shifted (σ H s) _ (ht H s) ⟨s, hb H s⟩ μ]
  refine Finset.sum_congr rfl fun x _ => ?_
  rw [probF_at, rowSum_at]
  simp only [weightF_at, hμ, hy]

variable (m : (ℓ : Loc nD τ sig) → Buf (Elt Ideal) ℓ) (c : Dev nD)

/-- The reference's result is the composition of the stages. -/
theorem res_stages : res_main_v32 m c = outF (m ((c.tc : Thread nD τ).loc main_arg2))
    (probF (weightF (maskF (rawF (m ((c.tc : Thread nD τ).loc main_arg0)) (m ((c.tc : Thread nD τ).loc main_arg1)) (cumF (m ((c.tc : Thread nD τ).loc main_arg3))))))) := by
  unfold res_main_v32
  rfl

/-- The reference's result. -/
theorem ref_at (q k : Fin 16384 → Fin 16 → Fin 64 → ℝ) (f : Fin 16384 → Fin 16 → ℝ)
    (hq : ∀ s H d, (m ((c.tc : Thread nD τ).loc main_arg0) : Vec Ideal S1x16384x16x64 .f32) (ix4 0 s H d) = (q s H d : EReal))
    (hk : ∀ s H d, (m ((c.tc : Thread nD τ).loc main_arg1) : Vec Ideal S1x16384x16x64 .f32) (ix4 0 s H d) = (k s H d : EReal))
    (hf : ∀ s H, (m ((c.tc : Thread nD τ).loc main_arg3) : Vec Ideal S1x16384x16 .f32) (ix3 0 s H) = (f s H : EReal))
    (s : Fin 16384) (r : Fin 1024) :
    (res_main_v32 m c : Vec Ideal S1024x16384 .f32) (ix2 r s)
      = softmaxSum (causal q k f ⟨r.val / 64, by have := r.isLt; omega⟩ s)
          fun x => (m ((c.tc : Thread nD τ).loc main_arg2) : Vec Ideal S1x16384x16x64 .f32) (ix4 0 x ⟨r.val / 64, by have := r.isLt; omega⟩ ⟨r.val % 64, Nat.mod_lt _ (by decide)⟩) := by
  rw [res_stages]
  exact softmax_at _ _ (causal q k f) (masked_at _ _ _ q k f hq hk hf) (causal_ne_top q k f) (causal_self q k f) r s

end Cert.ReferenceIdeal.Attn

end
-- ==== Proof.ScoreAt.lean ====
/- The block of the result that one grid point writes, over the reals: at every element the causal softmax sum of its head. -/
module

public import proofs.«01_k».proof.Proof.ChunkSoftmax
public import proofs.«01_k».proof.Proof.RefAt
public import proofs.«01_k».proof.Proof.OutBlock

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.ReferenceIdeal.Attn (realScore causal)

/-! ## Sums over the 128 lanes of a pair of heads -/

theorem sum_halves (f : Fin 128 → EReal) : ∑ j, f j = (∑ d : Fin 64, f ⟨d.val, by omega⟩) + ∑ d : Fin 64, f ⟨64 + d.val, by omega⟩ :=
  Fin.sum_univ_add (a := 64) (b := 64) f

theorem sum_low (f g : Fin 128 → EReal) :
    ∑ j : Fin 128, f j * (if j.val < 64 then g j else 0) = ∑ d : Fin 64, f ⟨d.val, by omega⟩ * g ⟨d.val, by omega⟩ := by
  rw [sum_halves]
  have e : ∀ d : Fin 64, ¬ (64 + d.val < 64) := fun d => by omega
  have e' : ∀ d : Fin 64, d.val < 64 := fun d => d.isLt
  simp only [e, e', if_false, if_true, mul_zero, Finset.sum_const_zero, add_zero]

theorem sum_high (f g : Fin 128 → EReal) :
    ∑ j : Fin 128, f j * (if 64 ≤ j.val then g j else 0) = ∑ d : Fin 64, f ⟨64 + d.val, by omega⟩ * g ⟨64 + d.val, by omega⟩ := by
  rw [sum_halves]
  have e : ∀ d : Fin 64, 64 ≤ 64 + d.val := fun d => by omega
  have e' : ∀ d : Fin 64, ¬ (64 ≤ d.val) := fun d => by omega
  simp only [e, e', if_false, if_true, mul_zero, Finset.sum_const_zero, zero_add]

/-- Of the three lanes that are selected, the first holds `x` and the other two hold nothing. -/
theorem sum_selected (f : Fin 128 → EReal) (H : ℕ) (hH : H < 16) (x : EReal)
    (hf : ∀ j : Fin 128, (j.val = H ∨ j.val = H + 16 ∨ j.val = H + 32) → f j = if j.val = H then x else 0) :
    ∑ j : Fin 128, f j * (if j.val = H ∨ j.val = H + 16 ∨ j.val = H + 32 then 1 else 0) = x := by
  rw [Finset.sum_eq_single (⟨H, by omega⟩ : Fin 128)]
  · rw [if_pos (Or.inl rfl), hf _ (Or.inl rfl), if_pos rfl, mul_one]
  · intro j _ hj
    have hj' : j.val ≠ H := fun h => hj (Fin.ext h)
    by_cases h : j.val = H ∨ j.val = H + 16 ∨ j.val = H + 32
    · rw [hf j h, if_neg hj', zero_mul]
    · rw [if_neg h, mul_zero]
  · intro h
    exact absurd (Finset.mem_univ _) h

/-! ## One chunk -/

variable (q k : Fin 16384 → Fin 16 → Fin 64 → ℝ) (f : Fin 16384 → Fin 16 → ℝ) (u : Fin 16384 → Fin 16 → Fin 64 → EReal)

/-- A score in the base of two, with the query's own decay left out: times `log 2`, plus that decay, it is the score. -/
theorem base_two (H : Fin 16) (s x : Fin 16384) :
    ((∑ d, k x H d * (q s H d * (1 / 8 * (1 / Real.log 2)))) + prefixReal (fun j => f j H) x * -(1 / Real.log 2)) * Real.log 2 + prefixReal (fun j => f j H) s
      = realScore q k f H s x := by
  have hl : Real.log 2 ≠ 0 := log_two_pos.ne'
  have e : (∑ d, k x H d * (q s H d * (1 / 8 * (1 / Real.log 2)))) = (∑ d, q s H d * k x H d) * (1 / 8 * (1 / Real.log 2)) := by
    rw [Finset.sum_mul]
    exact Finset.sum_congr rfl fun d _ => by ring
  rw [e]
  unfold realScore
  field_simp
  ring

theorem chunk_softmax (C : Chunk Ideal) (H : Fin 16) (s : Fin 16384) (d : Fin 64) (c : Fin 256) (hi : C.i < 32) (ho : C.off = 0#32 ∨ C.off = 256#32)
    (hs : s.val = 512 * C.i + C.off.toNat + c.val)
    (hdot : ∀ x, ∑ j : Fin 128, C.ks (ix2 x j) * C.qa (ix2 ⟨j.val, by omega⟩ c) = ((∑ d, k x H d * (q s H d * (1 / 8 * (1 / Real.log 2))) : ℝ) : EReal))
    (hsel : ∀ x, ∑ j : Fin 128, C.fs (ix2 x j) * C.qa (ix2 ⟨128 + j.val, by omega⟩ c) = ((prefixReal (fun j => f j H) x * -(1 / Real.log 2) : ℝ) : EReal))
    (hv : ∀ x, C.value d x = u x H d) : C.out (ix2 d c) = softmaxSum (causal q k f H s) fun x => u x H d := by
  rw [Chunk.out_at C hi ho d c s.val hs
    (fun x => (∑ d, k x H d * (q s H d * (1 / 8 * (1 / Real.log 2)))) + prefixReal (fun j => f j H) x * -(1 / Real.log 2))
    (fun x => by unfold Chunk.score; rw [hdot, hsel, EReal.coe_add]) (prefixReal (fun j => f j H) s)]
  congr 1
  · funext x
    unfold causal
    rw [base_two]
  · exact funext hv

/-- The products of a key with a query, in the kernel's scale. -/
theorem dot_real (H : Fin 16) (s x : Fin 16384) (a b : Fin 64 → EReal) (ha : ∀ d, a d = (k x H d : EReal))
    (hb : ∀ d, b d = (q s H d : EReal) * (((1 / 8 : ℝ) : EReal) * ((1 / Real.log 2 : ℝ) : EReal))) :
    ∑ d, a d * b d = ((∑ d, k x H d * (q s H d * (1 / 8 * (1 / Real.log 2))) : ℝ) : EReal) := by
  rw [coe_sum]
  exact Finset.sum_congr rfl fun d _ => by rw [ha, hb]; simp only [EReal.coe_mul]

/-! ## The block -/

section Block
variable (i : grid0.Coords) (x2 : Vec Ideal S128x512 .bf16) (x3 x4 : Vec Ideal S16384x128 .bf16) (x5 : Vec Ideal S2x64x64x256 .bf16)

/-- The head of row `r` of the block. -/
def headOf (h : Fin 2) : Fin 16 := ⟨2 * (i 0).val + h.val, by have : (i 0).val < 8 := (i 0).isLt; omega⟩

/-- The query of column `j` of the block. -/
def queryOf (j : Fin 512) : Fin 16384 := ⟨512 * (i 1).val + j.val, by have : (i 1).val < 32 := (i 1).isLt; omega⟩

theorem lane_lt (h : Fin 2) (d : Fin 64) : 64 * h.val + d.val < 128 := by omega

theorem key_lt (b : Fin 64) (x : Fin 256) : 256 * b.val + x.val < 16384 := by omega

variable (h2 : ∀ (h : Fin 2) (d : Fin 64) (j : Fin 512), x2 (ix2 ⟨64 * h.val + d.val, lane_lt h d⟩ j)
    = (q (queryOf i j) (headOf i h) d : EReal) * (((1 / 8 : ℝ) : EReal) * ((1 / Real.log 2 : ℝ) : EReal)))
  (h3 : ∀ (x : Fin 16384) (h : Fin 2) (d : Fin 64), x3 (ix2 x ⟨64 * h.val + d.val, lane_lt h d⟩) = (k x (headOf i h) d : EReal))
  (h4 : ∀ (x : Fin 16384) (H : Fin 16) (j : Fin 128), (j.val = H.val ∨ j.val = H.val + 16 ∨ j.val = H.val + 32) →
    x4 (ix2 x j) = if j.val = H.val then ((prefixReal (fun j => f j H) x * -(1 / Real.log 2) : ℝ) : EReal) else 0)
  (h5 : ∀ (h : Fin 2) (b d : Fin 64) (x : Fin 256), x5 (ix4 h b d x) = u ⟨256 * b.val + x.val, key_lt b x⟩ (headOf i h) d)
include h2 h3 h4 h5

theorem value_of (C : Chunk Ideal) (hC : C.vs = x5) (d : Fin 64) (x : Fin 16384) : C.value d x = u x (headOf i C.h) d := by
  unfold Chunk.value
  rw [hC, h5]
  congr 1
  exact Fin.ext (by show 256 * (x.val / 256) + x.val % 256 = x.val; omega)

theorem chunk0 (d : Fin 64) (c : Fin 256) : (pointChunks i x2 x3 x4 x5 0).out (ix2 d c)
    = softmaxSum (causal q k f (headOf i 0) (queryOf i ⟨c.val, by omega⟩)) fun x => u x (headOf i 0) d := by
  refine chunk_softmax q k f u _ _ _ d c (i 1).isLt (Or.inl rfl) rfl (fun x => ?_) (fun x => ?_) (fun x => value_of q k f u i x2 x3 x4 x5 h2 h3 h4 h5 _ rfl d x)
  · show ∑ j : Fin 128, x3 (ix2 x j) * k0_pay189 (k0_pay184 i x2) (ix2 ⟨j.val, by omega⟩ c) = _
    simp only [qa0_at]
    rw [sum_low]
    refine dot_real q k _ _ x _ _ (fun d => ?_) (fun d => ?_)
    · rw [← h3]; congr 2; exact Fin.ext (by show d.val = 64 * 0 + d.val; omega)
    · rw [← h2]; congr 2; exact Fin.ext (by show d.val = 64 * 0 + d.val; omega)
  · show ∑ j : Fin 128, x4 (ix2 x j) * k0_pay189 (k0_pay184 i x2) (ix2 ⟨128 + j.val, by omega⟩ c) = _
    simp only [qa0_sel]
    exact sum_selected _ (headOf i 0).val (headOf i 0).isLt _ fun j hj => h4 x (headOf i 0) j hj

theorem chunk1 (d : Fin 64) (c : Fin 256) : (pointChunks i x2 x3 x4 x5 1).out (ix2 d c)
    = softmaxSum (causal q k f (headOf i 0) (queryOf i ⟨256 + c.val, by omega⟩)) fun x => u x (headOf i 0) d := by
  refine chunk_softmax q k f u _ _ _ d c (i 1).isLt (Or.inr rfl) (Nat.add_assoc _ _ _).symm (fun x => ?_) (fun x => ?_) (fun x => value_of q k f u i x2 x3 x4 x5 h2 h3 h4 h5 _ rfl d x)
  · show ∑ j : Fin 128, x3 (ix2 x j) * k0_pay190 (k0_pay184 i x2) (ix2 ⟨j.val, by omega⟩ c) = _
    simp only [qa1_at]
    rw [sum_low]
    refine dot_real q k _ _ x _ _ (fun d => ?_) (fun d => ?_)
    · rw [← h3]; congr 2; exact Fin.ext (by show d.val = 64 * 0 + d.val; omega)
    · rw [← h2]; congr 2; exact Fin.ext (by show d.val = 64 * 0 + d.val; omega)
  · show ∑ j : Fin 128, x4 (ix2 x j) * k0_pay190 (k0_pay184 i x2) (ix2 ⟨128 + j.val, by omega⟩ c) = _
    simp only [qa1_sel]
    exact sum_selected _ (headOf i 0).val (headOf i 0).isLt _ fun j hj => h4 x (headOf i 0) j hj

theorem chunk2 (d : Fin 64) (c : Fin 256) : (pointChunks i x2 x3 x4 x5 2).out (ix2 d c)
    = softmaxSum (causal q k f (headOf i 1) (queryOf i ⟨c.val, by omega⟩)) fun x => u x (headOf i 1) d := by
  refine chunk_softmax q k f u _ _ _ d c (i 1).isLt (Or.inl rfl) rfl (fun x => ?_) (fun x => ?_) (fun x => value_of q k f u i x2 x3 x4 x5 h2 h3 h4 h5 _ rfl d x)
  · show ∑ j : Fin 128, x3 (ix2 x j) * k0_pay191 (k0_pay185 x2) (k0_pay186 i) (k0_pay187 i) (ix2 ⟨j.val, by omega⟩ c) = _
    simp only [qa2_at]
    rw [sum_high]
    refine dot_real q k _ _ x _ _ (fun d => ?_) (fun d => ?_)
    · exact h3 x 1 d
    · exact h2 1 d _
  · show ∑ j : Fin 128, x4 (ix2 x j) * k0_pay191 (k0_pay185 x2) (k0_pay186 i) (k0_pay187 i) (ix2 ⟨128 + j.val, by omega⟩ c) = _
    simp only [qa2_sel]
    exact sum_selected _ (headOf i 1).val (headOf i 1).isLt _ fun j hj => h4 x (headOf i 1) j hj

theorem chunk3 (d : Fin 64) (c : Fin 256) : (pointChunks i x2 x3 x4 x5 3).out (ix2 d c)
    = softmaxSum (causal q k f (headOf i 1) (queryOf i ⟨256 + c.val, by omega⟩)) fun x => u x (headOf i 1) d := by
  refine chunk_softmax q k f u _ _ _ d c (i 1).isLt (Or.inr rfl) (Nat.add_assoc _ _ _).symm (fun x => ?_) (fun x => ?_) (fun x => value_of q k f u i x2 x3 x4 x5 h2 h3 h4 h5 _ rfl d x)
  · show ∑ j : Fin 128, x3 (ix2 x j) * k0_pay192 (k0_pay185 x2) (k0_pay186 i) (k0_pay187 i) (ix2 ⟨j.val, by omega⟩ c) = _
    simp only [qa3_at]
    rw [sum_high]
    refine dot_real q k _ _ x _ _ (fun d => ?_) (fun d => ?_)
    · exact h3 x 1 d
    · exact h2 1 d _
  · show ∑ j : Fin 128, x4 (ix2 x j) * k0_pay192 (k0_pay185 x2) (k0_pay186 i) (k0_pay187 i) (ix2 ⟨128 + j.val, by omega⟩ c) = _
    simp only [qa3_sel]
    exact sum_selected _ (headOf i 1).val (headOf i 1).isLt _ fun j hj => h4 x (headOf i 1) j hj

omit h2 h3 h4 h5 in
theorem outBlk_at (C : Fin 4 → Chunk Ideal) (j0 : Fin 128) (j1 : Fin 512) : outBlk C (ix2 j0 j1)
    = (C (if j0.val < 64 then (if j1.val < 256 then 0 else 1) else (if j1.val < 256 then 2 else 3))).out
      (ix2 ⟨j0.val % 64, Nat.mod_lt _ (by decide)⟩ ⟨j1.val % 256, Nat.mod_lt _ (by decide)⟩) := rfl

/-- Every element of the block. -/
theorem block_at (j0 : Fin 128) (j1 : Fin 512) : outBlk (pointChunks i x2 x3 x4 x5) (ix2 j0 j1)
    = softmaxSum (causal q k f (headOf i ⟨j0.val / 64, by omega⟩) (queryOf i j1)) fun x => u x (headOf i ⟨j0.val / 64, by omega⟩) ⟨j0.val % 64, by omega⟩ := by
  have hj0 := j0.isLt
  have hj1 := j1.isLt
  rw [outBlk_at]
  by_cases a : j0.val < 64
  · have eh : (⟨j0.val / 64, by omega⟩ : Fin 2) = 0 := Fin.ext (by show j0.val / 64 = 0; omega)
    by_cases b : j1.val < 256
    · rw [if_pos a, if_pos b, chunk0 q k f u i x2 x3 x4 x5 h2 h3 h4 h5, eh]
      congr 3
      exact Fin.ext (by show j1.val % 256 = j1.val; omega)
    · rw [if_pos a, if_neg b, chunk1 q k f u i x2 x3 x4 x5 h2 h3 h4 h5, eh]
      congr 3
      exact Fin.ext (by show 256 + j1.val % 256 = j1.val; omega)
  · have eh : (⟨j0.val / 64, by omega⟩ : Fin 2) = 1 := Fin.ext (by show j0.val / 64 = 1; omega)
    by_cases b : j1.val < 256
    · rw [if_neg a, if_pos b, chunk2 q k f u i x2 x3 x4 x5 h2 h3 h4 h5, eh]
      congr 3
      exact Fin.ext (by show j1.val % 256 = j1.val; omega)
    · rw [if_neg a, if_neg b, chunk3 q k f u i x2 x3 x4 x5 h2 h3 h4 h5, eh]
      congr 3
      exact Fin.ext (by show 256 + j1.val % 256 = j1.val; omega)

end Block

end Cert.KernelIdeal.Attn

end
-- ==== Proof.ResultAt.lean ====
/- The result array of the attention after the run, and the finite arguments the precondition gives. -/
module

public import proofs.«01_k».proof.Proof.ScoreAt
public import proofs.«01_k».proof.Proof.Gen.Pre_finite_scores
public import proofs.«01_k».proof.Defs
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Cert.ReferenceIdeal.Attn (realScore causal)

/-! ## Where each window's block lies -/

theorem index0_0 : ∀ t : Fin cfg0.N, win0_0.index t = ![(grid0.coords t 0).val, (grid0.coords t 1).val] := by decide +kernel
theorem index0_1 : ∀ t : Fin cfg0.N, win0_1.index t = ![0, (grid0.coords t 0).val] := by decide +kernel
theorem index0_2 : ∀ t : Fin cfg0.N, win0_2.index t = ![0, 0] := by decide +kernel
theorem index0_3 : ∀ t : Fin cfg0.N, win0_3.index t = ![(grid0.coords t 0).val, 0, 0, 0] := by decide +kernel
theorem index0_4 : ∀ t : Fin cfg0.N, win0_4.index t = ![(grid0.coords t 0).val, (grid0.coords t 1).val] := by decide +kernel

variable (m : (ℓ : Loc nD τ sig) → Buf (Elt Ideal) ℓ) (c : Dev nD) (t : Fin cfg0.N)

theorem c0_lt : (grid0.coords t 0).val < 8 := (grid0.coords t 0).isLt
theorem c1_lt : (grid0.coords t 1).val < 32 := (grid0.coords t 1).isLt

theorem iblk0_at (r : Fin 128) (j : Fin 512) : (iblk m c 0 t : Vec Ideal S128x512 .bf16) (ix2 r j)
    = (V m c main_v7 : Vec Ideal S1024x16384 .bf16) (ix2 ⟨128 * (grid0.coords t 0).val + r.val, by have := c0_lt t; omega⟩ ⟨512 * (grid0.coords t 1).val + j.val, by have := c1_lt t; omega⟩) := by
  blk_ext [iblk, index0_0 t]

theorem iblk1_at (s : Fin 16384) (r : Fin 128) : (iblk m c 1 t : Vec Ideal S16384x128 .bf16) (ix2 s r)
    = (V m c main_v9 : Vec Ideal S16384x1024 .bf16) (ix2 s ⟨128 * (grid0.coords t 0).val + r.val, by have := c0_lt t; omega⟩) := by
  blk_ext [iblk, index0_1 t]

theorem iblk2_at (s : Fin 16384) (r : Fin 128) : (iblk m c 2 t : Vec Ideal S16384x128 .bf16) (ix2 s r)
    = (V m c main_v28 : Vec Ideal S16384x128 .bf16) (ix2 s r) := by
  blk_ext [iblk, index0_2 t]

theorem iblk3_at (h : Fin 2) (b d : Fin 64) (x : Fin 256) : (iblk m c 3 t : Vec Ideal S2x64x64x256 .bf16) (ix4 h b d x)
    = (V m c main_v14 : Vec Ideal S16x64x64x256 .bf16) (ix4 ⟨2 * (grid0.coords t 0).val + h.val, by have := c0_lt t; omega⟩ b d x) := by
  blk_ext [iblk, index0_3 t]

/-! ## The result -/

/-- The attention of real queries, keys and log gates with any values, as the result array holds it: head by rows of 64, queries
    along the lanes. -/
def attention (q k : Fin 16384 → Fin 16 → Fin 64 → ℝ) (f : Fin 16384 → Fin 16 → ℝ) (v : Vec Ideal S1x16384x16x64 .f32) : Vec Ideal S1024x16384 .f32 :=
  fun y => softmaxSum (causal q k f ⟨(y 0).val / 64, by have : (y 0).val < 1024 := (y 0).isLt; omega⟩ ⟨(y 1).val, (y 1).isLt⟩)
    fun x => v (ix4 0 x ⟨(y 0).val / 64, by have : (y 0).val < 1024 := (y 0).isLt; omega⟩ ⟨(y 0).val % 64, Nat.mod_lt _ (by decide)⟩)

variable (q k : Fin 16384 → Fin 16 → Fin 64 → ℝ) (f : Fin 16384 → Fin 16 → ℝ)
  (hq : ∀ s H d, argQ m c (ix4 0 s H d) = (q s H d : EReal)) (hk : ∀ s H d, argK m c (ix4 0 s H d) = (k s H d : EReal))
  (hf : ∀ s H, argF m c (ix3 0 s H) = (f s H : EReal))
include hq hk hf

theorem outAt_at (j0 : Fin 128) (j1 : Fin 512) : outAt m c t (ix2 j0 j1)
    = attention q k f (argV m c) (ix2 ⟨128 * (grid0.coords t 0).val + j0.val, by have := c0_lt t; omega⟩ ⟨512 * (grid0.coords t 1).val + j1.val, by have := c1_lt t; omega⟩) := by
  have h0 := c0_lt t
  have h1 := c1_lt t
  unfold outAt
  refine (block_at q k f (fun x H d => argV m c (ix4 0 x H d)) (grid0.coords t) (iblk m c 0 t) (iblk m c 1 t) (iblk m c 2 t) (iblk m c 3 t)
    (fun h d j => ?_) (fun x h d => ?_) (fun x H j hj => ?_) (fun h b d x => ?_) j0 j1).trans ?_
  · refine (iblk0_at m c t _ j).trans ((qt_at m c _ _).trans ?_)
    rw [hq]
    congr 3
    · exact Fin.ext (by show (128 * (grid0.coords t 0).val + (64 * h.val + d.val)) / 64 = 2 * (grid0.coords t 0).val + h.val; omega)
    · exact Fin.ext (by show (128 * (grid0.coords t 0).val + (64 * h.val + d.val)) % 64 = d.val; omega)
  · refine (iblk1_at m c t x _).trans ((kb_at m c _ _).trans ?_)
    rw [hk]
    congr 2
    · exact Fin.ext (by show (128 * (grid0.coords t 0).val + (64 * h.val + d.val)) / 64 = 2 * (grid0.coords t 0).val + h.val; omega)
    · exact Fin.ext (by show (128 * (grid0.coords t 0).val + (64 * h.val + d.val)) % 64 = d.val; omega)
  · exact (iblk2_at m c t x j).trans (fa_at m c f hf x j H hj)
  · exact (iblk3_at m c t h b d x).trans (vt_at m c _ b d x)
  · unfold attention
    simp only [ix2_0, ix2_1]
    have e1 : headOf (grid0.coords t) ⟨j0.val / 64, by omega⟩ = ⟨(128 * (grid0.coords t 0).val + j0.val) / 64, by omega⟩ :=
      Fin.ext (by show 2 * (grid0.coords t 0).val + j0.val / 64 = (128 * (grid0.coords t 0).val + j0.val) / 64; omega)
    have e2 : (⟨j0.val % 64, by omega⟩ : Fin 64) = ⟨(128 * (grid0.coords t 0).val + j0.val) % 64, by omega⟩ :=
      Fin.ext (by show j0.val % 64 = (128 * (grid0.coords t 0).val + j0.val) % 64; omega)
    rw [e1, e2]
    rfl

/-- The result array after the run. -/
theorem result_eq : (dats m 0 c).arrAt 4 cfg0.N = attention q k f (argV m c) := by
  refine (dats m 0 c).arrAt_eq_of_covers 4 _ (by decide +kernel) fun t hf' y => ?_
  blk_simp
  rw [after0_4]
  idx_vars y
  refine (outAt_at m c t q k f hq hk hf _ _).trans ?_
  congr 1
  blk_ext [index0_4 t]

end Cert.KernelIdeal.Attn

end
-- ==== Proof.Algebraic.lean ====
/- The value claim: wherever queries, keys and log gates are finite, the attention kernel and the reference end with the same
   result. -/
module

public import proofs.«01_k».proof.Proof.ResultAt

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

/-! ## Finite arguments -/

theorem pos_inf : Ideal.ofBits FTy.f32 0x7F800000#32 = ⊤ := by simp [Ideal.ofBits, Ideal.ieee]

/-- A value whose absolute value is below infinity is real. -/
theorem real_of_lt (x : EReal) (h : Ideal.cmp .olt (max x (-x)) (Ideal.ofBits FTy.f32 0x7F800000#32) = 1#1) : x = (x.toReal : EReal) := by
  rw [pos_inf] at h
  have h' : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  have h1 : x ≠ ⊤ := ((le_max_left _ _).trans_lt h').ne
  have h2 : x ≠ ⊥ := by
    intro hx
    have := ((le_max_right x (-x)).trans_lt h').ne
    rw [hx, EReal.neg_bot] at this
    exact this rfl
  exact (EReal.coe_toReal h1 h2).symm

theorem real_args (m : (ℓ : Loc nD τ sig) → Buf (Elt Ideal) ℓ) (c : Dev nD) (h : Cert.Pre_KernelIdeal_finite_scores m) :
    (∀ s H d, argQ m c (ix4 0 s H d) = ((argQ m c (ix4 0 s H d)).toReal : EReal))
      ∧ (∀ s H d, argK m c (ix4 0 s H d) = ((argK m c (ix4 0 s H d)).toReal : EReal))
      ∧ (∀ s H, argF m c (ix3 0 s H) = ((argF m c (ix3 0 s H)).toReal : EReal)) := by
  obtain ⟨h1, h2, h3⟩ := h c
  exact ⟨fun s H d => real_of_lt _ (congrFun h1 (ix4 0 s H d)), fun s H d => real_of_lt _ (congrFun h2 (ix4 0 s H d)),
    fun s H => real_of_lt _ (congrFun h3 (ix3 0 s H))⟩

/-! ## The two runs -/

/-- The result of the kernel from memory `m`. -/
def result (m : (ℓ : Loc nD τ sig) → Buf (Elt Ideal) ℓ) (c : Dev nD) : Vec Ideal S1024x16384 .f32 :=
  attention (fun s H d => (argQ m c (ix4 0 s H d)).toReal) (fun s H d => (argK m c (ix4 0 s H d)).toReal) (fun s H => (argF m c (ix3 0 s H)).toReal) (argV m c)

theorem kernel_run (m : (ℓ : Loc nD τ sig) → Buf (Elt Ideal) ℓ) (ρ : Dev nD → PrngReg) (h : Cert.Pre_KernelIdeal_finite_scores m) :
    θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
      have e := real_args m c h
      ⟨((hr.1 c).1 4).trans (result_eq m c _ _ _ e.1 e.2.1 e.2.2),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c)⟩)
    (run_main m ρ)

/-- The reference's result from arguments that agree. -/
theorem reference_result (m : (ℓ : Loc nD τ sig) → Buf (Elt Ideal) ℓ) (c : Dev nD) (h : Cert.Pre_KernelIdeal_finite_scores m)
    (m' : (ℓ : Loc Cert.ReferenceIdeal.nD Cert.ReferenceIdeal.τ Cert.ReferenceIdeal.sig) → Buf (Elt Ideal) ℓ) (c' : Dev Cert.ReferenceIdeal.nD)
    (h0 : (m' ((c'.tc : Thread Cert.ReferenceIdeal.nD Cert.ReferenceIdeal.τ).loc Cert.ReferenceIdeal.main_arg0) : Vec Ideal S1x16384x16x64 .f32) = argQ m c)
    (h1 : (m' ((c'.tc : Thread Cert.ReferenceIdeal.nD Cert.ReferenceIdeal.τ).loc Cert.ReferenceIdeal.main_arg1) : Vec Ideal S1x16384x16x64 .f32) = argK m c)
    (h2 : (m' ((c'.tc : Thread Cert.ReferenceIdeal.nD Cert.ReferenceIdeal.τ).loc Cert.ReferenceIdeal.main_arg2) : Vec Ideal S1x16384x16x64 .f32) = argV m c)
    (h3 : (m' ((c'.tc : Thread Cert.ReferenceIdeal.nD Cert.ReferenceIdeal.τ).loc Cert.ReferenceIdeal.main_arg3) : Vec Ideal S1x16384x16 .f32) = argF m c) :
    (Cert.ReferenceIdeal.Value.res_main_v32 m' c' : Vec Ideal S1024x16384 .f32) = result m c := by
  have e := real_args m c h
  funext y
  idx_vars y
  refine (Cert.ReferenceIdeal.Attn.ref_at m' c' _ _ _ (fun s H d => (congrFun h0 _).trans (e.1 s H d)) (fun s H d => (congrFun h1 _).trans (e.2.1 s H d))
    (fun s H => (congrFun h3 _).trans (e.2.2 s H)) _ _).trans ?_
  unfold result attention
  congr 1
  funext x
  exact congrFun h2 _

/-- Wherever queries, keys and log gates are finite the kernel computes the reference, exactly over the reals. -/
theorem algebraic : Cert.algebraic_KernelIdeal_ReferenceIdeal_pre_finite_scores := by
  intro m g m' g' hpre hargs
  refine ⟨fun c => result m c, kernel_run m g hpre, ?_⟩
  exact (θ_run Cert.ReferenceIdeal.defs _ _).mono (fun _ hr c =>
      ⟨(hr c).1.trans (reference_result m c hpre m' c (hargs c).1 (hargs c).2.1 (hargs c).2.2.1 (hargs c).2.2.2), (hr c).2⟩)
    (Cert.ReferenceIdeal.Value.run (F := Ideal) m' g')

end Cert.KernelIdeal.Attn

end
-- ==== Proof.Mix.lean ====
/- The projections of one row over the extended reals: the row divided by its root mean square, scaled and shifted, then multiplied
   into a column; and the logarithm of the logistic function in the two forms that the programs compute. -/
module

public import Idealize.ShloMosaic.PureOps.Ideal
public import Idealize.ShloMosaic.Lib.IdealHost

@[expose] public section

noncomputable section

namespace Cert.Mix

open Idealize.ShloMosaic

/-- A row divided by its root mean square, scaled and shifted. -/
def normed (x g sc sh : Fin 1024 → EReal) (j : Fin 1024) : EReal :=
  x j * Ideal.rsqrt (Ideal.div (∑ k, x k * x k) (Ideal.ofBits FTy.f32 0x44800000#32) + Ideal.ofBits FTy.f32 0x358637BD#32) * g j * (1 + sc j) + sh j

/-- That row times a column. -/
def proj (x g sc sh w : Fin 1024 → EReal) : EReal := ∑ k, normed x g sc sh k * w k

/-- The logistic function. -/
def sigm (z : EReal) : EReal := Ideal.div 1 (1 + Ideal.exp (-z))

/-- The logarithm of the logistic function. -/
def logSig (z : EReal) : EReal := min z 0 - Ideal.log1p (Ideal.exp (0 - max z (-z)))

theorem log1p_exp_ne_bot (w : EReal) : Ideal.log1p (Ideal.exp w) ≠ ⊥ := by
  induction w using EReal.rec with
  | bot =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | top =>
    show Ideal.log (1 + ⊤) ≠ ⊥
    rw [show (1 : EReal) + ⊤ = ⊤ from EReal.coe_add_top 1]
    show (⊤ : EReal) ≠ ⊥
    exact top_ne_bot
  | coe r =>
    show Ideal.log (((1 : ℝ) : EReal) + ((Real.exp r : ℝ) : EReal)) ≠ ⊥
    rw [← EReal.coe_add]
    show (if (1 + Real.exp r : ℝ) ≤ 0 then (⊥ : EReal) else ((Real.log (1 + Real.exp r) : ℝ) : EReal)) ≠ ⊥
    rw [if_neg (by have := Real.exp_pos r; linarith)]
    exact EReal.coe_ne_bot _

theorem neg_max_neg (z : EReal) : -(max (-z) 0) = min z 0 := by
  rcases le_total z 0 with h | h
  · rw [max_eq_left (by rwa [EReal.le_neg, neg_zero]), neg_neg, min_eq_left h]
  · rw [max_eq_right (by rwa [EReal.neg_le, neg_zero]), neg_zero, min_eq_right h]

/-- Minus the softplus of the negation is the logarithm of the logistic function, at the infinities too. -/
theorem neg_softplus (z : EReal) : -(max (-z) 0 + Ideal.log1p (Ideal.exp (-(max (-z) (-(-z)))))) = logSig z := by
  have h0 : (0 : EReal) ≤ max (-z) 0 := le_max_right _ _
  rw [EReal.neg_add (Or.inl (ne_of_gt (lt_of_lt_of_le EReal.bot_lt_zero h0))) (Or.inr (log1p_exp_ne_bot _)), neg_max_neg, logSig, neg_neg, max_comm, zero_sub]

end Cert.Mix

end
-- ==== Proof.QkvAt.lean ====
/- The blocks of keys, values and log gates that one point of the prompt's projection stores, at an index. -/
module

public import proofs.«01_k».proof.Proof.Mix
public import proofs.«01_k».proof.Proof.Gen.Kernel2Ideal.Skeleton
public import Idealize.ShloMosaic.Lib.Pointwise
public import Idealize.ShloMosaic.Lib.PointwiseCore
public import Idealize.ShloMosaic.Lib.IdealHost

@[expose] public section

set_option maxRecDepth 16384

noncomputable section

namespace Cert.Kernel2Ideal.Qkv

open Cert.Kernel2Ideal Cert.Kernel2Ideal.Gen
open Idealize.ShloMosaic Idealize.ShloMosaic.TcCoe Idealize.ShloMosaic.Tactic
open Cert.Mix (normed proj logSig)

variable (x : Vec Ideal S256x1024 .f32) (g a b : Vec Ideal S1x1024 .f32)

theorem pay4_at (r : Fin 256) (j : Fin 1024) : k0_pay4 x g a b (ix2 r j)
    = x (ix2 r j) * Ideal.rsqrt (Ideal.div (∑ k : Fin 1024, x (ix2 r k) * x (ix2 r k)) (Ideal.ofBits FTy.f32 0x44800000#32) + Ideal.ofBits FTy.f32 0x358637BD#32) * g (ix2 0 j) * a (ix2 0 j) + b (ix2 0 j) := by
  pointwise [k0_pay4]

theorem pay5_at (w : Vec Ideal S1024x1024 .bf16) (r : Fin 256) (j : Fin 1024) : k0_pay5 x g a b w (ix2 r j)
    = ∑ k : Fin 1024, k0_pay4 x g a b (ix2 r k) * w (ix2 k j) := by
  pointwise [k0_pay5]

theorem pay8_at (h : FVec Ideal S256x1024 .bf16) (w : Vec Ideal S1024x1024 .bf16) (r : Fin 256) (j : Fin 1024) : k0_pay8 h (k0_pay7 w) (ix2 r j)
    = ∑ k : Fin 1024, h (ix2 r k) * w (ix2 k j) := by
  pointwise [k0_pay8, k0_pay7]

theorem pay29_at (h : FVec Ideal S256x1024 .bf16) (w : Vec Ideal S1024x128 .bf16) (r : Fin 256) (j : Fin 128) : k0_pay29 h w (ix2 r j)
    = ∑ k : Fin 1024, h (ix2 r k) * w (ix2 k j) := by
  pointwise [k0_pay29]

theorem pay31_at (z : FVec Ideal S256x128 .f32) (w : Vec Ideal S1x128 .f32) (r : Fin 256) (j : Fin 16) : k0_pay31 z w (ix2 r j)
    = logSig (z (ix2 r ⟨j.val, by omega⟩) + w (ix2 0 ⟨j.val, by omega⟩)) := by
  pointwise [k0_pay31, k0_pay30]
  rfl

end Cert.Kernel2Ideal.Qkv

end
-- ==== Proof.QkvHost.lean ====
/- The arrays that the prompt's projection reads, at an index over the arguments. -/
module

public import proofs.«01_k».proof.Proof.QkvAt
public import proofs.«01_k».proof.Proof.Gen.Kernel2Ideal.Frame.Runs
public import Idealize.ShloMosaic.Lib.IdealHost
public import Idealize.ShloMosaic.Lib.StableHlo.ReadAt
public import Idealize.ShloMosaic.Lib.Tactic.IndexArith

@[expose] public section

set_option maxRecDepth 16384

noncomputable section

namespace Cert.Kernel2Ideal.Qkv

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

abbrev argX : Vec Ideal S16384x1024 .f32 := m ((c : Thread nD τ).loc main_arg0)
abbrev argSc : Vec Ideal S1x1024 .f32 := m ((c : Thread nD τ).loc main_arg1)
abbrev argSh : Vec Ideal S1x1024 .f32 := m ((c : Thread nD τ).loc main_arg2)
abbrev argG : Vec Ideal S1024 .f32 := m ((c : Thread nD τ).loc main_arg3)
abbrev argW : Vec Ideal S1024x8208 .f32 := m ((c : Thread nD τ).loc main_arg4)
abbrev argB : Vec Ideal S16 .f32 := m ((c : Thread nD τ).loc main_arg5)

theorem x_at (s : Fin 16384) (j : Fin 1024) : (V m c main_arg0 : Vec Ideal S16384x1024 .f32) (ix2 s j) = argX m c (ix2 s j) := by
  unfold V hostOps0 hostOps0_1 hostOps0_2 hostOps0_3 hostOps0_4
  simp only [List.flatten_cons, List.flatten_nil, List.append_nil, List.cons_append, List.nil_append]
  after_reads_at

theorem sh_at (j : Fin 1024) : (V m c main_arg2 : Vec Ideal S1x1024 .f32) (ix2 0 j) = argSh m c (ix2 0 j) := by
  unfold V hostOps0 hostOps0_1 hostOps0_2 hostOps0_3 hostOps0_4
  simp only [List.flatten_cons, List.flatten_nil, List.append_nil, List.cons_append, List.nil_append]
  after_reads_at

theorem mul_at (j : Fin 1024) : (V m c main_v23 : Vec Ideal S1x1024 .f32) (ix2 0 j) = 1 + argSc m c (ix2 0 j) := by
  unfold V hostOps0 hostOps0_1 hostOps0_2 hostOps0_3 hostOps0_4
  simp only [List.flatten_cons, List.flatten_nil, List.append_nil, List.cons_append, List.nil_append]
  after_reads_at

theorem g_at (j : Fin 1024) : (V m c main_v24 : Vec Ideal S1x1024 .f32) (ix2 0 j) = argG m c (ix1 j) := by
  unfold V hostOps0 hostOps0_1 hostOps0_2 hostOps0_3 hostOps0_4
  simp only [List.flatten_cons, List.flatten_nil, List.append_nil, List.cons_append, List.nil_append]
  after_reads_at

theorem wk_at (k j : Fin 1024) : (V m c main_v20 : Vec Ideal S1024x1024 .bf16) (ix2 k j) = argW m c (ix2 k ⟨1024 + j.val, by omega⟩) := by
  unfold V hostOps0 hostOps0_1 hostOps0_2 hostOps0_3 hostOps0_4
  simp only [List.flatten_cons, List.flatten_nil, List.append_nil, List.cons_append, List.nil_append]
  after_reads_at

theorem wv_at (k j : Fin 1024) : (V m c main_v21 : Vec Ideal S1024x1024 .bf16) (ix2 k j) = argW m c (ix2 k ⟨2048 + j.val, by omega⟩) := by
  unfold V hostOps0 hostOps0_1 hostOps0_2 hostOps0_3 hostOps0_4
  simp only [List.flatten_cons, List.flatten_nil, List.append_nil, List.cons_append, List.nil_append]
  after_reads_at

theorem wf_at (k : Fin 1024) (j : Fin 16) : (V m c main_v13 : Vec Ideal S1024x128 .bf16) (ix2 k ⟨j.val, by omega⟩) = argW m c (ix2 k ⟨3072 + j.val, by omega⟩) := by
  unfold V hostOps0 hostOps0_1 hostOps0_2 hostOps0_3 hostOps0_4
  simp only [List.flatten_cons, List.flatten_nil, List.append_nil, List.cons_append, List.nil_append]
  after_reads_at
  rw [dif_pos (by omega)]
  have e : (⟨3072 + j.val % 16, by omega⟩ : Fin 8208) = ⟨3072 + j.val, by omega⟩ := Fin.ext (by show 3072 + j.val % 16 = 3072 + j.val; omega)
  exact congrArg (fun q => argW m c (ix2 k q)) e

theorem fb_at (j : Fin 16) : (V m c main_v18 : Vec Ideal S1x128 .f32) (ix2 0 ⟨j.val, by omega⟩) = argB m c (ix1 j) := by
  unfold V hostOps0 hostOps0_1 hostOps0_2 hostOps0_3 hostOps0_4
  simp only [List.flatten_cons, List.flatten_nil, List.append_nil, List.cons_append, List.nil_append]
  after_reads_at
  rw [dif_pos (by omega)]
  have e : (⟨j.val % 16, by omega⟩ : Fin 16) = j := Fin.ext (by show j.val % 16 = j.val; omega)
  exact congrArg (fun q => argB m c (ix1 q)) e

end Cert.Kernel2Ideal.Qkv

end
-- ==== Proof.QkvRef.lean ====
/- The reference's keys, values and log gates of the prompt, at an index. -/
module

public import proofs.«01_k».proof.Proof.Mix
public import proofs.«01_k».proof.Proof.Gen.Reference2Ideal.Run
public import Idealize.ShloMosaic.Lib.Pointwise
public import Idealize.ShloMosaic.Lib.PointwiseCore
public import Idealize.ShloMosaic.Lib.IdealHost

@[expose] public section

set_option maxRecDepth 16384

noncomputable section

namespace Cert.Reference2Ideal.Qkv

open Cert.Reference2Ideal Cert.Reference2Ideal.Value Cert.Reference2Ideal.Gen
open Idealize.ShloMosaic Idealize.ShloMosaic.TcCoe Idealize.ShloMosaic.Tactic
open Cert.Mix (normed proj logSig)

/-- The normalised rows. -/
def rows (x : FVec Ideal S16384x1024 .f32) (sc sh : FVec Ideal S1x1024 .f32) (g : FVec Ideal S1024 .f32) : FVec Ideal S16384x1024 .f32 :=
  addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (addf (broadcastInDim S1x1024 ![] bcast_S_S1x1024 (constant S_ .f32 0x3F800000#32)) sc))) (broadcastInDim S16384x1024 ![0, 1] bcast_S1x1024_S16384x1024_0_1 sh)

theorem rows_at (x : FVec Ideal S16384x1024 .f32) (sc sh : FVec Ideal S1x1024 .f32) (g : FVec Ideal S1024 .f32) (s : Fin 16384) (j : Fin 1024) :
    rows x sc sh g (ix2 s j) = normed (fun k => x (ix2 s k)) (fun k => g (ix1 k)) (fun k => sc (ix2 0 k)) (fun k => sh (ix2 0 k)) j := by
  pointwise [rows]
  rfl

/-- The projection of the rows to all columns. -/
def cols (h : FVec Ideal S16384x1024 .f32) (w : FVec Ideal S1024x8208 .f32) : FVec Ideal S16384x8208 .f32 :=
  Host.dotGeneral dot_S16384x1024_S1024x8208_S16384x8208_1_0_0_1_n_n none h w

theorem cols_at (h : FVec Ideal S16384x1024 .f32) (w : FVec Ideal S1024x8208 .f32) (s : Fin 16384) (j : Fin 8208) :
    cols h w (ix2 s j) = ∑ k : Fin 1024, h (ix2 s k) * w (ix2 k j) := by
  pointwise [cols]

theorem key_at (p : FVec Ideal S16384x8208 .f32) (s : Fin 16384) (j : Fin 1024) :
    extractStridedSlice S16384x1024 ![0, 1024] p slices_S16384x8208_S16384x1024_0_1024 (ix2 s j) = p (ix2 s ⟨1024 + j.val, by omega⟩) := by
  pointwise []

theorem value_at (p : FVec Ideal S16384x8208 .f32) (s : Fin 16384) (j : Fin 1024) :
    extractStridedSlice S16384x1024 ![0, 2048] p slices_S16384x8208_S16384x1024_0_2048 (ix2 s j) = p (ix2 s ⟨2048 + j.val, by omega⟩) := by
  pointwise []

/-- The log gates of the projection and the bias. -/
def gates (p : FVec Ideal S16384x8208 .f32) (b : FVec Ideal S16 .f32) : FVec Ideal S16384x16 .f32 :=
  addf (extractStridedSlice S16384x16 ![0, 3072] p slices_S16384x8208_S16384x16_0_3072) (broadcastInDim S16384x16 ![0, 1] bcast_S1x16_S16384x16_0_1 (broadcastInDim S1x16 ![1] bcast_S16_S1x16_1 b))

theorem gates_at (p : FVec Ideal S16384x8208 .f32) (b : FVec Ideal S16 .f32) (s : Fin 16384) (j : Fin 16) :
    gates p b (ix2 s j) = p (ix2 s ⟨3072 + j.val, by omega⟩) + b (ix1 j) := by
  pointwise [gates]

/-- Minus the softplus of the negation. -/
def soft (z : FVec Ideal S16384x16 .f32) : FVec Ideal S16384x16 .f32 :=
  Host.negf (select (cmpf .une (subf (Host.negf z) (broadcastInDim S16384x16 ![] bcast_S_S16384x16 (constant S_ .f32 0x00000000#32))) (subf (Host.negf z) (broadcastInDim S16384x16 ![] bcast_S_S16384x16 (constant S_ .f32 0x00000000#32)))) (addf (Host.negf z) (broadcastInDim S16384x16 ![] bcast_S_S16384x16 (constant S_ .f32 0x00000000#32))) (addf (maximumf (Host.negf z) (broadcastInDim S16384x16 ![] bcast_S_S16384x16 (constant S_ .f32 0x00000000#32))) (Host.log1p (Host.exp (Host.negf (Host.absf (subf (Host.negf z) (broadcastInDim S16384x16 ![] bcast_S_S16384x16 (constant S_ .f32 0x00000000#32)))))))))

theorem soft_at (z : FVec Ideal S16384x16 .f32) (s : Fin 16384) (j : Fin 16) : soft z (ix2 s j) = logSig (z (ix2 s j)) := by
  pointwise [soft]
  rw [if_neg (fun h => h rfl)]
  exact Cert.Mix.neg_softplus _

theorem res_eq (m : (ℓ : Loc nD τ sig) → Buf (Elt Ideal) ℓ) (c : Dev nD) : res_main_v26 m c
    = soft (gates (cols (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) := rfl

end Cert.Reference2Ideal.Qkv

end
-- ==== Proof.Qkv.lean ====
/- The keys, values and log gates that the prompt's projection leaves, and the value claim: they are the reference's. -/
module

public import proofs.«01_k».proof.Proof.QkvHost
public import proofs.«01_k».proof.Proof.QkvRef
public import proofs.«01_k».proof.Proof.Gen.Kernel2Ideal.Value
public import proofs.«01_k».proof.Defs
public import Idealize.ShloMosaic.Lib.Pipeline.ValueKit

@[expose] public section

set_option maxRecDepth 16384

noncomputable section

namespace Cert.Kernel2Ideal.Qkv

open Cert.Kernel2Ideal Cert.Kernel2Ideal.Gen
open Idealize.ShloMosaic Idealize.ShloMosaic.TcCoe Idealize.ShloMosaic.Tactic Idealize.SL.Sem
open Cert.Mix (normed proj logSig)

/-! ## Where each window's block lies -/

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
theorem index0_5 : ∀ t : Fin cfg0.N, win0_5.index t = ![0, 0] := by decide +kernel
theorem index0_6 : ∀ t : Fin cfg0.N, win0_6.index t = ![0, 0] := by decide +kernel
theorem index0_8 : ∀ t : Fin cfg0.N, win0_8.index t = ![0, 0] := by decide +kernel
theorem index0_9 : ∀ t : Fin cfg0.N, win0_9.index t = ![0, 0] := by decide +kernel
theorem index0_10 : ∀ t : Fin cfg0.N, win0_10.index t = ![t.val, 0] := by decide +kernel
theorem index0_11 : ∀ t : Fin cfg0.N, win0_11.index t = ![t.val, 0] := by decide +kernel
theorem index0_12 : ∀ t : Fin cfg0.N, win0_12.index t = ![t.val, 0] := by decide +kernel

variable (m : (ℓ : Loc nD τ sig) → Buf (Elt Ideal) ℓ) (c : Dev nD) (t : Fin cfg0.N)

theorem t_lt : t.val < 64 := t.isLt

theorem iblk0_at (r : Fin 256) (j : Fin 1024) : (iblk m c 0 t : Vec Ideal S256x1024 .f32) (ix2 r j)
    = (V m c main_arg0 : Vec Ideal S16384x1024 .f32) (ix2 ⟨256 * t.val + r.val, by have := t_lt t; omega⟩ j) := by
  blk_ext [iblk, index0_0 t]

theorem iblk1_at (j : Fin 1024) : (iblk m c 1 t : Vec Ideal S1x1024 .f32) (ix2 0 j) = (V m c main_v23 : Vec Ideal S1x1024 .f32) (ix2 0 j) := by
  blk_ext [iblk, index0_1 t]

theorem iblk2_at (j : Fin 1024) : (iblk m c 2 t : Vec Ideal S1x1024 .f32) (ix2 0 j) = (V m c main_arg2 : Vec Ideal S1x1024 .f32) (ix2 0 j) := by
  blk_ext [iblk, index0_2 t]

theorem iblk3_at (j : Fin 1024) : (iblk m c 3 t : Vec Ideal S1x1024 .f32) (ix2 0 j) = (V m c main_v24 : Vec Ideal S1x1024 .f32) (ix2 0 j) := by
  blk_ext [iblk, index0_3 t]

theorem iblk5_at (k j : Fin 1024) : (iblk m c 5 t : Vec Ideal S1024x1024 .bf16) (ix2 k j) = (V m c main_v20 : Vec Ideal S1024x1024 .bf16) (ix2 k j) := by
  blk_ext [iblk, index0_5 t]

theorem iblk6_at (k j : Fin 1024) : (iblk m c 6 t : Vec Ideal S1024x1024 .bf16) (ix2 k j) = (V m c main_v21 : Vec Ideal S1024x1024 .bf16) (ix2 k j) := by
  blk_ext [iblk, index0_6 t]

theorem iblk8_at (k : Fin 1024) (j : Fin 128) : (iblk m c 8 t : Vec Ideal S1024x128 .bf16) (ix2 k j) = (V m c main_v13 : Vec Ideal S1024x128 .bf16) (ix2 k j) := by
  blk_ext [iblk, index0_8 t]

theorem iblk9_at (j : Fin 128) : (iblk m c 9 t : Vec Ideal S1x128 .f32) (ix2 0 j) = (V m c main_v18 : Vec Ideal S1x128 .f32) (ix2 0 j) := by
  blk_ext [iblk, index0_9 t]

/-! ## The results -/

/-- Row `s` times column `j` of all projections. -/
def projAt (s : Fin 16384) (j : Fin 8208) : EReal :=
  proj (fun k => argX m c (ix2 s k)) (fun k => argG m c (ix1 k)) (fun k => argSc m c (ix2 0 k)) (fun k => argSh m c (ix2 0 k)) (fun k => argW m c (ix2 k j))

def keys : Vec Ideal S16384x1024 .f32 := fun y => projAt m c ⟨(y 0).val, (y 0).isLt⟩ ⟨1024 + (y 1).val, by have : (y 1).val < 1024 := (y 1).isLt; omega⟩
def values : Vec Ideal S16384x1024 .f32 := fun y => projAt m c ⟨(y 0).val, (y 0).isLt⟩ ⟨2048 + (y 1).val, by have : (y 1).val < 1024 := (y 1).isLt; omega⟩
def gates : Vec Ideal S16384x16 .f32 := fun y =>
  logSig (projAt m c ⟨(y 0).val, (y 0).isLt⟩ ⟨3072 + (y 1).val, by have : (y 1).val < 16 := (y 1).isLt; omega⟩ + argB m c (ix1 ⟨(y 1).val, (y 1).isLt⟩))

/-- The normalised block. -/
abbrev hb : FVec Ideal S256x1024 .bf16 := k0_pay4 (iblk m c 0 t : Vec Ideal S256x1024 .f32) (iblk m c 3 t : Vec Ideal S1x1024 .f32) (iblk m c 1 t : Vec Ideal S1x1024 .f32) (iblk m c 2 t : Vec Ideal S1x1024 .f32)

theorem hb_at (r : Fin 256) (j : Fin 1024) : hb m c t (ix2 r j)
    = normed (fun k => argX m c (ix2 ⟨256 * t.val + r.val, by have := t_lt t; omega⟩ k)) (fun k => argG m c (ix1 k)) (fun k => argSc m c (ix2 0 k)) (fun k => argSh m c (ix2 0 k)) j := by
  unfold hb normed
  rw [pay4_at]
  have h0 : ∀ k, (iblk m c 0 t : Vec Ideal S256x1024 .f32) (ix2 r k) = argX m c (ix2 ⟨256 * t.val + r.val, by have := t_lt t; omega⟩ k) := fun k => (iblk0_at m c t r k).trans (x_at m c _ k)
  rw [(iblk1_at m c t j).trans (mul_at m c j), (iblk2_at m c t j).trans (sh_at m c j), (iblk3_at m c t j).trans (g_at m c j)]
  simp only [h0]

theorem proj_at (w : Fin 1024 → EReal) (r : Fin 256) (j : Fin 8208) (hw : ∀ k, w k = argW m c (ix2 k j)) :
    (∑ k : Fin 1024, hb m c t (ix2 r k) * w k : EReal) = projAt m c ⟨256 * t.val + r.val, by have := t_lt t; omega⟩ j := by
  unfold projAt proj
  exact Finset.sum_congr rfl fun k _ => congrArg₂ (· * ·) (hb_at m c t r k) (hw k)

theorem out10 : (outsAt0 m c t.val t.isLt).1 = k0_pay5 (iblk m c 0 t : Vec Ideal S256x1024 .f32) (iblk m c 3 t : Vec Ideal S1x1024 .f32) (iblk m c 1 t : Vec Ideal S1x1024 .f32) (iblk m c 2 t : Vec Ideal S1x1024 .f32) (iblk m c 5 t : Vec Ideal S1024x1024 .bf16) := by
  by_cases h0 : t.val % 64 = 0
  · rw [Gen.outsAt0_A m c t h0]; frame_out
  · rw [Gen.outsAt0_B m c t h0]; frame_out

theorem out11 : (outsAt0 m c t.val t.isLt).2.1 = k0_pay8 (hb m c t) (k0_pay7 (iblk m c 6 t : Vec Ideal S1024x1024 .bf16)) := by
  by_cases h0 : t.val % 64 = 0
  · rw [Gen.outsAt0_A m c t h0]; frame_out
  · rw [Gen.outsAt0_B m c t h0]; frame_out

theorem out12 : (outsAt0 m c t.val t.isLt).2.2.1 = k0_pay31 (k0_pay29 (hb m c t) (iblk m c 8 t : Vec Ideal S1024x128 .bf16)) (iblk m c 9 t : Vec Ideal S1x128 .f32) := by
  by_cases h0 : t.val % 64 = 0
  · rw [Gen.outsAt0_A m c t h0]; frame_out
  · rw [Gen.outsAt0_B m c t h0]; frame_out

theorem keys_eq : (dats m 0 c).arrAt 10 cfg0.N = keys m c := by
  refine (dats m 0 c).arrAt_eq_of_covers 10 _ (by decide +kernel) fun t hf' y => ?_
  blk_simp
  rw [after0_10, out10]
  idx_vars y
  refine (pay5_at _ _ _ _ _ _ _).trans ((proj_at m c t _ _ ⟨1024 + _, _⟩ fun k => (iblk5_at m c t k _).trans (wk_at m c k _)).trans ?_)
  show keys m c (ix2 (⟨256 * t.val + y0.val, by have := t_lt t; omega⟩ : Fin 16384) y1) = _
  congr 1
  blk_ext [index0_10 t]

theorem values_eq : (dats m 0 c).arrAt 11 cfg0.N = values m c := by
  refine (dats m 0 c).arrAt_eq_of_covers 11 _ (by decide +kernel) fun t hf' y => ?_
  blk_simp
  rw [after0_11, out11]
  idx_vars y
  refine (pay8_at _ _ _ _).trans ((proj_at m c t _ _ ⟨2048 + _, _⟩ fun k => (iblk6_at m c t k _).trans (wv_at m c k _)).trans ?_)
  show values m c (ix2 (⟨256 * t.val + y0.val, by have := t_lt t; omega⟩ : Fin 16384) y1) = _
  congr 1
  blk_ext [index0_11 t]

theorem gates_eq : (dats m 0 c).arrAt 12 cfg0.N = gates m c := by
  refine (dats m 0 c).arrAt_eq_of_covers 12 _ (by decide +kernel) fun t hf' y => ?_
  blk_simp
  rw [after0_12, out12]
  idx_vars y
  refine (pay31_at _ _ _ _).trans ?_
  rw [pay29_at, iblk9_at, fb_at]
  rw [proj_at m c t _ _ ⟨3072 + _, _⟩ fun k => (iblk8_at m c t k _).trans (wf_at m c k _)]
  show gates m c (ix2 (⟨256 * t.val + y0.val, by have := t_lt t; omega⟩ : Fin 16384) y1) = _
  congr 1
  blk_ext [index0_12 t]

/-! ## The value claim -/

theorem kernel_run (ρ : Dev nD → PrngReg) :
    θ_run defs (onTc (τ := τ) (main (F := Ideal))) ⟨m, fun _ => 0, ρ⟩ (fun r => ∀ c : Dev nD,
      r.2.mem ((c.tc : Thread nD τ).loc main_v27_0) = keys m c
      ∧ r.2.mem ((c.tc : Thread nD τ).loc main_v27_1) = values m c
      ∧ r.2.mem ((c.tc : Thread nD τ).loc main_v27_2) = gates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => by
      obtain ⟨h0, h1, h2, -, -, -, -, hk⟩ := hr c
      exact ⟨h0.trans (keys_eq m c), h1.trans (values_eq m c), h2.trans (gates_eq m c), hk⟩)
    (Cert.Kernel2Ideal.Value.run_blocks m ρ)

/-- The reference's projection of its own arguments. -/
abbrev refCols (m' : (ℓ : Loc Cert.Reference2Ideal.nD Cert.Reference2Ideal.τ Cert.Reference2Ideal.sig) → Buf (Elt Ideal) ℓ) (c' : Dev Cert.Reference2Ideal.nD) : FVec Ideal Cert.Reference2Ideal.S16384x8208 .f32 :=
  Cert.Reference2Ideal.Qkv.cols (Cert.Reference2Ideal.Qkv.rows (m' ((c'.tc : Thread Cert.Reference2Ideal.nD Cert.Reference2Ideal.τ).loc Cert.Reference2Ideal.main_arg0)) (m' ((c'.tc : Thread Cert.Reference2Ideal.nD Cert.Reference2Ideal.τ).loc Cert.Reference2Ideal.main_arg1))
    (m' ((c'.tc : Thread Cert.Reference2Ideal.nD Cert.Reference2Ideal.τ).loc Cert.Reference2Ideal.main_arg2)) (m' ((c'.tc : Thread Cert.Reference2Ideal.nD Cert.Reference2Ideal.τ).loc Cert.Reference2Ideal.main_arg3))) (m' ((c'.tc : Thread Cert.Reference2Ideal.nD Cert.Reference2Ideal.τ).loc Cert.Reference2Ideal.main_arg4))

theorem refCols_at (m' : (ℓ : Loc Cert.Reference2Ideal.nD Cert.Reference2Ideal.τ Cert.Reference2Ideal.sig) → Buf (Elt Ideal) ℓ) (c' : Dev Cert.Reference2Ideal.nD)
    (h0 : (m' ((c'.tc : Thread Cert.Reference2Ideal.nD Cert.Reference2Ideal.τ).loc Cert.Reference2Ideal.main_arg0) : Vec Ideal S16384x1024 .f32) = argX m c)
    (h1 : (m' ((c'.tc : Thread Cert.Reference2Ideal.nD Cert.Reference2Ideal.τ).loc Cert.Reference2Ideal.main_arg1) : Vec Ideal S1x1024 .f32) = argSc m c)
    (h2 : (m' ((c'.tc : Thread Cert.Reference2Ideal.nD Cert.Reference2Ideal.τ).loc Cert.Reference2Ideal.main_arg2) : Vec Ideal S1x1024 .f32) = argSh m c)
    (h3 : (m' ((c'.tc : Thread Cert.Reference2Ideal.nD Cert.Reference2Ideal.τ).loc Cert.Reference2Ideal.main_arg3) : Vec Ideal S1024 .f32) = argG m c)
    (h4 : (m' ((c'.tc : Thread Cert.Reference2Ideal.nD Cert.Reference2Ideal.τ).loc Cert.Reference2Ideal.main_arg4) : Vec Ideal S1024x8208 .f32) = argW m c)
    (s : Fin 16384) (j : Fin 8208) : refCols m' c' (ix2 s j) = projAt m c s j := by
  refine (Cert.Reference2Ideal.Qkv.cols_at _ _ s j).trans ?_
  unfold projAt proj
  refine Finset.sum_congr rfl fun k _ => congrArg₂ (· * ·) ?_ (congrFun h4 _)
  refine (Cert.Reference2Ideal.Qkv.rows_at _ _ _ _ s k).trans ?_
  rw [h0, h1, h2, h3]

/-- The projection kernel computes the reference's keys, values and log gates, exactly over the reals. -/
theorem algebraic : Cert.algebraic_Kernel2Ideal_Reference2Ideal := by
  intro m g m' g' _ hargs
  refine ⟨fun c => keys m c, fun c => values m c, fun c => gates m c, kernel_run m g, ?_⟩
  refine (θ_run Cert.Reference2Ideal.defs _ _).mono (fun _ hr c => ?_) (Cert.Reference2Ideal.Value.run (F := Ideal) m' g')
  obtain ⟨e0, e1, e2, hk⟩ := hr c
  obtain ⟨a0, a1, a2, a3, a4, a5⟩ := hargs c
  have hc := refCols_at m c m' c a0 a1 a2 a3 a4
  refine ⟨e0.trans ?_, e1.trans ?_, e2.trans ?_, hk⟩
  · funext y
    idx_vars y
    exact (Cert.Reference2Ideal.Qkv.key_at (refCols m' c) y0 y1).trans (hc _ _)
  · funext y
    idx_vars y
    exact (Cert.Reference2Ideal.Qkv.value_at (refCols m' c) y0 y1).trans (hc _ _)
  · rw [Cert.Reference2Ideal.Qkv.res_eq]
    funext y
    idx_vars y
    refine (Cert.Reference2Ideal.Qkv.soft_at _ y0 y1).trans (congrArg logSig ?_)
    exact (Cert.Reference2Ideal.Qkv.gates_at (refCols m' c) _ y0 y1).trans (congrArg₂ (· + ·) (hc _ _) (congrFun a5 _))

end Cert.Kernel2Ideal.Qkv

end
-- ==== Proof.GatePAt.lean ====
/- What the prompt's gates compute from their blocks, and the arrays that they read, at an index. -/
module

public import proofs.«01_k».proof.Proof.Mix
public import proofs.«01_k».proof.Proof.Gen.Kernel3Ideal.Value
public import Idealize.ShloMosaic.Lib.Pointwise
public import Idealize.ShloMosaic.Lib.PointwiseCore
public import Idealize.ShloMosaic.Lib.IdealHost
public import Idealize.ShloMosaic.Lib.StableHlo.ReadAt
public import Idealize.ShloMosaic.Lib.Tactic.IndexArith
public import Idealize.ShloMosaic.Lib.Pipeline.ValueKit

@[expose] public section

set_option maxRecDepth 16384

noncomputable section

namespace Cert.Kernel3Ideal.GateP

open Cert.Kernel3Ideal Cert.Kernel3Ideal.Gen
open Idealize.ShloMosaic Idealize.ShloMosaic.TcCoe Idealize.ShloMosaic.Tactic
open Cert.Mix (normed proj sigm)

/-! ## The stored values -/

section Payloads

variable (x : Vec Ideal S256x1024 .f32) (g a b : Vec Ideal S1x1024 .f32)

theorem pay3_at (r : Fin 256) (j : Fin 1024) : k0_pay3 x g a b (ix2 r j)
    = x (ix2 r j) * Ideal.rsqrt (Ideal.div (∑ k : Fin 1024, x (ix2 r k) * x (ix2 r k)) (Ideal.ofBits FTy.f32 0x44800000#32) + Ideal.ofBits FTy.f32 0x358637BD#32) * g (ix2 0 j) * a (ix2 0 j) + b (ix2 0 j) := by
  pointwise [k0_pay3]

theorem pay4_at (w : Vec Ideal S1024x1024 .bf16) (r : Fin 256) (j : Fin 1024) : k0_pay4 x g a b w (ix2 r j)
    = ∑ k : Fin 1024, k0_pay3 x g a b (ix2 r k) * w (ix2 k j) := by
  pointwise [k0_pay4]

theorem pay5_at (w w' : Vec Ideal S1024x1024 .bf16) (r : Fin 256) (j : Fin 1024) : k0_pay5 x g a b w w' (ix2 r j)
    = (∑ k : Fin 1024, k0_pay3 x g a b (ix2 r k) * w (ix2 k j)) * ∑ k : Fin 1024, k0_pay3 x g a b (ix2 r k) * w' (ix2 k j) := by
  pointwise [k0_pay5]

end Payloads

theorem pay6_at (h : FVec Ideal S256x1024 .bf16) (w : Vec Ideal S1024x1024 .bf16) (r : Fin 256) (j : Fin 1024) : k0_pay6 h w (ix2 r j)
    = sigm (∑ k : Fin 1024, h (ix2 r k) * w (ix2 k j)) := by
  pointwise [k0_pay6]
  rfl

theorem pay7_eq (u : FVec Ideal S256x1024 .f32) : k0_pay7 u = u := by
  funext y
  idx_vars y
  pointwise [k0_pay7]

theorem pay8_at (h : FVec Ideal S256x1024 .bf16) (o u : FVec Ideal S256x1024 .f32) (w : Vec Ideal S1024x1024 .bf16) (p q : Vec Ideal S256x1024 .f32) (c0 c1 c2 : Vec Ideal S1x1024 .f32) (r : Fin 256) (j : Fin 1024) :
    k0_pay8 h o u w p c0 q c1 c2 (ix2 r j)
    = sigm (∑ k : Fin 1024, h (ix2 r k) * w (ix2 k j)) * o (ix2 r j) * (p (ix2 r j) * c0 (ix2 0 j) + q (ix2 r j) * c1 (ix2 0 j) + u (ix2 r j) * c2 (ix2 0 j)) := by
  pointwise [k0_pay8]
  rfl

theorem pay9_at (u : FVec Ideal S256x1024 .f32) (i : Fin 8) (j : Fin 1024) : k0_pay9 u (ix2 i j) = u (ix2 ⟨248 + i.val, by omega⟩ j) := by
  pointwise [k0_pay9]

theorem pay1_eq (v : FVec Ideal S8x1024 .f32) : k0_pay1 v = v := by
  funext y
  idx_vars y
  pointwise [k0_pay1]

theorem pay2_eq (v : Vec Ideal S8x1024 .f32) : k0_pay2 v = v := by
  funext y
  idx_vars y
  pointwise [k0_pay2]

/-! ## The arrays read -/

variable (m : (ℓ : Loc nD τ sig) → Buf (Elt Ideal) ℓ) (c : Dev nD)

abbrev argX : Vec Ideal S16384x1024 .f32 := m ((c : Thread nD τ).loc main_arg0)
abbrev argSc : Vec Ideal S1x1024 .f32 := m ((c : Thread nD τ).loc main_arg1)
abbrev argSh : Vec Ideal S1x1024 .f32 := m ((c : Thread nD τ).loc main_arg2)
abbrev argG : Vec Ideal S1024 .f32 := m ((c : Thread nD τ).loc main_arg3)
abbrev argW : Vec Ideal S1024x8208 .f32 := m ((c : Thread nD τ).loc main_arg4)
abbrev argC : Vec Ideal S3x1024 .f32 := m ((c : Thread nD τ).loc main_arg5)

theorem x_at (s : Fin 16384) (j : Fin 1024) : (V m c main_arg0 : Vec Ideal S16384x1024 .f32) (ix2 s j) = argX m c (ix2 s j) := by
  unfold V hostOps0 hostOps0_1 hostOps0_2
  simp only [List.flatten_cons, List.flatten_nil, List.append_nil, List.cons_append, List.nil_append]
  after_reads_at

theorem sh_at (j : Fin 1024) : (V m c main_arg2 : Vec Ideal S1x1024 .f32) (ix2 0 j) = argSh m c (ix2 0 j) := by
  unfold V hostOps0 hostOps0_1 hostOps0_2
  simp only [List.flatten_cons, List.flatten_nil, List.append_nil, List.cons_append, List.nil_append]
  after_reads_at

theorem mul_at (j : Fin 1024) : (V m c main_v17 : Vec Ideal S1x1024 .f32) (ix2 0 j) = 1 + argSc m c (ix2 0 j) := by
  unfold V hostOps0 hostOps0_1 hostOps0_2
  simp only [List.flatten_cons, List.flatten_nil, List.append_nil, List.cons_append, List.nil_append]
  after_reads_at

theorem g_at (j : Fin 1024) : (V m c main_v18 : Vec Ideal S1x1024 .f32) (ix2 0 j) = argG m c (ix1 j) := by
  unfold V hostOps0 hostOps0_1 hostOps0_2
  simp only [List.flatten_cons, List.flatten_nil, List.append_nil, List.cons_append, List.nil_append]
  after_reads_at

theorem w9_at (k j : Fin 1024) : (V m c main_v9 : Vec Ideal S1024x1024 .bf16) (ix2 k j) = argW m c (ix2 k ⟨3088 + j.val, by omega⟩) := by
  unfold V hostOps0 hostOps0_1 hostOps0_2
  simp only [List.flatten_cons, List.flatten_nil, List.append_nil, List.cons_append, List.nil_append]
  after_reads_at

theorem w10_at (k j : Fin 1024) : (V m c main_v10 : Vec Ideal S1024x1024 .bf16) (ix2 k j) = argW m c (ix2 k ⟨4112 + j.val, by omega⟩) := by
  unfold V hostOps0 hostOps0_1 hostOps0_2
  simp only [List.flatten_cons, List.flatten_nil, List.append_nil, List.cons_append, List.nil_append]
  after_reads_at

theorem w11_at (k j : Fin 1024) : (V m c main_v11 : Vec Ideal S1024x1024 .bf16) (ix2 k j) = argW m c (ix2 k ⟨5136 + j.val, by omega⟩) := by
  unfold V hostOps0 hostOps0_1 hostOps0_2
  simp only [List.flatten_cons, List.flatten_nil, List.append_nil, List.cons_append, List.nil_append]
  after_reads_at

theorem w12_at (k j : Fin 1024) : (V m c main_v12 : Vec Ideal S1024x1024 .bf16) (ix2 k j) = argW m c (ix2 k ⟨6160 + j.val, by omega⟩) := by
  unfold V hostOps0 hostOps0_1 hostOps0_2
  simp only [List.flatten_cons, List.flatten_nil, List.append_nil, List.cons_append, List.nil_append]
  after_reads_at

theorem w13_at (k j : Fin 1024) : (V m c main_v13 : Vec Ideal S1024x1024 .bf16) (ix2 k j) = argW m c (ix2 k ⟨7184 + j.val, by omega⟩) := by
  unfold V hostOps0 hostOps0_1 hostOps0_2
  simp only [List.flatten_cons, List.flatten_nil, List.append_nil, List.cons_append, List.nil_append]
  after_reads_at

theorem z_at (i : Fin 8) (j : Fin 1024) : (V m c main_v15 : Vec Ideal S8x1024 .f32) (ix2 i j) = (0 : EReal) := by
  unfold V hostOps0 hostOps0_1 hostOps0_2
  simp only [List.flatten_cons, List.flatten_nil, List.append_nil, List.cons_append, List.nil_append]
  after_reads_at

theorem cw_at (i : Fin 3) (j : Fin 1024) : (V m c main_v14 : Vec Ideal S8x1024 .f32) (ix2 ⟨i.val, by omega⟩ j) = argC m c (ix2 i j) := by
  unfold V hostOps0 hostOps0_1 hostOps0_2
  simp only [List.flatten_cons, List.flatten_nil, List.append_nil, List.cons_append, List.nil_append]
  after_reads_at

end Cert.Kernel3Ideal.GateP

end
-- ==== Proof.GatePBuf.lean ====
/- The buffer in which the prompt's short convolution keeps the rows before a block, read at a row. -/
module

public import proofs.«01_k».proof.Proof.Gen.Kernel3Ideal.Value
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel3Ideal.GateP

open Cert.Kernel3Ideal Cert.Kernel3Ideal.Gen
open Idealize.ShloMosaic Idealize.ShloMosaic.TcCoe Idealize.ShloMosaic.Tactic Idealize.SL.Sem

/-- Over the rows held, a block of rows. -/
def over (z : Fin 8 → Fin 1024 → EReal) (u : Vec Ideal S256x1024 .f32) (k : Fin 264) (j : Fin 1024) : EReal :=
  if h : k.val < 8 then z ⟨k.val, h⟩ j else u (ix2 ⟨k.val - 8, by omega⟩ j)

theorem writes_at (f : (View.whole cc0_scratch0).ty.Contents (Elt Ideal)) (u : Vec Ideal S256x1024 .f32) (k : Fin 264) (j : Fin 1024) (L : List (View.Piece (Elt Ideal) S264x1024 .f32)) :
    View.read (Elt Ideal) (View.whole cc0_scratch0) ((View.whole cc0_scratch0).writes (Elt Ideal) f (⟨Rect.unit ![8, 0] ![256, 1024] inb_S264x1024_S256x1024_8_0, u⟩ :: L)) (ix2 k j)
    = over (fun i j => View.read (Elt Ideal) (View.whole cc0_scratch0) ((View.whole cc0_scratch0).writes (Elt Ideal) f L) (ix2 ⟨i.val, by omega⟩ j)) u k j := by
  unfold over
  split
  · next h => exact View.read_writes_cons_rows_of_not_mem _ _ _ _ _ _ rfl rfl (.inl h)
  · next h => exact View.read_writes_cons_rows_of_mem _ _ _ _ _ _ _ rfl (by show k.val = 8 + (k.val - 8); omega) rfl

theorem readB_at (f : Vec Ideal S264x1024 .f32) (u : Vec Ideal S256x1024 .f32) (k : Fin 264) (j : Fin 1024) (hw) :
    View.read (Elt Ideal) (View.whole cc0_scratch0) ((View.whole cc0_scratch0).writes (Elt Ideal) ((hw : (Memref.whole cc0_scratch0).IsWhole).unread f) [⟨Rect.unit ![8, 0] ![256, 1024] inb_S264x1024_S256x1024_8_0, u⟩]) (ix2 k j)
    = over (fun i j => f (ix2 ⟨i.val, by omega⟩ j)) u k j := by
  rw [writes_at]
  simp only [View.writes_nil, read_unread_whole]

theorem canonA_at (z : Vec Ideal S8x1024 .f32) (u : Vec Ideal S256x1024 .f32) (k : Fin 264) (j : Fin 1024) :
    View.canon [⟨Rect.unit ![8, 0] ![256, 1024] inb_S264x1024_S256x1024_8_0, u⟩, ⟨Rect.unit ![0, 0] ![8, 1024] inb_S264x1024_S8x1024_0_0, z⟩] (ix2 k j)
    = over (fun i j => z (ix2 i j)) u k j := by
  rw [← View.read_writes_junk_eq_canon (View.whole cc0_scratch0), writes_at]
  congr 1
  funext i j
  exact View.read_writes_cons_rows_of_mem _ _ _ _ _ _ (ix2 i j) rfl (by show i.val = 0 + i.val; omega) rfl

theorem canon_top (z : Vec Ideal S8x1024 .f32) (i : Fin 8) (j : Fin 1024) (L : List (View.Piece (Elt Ideal) S264x1024 .f32)) :
    View.canon (⟨Rect.unit ![0, 0] ![8, 1024] inb_S264x1024_S8x1024_0_0, z⟩ :: L) (ix2 ⟨i.val, by omega⟩ j) = z (ix2 i j) := by
  rw [← View.read_writes_junk_eq_canon (View.whole cc0_scratch0)]
  exact View.read_writes_cons_rows_of_mem _ _ _ _ _ _ (ix2 i j) rfl (by show i.val = 0 + i.val; omega) rfl

theorem ld6_at (X : Vec Ideal S264x1024 .f32) (r : Fin 256) (j : Fin 1024) :
    View.ld X (Rect.unit ![6, 0] ![256, 1024] inb_S264x1024_S256x1024_6_0) (ix2 r j) = X (ix2 ⟨6 + r.val, by omega⟩ j) := by
  refine congrArg X (funext fun a => Fin.ext ?_)
  match a with
  | ⟨0, _⟩ => exact (by omega : 6 + 1 * r.val = 6 + r.val)
  | ⟨1, _⟩ => exact (by omega : 0 + 1 * j.val = j.val)

theorem ld7_at (X : Vec Ideal S264x1024 .f32) (r : Fin 256) (j : Fin 1024) :
    View.ld X (Rect.unit ![7, 0] ![256, 1024] inb_S264x1024_S256x1024_7_0) (ix2 r j) = X (ix2 ⟨7 + r.val, by omega⟩ j) := by
  refine congrArg X (funext fun a => Fin.ext ?_)
  match a with
  | ⟨0, _⟩ => exact (by omega : 7 + 1 * r.val = 7 + r.val)
  | ⟨1, _⟩ => exact (by omega : 0 + 1 * j.val = j.val)

theorem cov6_at (L : List (View.Piece (Elt Ideal) S264x1024 .f32)) (r : Fin 256) (j : Fin 1024) :
    ((View.whole cc0_scratch0).readCov L (Rect.unit (s := S264x1024) ![6, 0] ![256, 1024] inb_S264x1024_S256x1024_6_0).toLoadRect : Vec Ideal S256x1024 .f32) (ix2 r j) = View.canon L (ix2 ⟨6 + r.val, by omega⟩ j) := by
  rw [View.readCov_eq_canon']
  exact ld6_at (View.canon L) r j

theorem cov7_at (L : List (View.Piece (Elt Ideal) S264x1024 .f32)) (r : Fin 256) (j : Fin 1024) :
    ((View.whole cc0_scratch0).readCov L (Rect.unit (s := S264x1024) ![7, 0] ![256, 1024] inb_S264x1024_S256x1024_7_0).toLoadRect : Vec Ideal S256x1024 .f32) (ix2 r j) = View.canon L (ix2 ⟨7 + r.val, by omega⟩ j) := by
  rw [View.readCov_eq_canon']
  exact ld7_at (View.canon L) r j

end Cert.Kernel3Ideal.GateP

end
-- ==== Proof.GatePRef.lean ====
/- The reference's gates of the prompt, at an index. -/
module

public import proofs.«01_k».proof.Proof.Mix
public import proofs.«01_k».proof.Proof.Gen.Reference3Ideal.Run
public import Idealize.ShloMosaic.Lib.Pointwise
public import Idealize.ShloMosaic.Lib.PointwiseCore
public import Idealize.ShloMosaic.Lib.IdealHost

@[expose] public section

set_option maxRecDepth 16384

noncomputable section

namespace Cert.Reference3Ideal.GateP

open Cert.Reference3Ideal Cert.Reference3Ideal.Value Cert.Reference3Ideal.Gen
open Idealize.ShloMosaic Idealize.ShloMosaic.TcCoe Idealize.ShloMosaic.Tactic
open Cert.Mix (normed proj sigm)

/-- The normalised rows. -/
def rows (x : FVec Ideal S16384x1024 .f32) (sc sh : FVec Ideal S1x1024 .f32) (g : FVec Ideal S1024 .f32) : FVec Ideal S16384x1024 .f32 :=
  addf (mulf (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (addf (broadcastInDim S1x1024 ![] bcast_S_S1x1024 (constant S_ .f32 0x3F800000#32)) sc))) (broadcastInDim S16384x1024 ![0, 1] bcast_S1x1024_S16384x1024_0_1 sh)

theorem rows_at (x : FVec Ideal S16384x1024 .f32) (sc sh : FVec Ideal S1x1024 .f32) (g : FVec Ideal S1024 .f32) (s : Fin 16384) (j : Fin 1024) :
    rows x sc sh g (ix2 s j) = normed (fun k => x (ix2 s k)) (fun k => g (ix1 k)) (fun k => sc (ix2 0 k)) (fun k => sh (ix2 0 k)) j := by
  pointwise [rows]
  rfl

/-- The projection of the rows to all columns. -/
def cols (h : FVec Ideal S16384x1024 .f32) (w : FVec Ideal S1024x8208 .f32) : FVec Ideal S16384x8208 .f32 :=
  Host.dotGeneral dot_S16384x1024_S1024x8208_S16384x8208_1_0_0_1_n_n none h w

theorem cols_at (h : FVec Ideal S16384x1024 .f32) (w : FVec Ideal S1024x8208 .f32) (s : Fin 16384) (j : Fin 8208) :
    cols h w (ix2 s j) = ∑ k : Fin 1024, h (ix2 s k) * w (ix2 k j) := by
  pointwise [cols]

/-- The logistic function. -/
def logi (z : FVec Ideal S16384x1024 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))

theorem logi_at (z : FVec Ideal S16384x1024 .f32) (s : Fin 16384) (j : Fin 1024) : logi z (ix2 s j) = sigm (z (ix2 s j)) := by
  pointwise [logi]
  rfl

def attnGate (p : FVec Ideal S16384x8208 .f32) : FVec Ideal S16384x1024 .f32 := logi (extractStridedSlice S16384x1024 ![0, 6160] p slices_S16384x8208_S16384x1024_0_6160)

theorem attnGate_at (p : FVec Ideal S16384x8208 .f32) (s : Fin 16384) (j : Fin 1024) : attnGate p (ix2 s j) = sigm (p (ix2 s ⟨6160 + j.val, by omega⟩)) := by
  unfold attnGate
  rw [logi_at]
  pointwise []

def rowU (p : FVec Ideal S16384x8208 .f32) : FVec Ideal S16384x1024 .f32 :=
  mulf (extractStridedSlice S16384x1024 ![0, 4112] p slices_S16384x8208_S16384x1024_0_4112) (extractStridedSlice S16384x1024 ![0, 5136] p slices_S16384x8208_S16384x1024_0_5136)

theorem rowU_at (p : FVec Ideal S16384x8208 .f32) (s : Fin 16384) (j : Fin 1024) : rowU p (ix2 s j) = p (ix2 s ⟨4112 + j.val, by omega⟩) * p (ix2 s ⟨5136 + j.val, by omega⟩) := by
  pointwise [rowU]

/-- The rows before the short convolution, from an empty state. -/
def full (u : FVec Ideal S16384x1024 .f32) : FVec Ideal S16386x1024 .f32 :=
  concatenate S16386x1024 0 [⟨S2x1024, (broadcastInDim S2x1024 ![] bcast_S_S2x1024 (constant S_ .f32 0x00000000#32))⟩, ⟨S16384x1024, u⟩] concatenates_S2x1024_S16384x1024_S16386x1024_d0

/-- Two rows of zeros come first, then the rows. -/
theorem full_at (u : FVec Ideal S16384x1024 .f32) (s : Fin 16386) (j : Fin 1024) :
    full u (ix2 s j) = if h : s.val < 2 then (0 : EReal) else u (ix2 ⟨s.val - 2, by omega⟩ j) := by
  pointwise [full]

def convF (f : FVec Ideal S16386x1024 .f32) (w : FVec Ideal S3x1024 .f32) : FVec Ideal S16384x1024 .f32 :=
  addf (addf (mulf (extractStridedSlice S16384x1024 ![0, 0] f slices_S16386x1024_S16384x1024_0_0) (broadcastInDim S16384x1024 ![0, 1] bcast_S1x1024_S16384x1024_0_1 (broadcastInDim S1x1024 ![1] bcast_S1024_S1x1024_1 (shapeCast _ (extractStridedSlice S1x1024 ![0, 0] w slices_S3x1024_S1x1024_0_0) shapeCasts_S1x1024_S1024)))) (mulf (extractStridedSlice S16384x1024 ![1, 0] f slices_S16386x1024_S16384x1024_1_0) (broadcastInDim S16384x1024 ![0, 1] bcast_S1x1024_S16384x1024_0_1 (broadcastInDim S1x1024 ![1] bcast_S1024_S1x1024_1 (shapeCast _ (extractStridedSlice S1x1024 ![1, 0] w slices_S3x1024_S1x1024_1_0) shapeCasts_S1x1024_S1024))))) (mulf (extractStridedSlice S16384x1024 ![2, 0] f slices_S16386x1024_S16384x1024_2_0) (broadcastInDim S16384x1024 ![0, 1] bcast_S1x1024_S16384x1024_0_1 (broadcastInDim S1x1024 ![1] bcast_S1024_S1x1024_1 (shapeCast _ (extractStridedSlice S1x1024 ![2, 0] w slices_S3x1024_S1x1024_2_0) shapeCasts_S1x1024_S1024))))

theorem convF_at (f : FVec Ideal S16386x1024 .f32) (w : FVec Ideal S3x1024 .f32) (s : Fin 16384) (j : Fin 1024) :
    convF f w (ix2 s j) = f (ix2 ⟨s.val, by omega⟩ j) * w (ix2 0 j) + f (ix2 ⟨1 + s.val, by omega⟩ j) * w (ix2 1 j) + f (ix2 ⟨2 + s.val, by omega⟩ j) * w (ix2 2 j) := by
  pointwise [convF]

def tail (f : FVec Ideal S16386x1024 .f32) : FVec Ideal S8x1024 .f32 := extractStridedSlice S8x1024 ![16378, 0] f slices_S16386x1024_S8x1024_16378_0

theorem tail_at (f : FVec Ideal S16386x1024 .f32) (i : Fin 8) (j : Fin 1024) : tail f (ix2 i j) = f (ix2 ⟨16378 + i.val, by omega⟩ j) := by
  pointwise [tail]

def convGate (p : FVec Ideal S16384x8208 .f32) (y : FVec Ideal S16384x1024 .f32) : FVec Ideal S16384x1024 .f32 :=
  mulf (logi (extractStridedSlice S16384x1024 ![0, 7184] p slices_S16384x8208_S16384x1024_0_7184)) (mulf (extractStridedSlice S16384x1024 ![0, 3088] p slices_S16384x8208_S16384x1024_0_3088) y)

theorem convGate_at (p : FVec Ideal S16384x8208 .f32) (y : FVec Ideal S16384x1024 .f32) (s : Fin 16384) (j : Fin 1024) :
    convGate p y (ix2 s j) = sigm (p (ix2 s ⟨7184 + j.val, by omega⟩)) * (p (ix2 s ⟨3088 + j.val, by omega⟩) * y (ix2 s j)) := by
  pointwise [convGate, logi]
  rfl

theorem res_eq (m : (ℓ : Loc nD τ sig) → Buf (Elt Ideal) ℓ) (c : Dev nD) : res_main_v61 m c
    = convGate (cols (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      (convF (full (rowU (cols (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))))) (m ((c.tc : Thread nD τ).loc main_arg5))) := rfl

end Cert.Reference3Ideal.GateP

end
-- ==== Proof.GateP.lean ====
/- The prompt's gates, its short convolution's output and the last rows that enter it, and the value claim: they are the reference's. -/
module

public import proofs.«01_k».proof.Proof.GatePAt
public import proofs.«01_k».proof.Proof.GatePBuf
public import proofs.«01_k».proof.Proof.GatePRef
public import proofs.«01_k».proof.Defs

@[expose] public section

set_option maxRecDepth 16384

noncomputable section

namespace Cert.Kernel3Ideal.GateP

open Cert.Kernel3Ideal Cert.Kernel3Ideal.Gen
open Idealize.ShloMosaic Idealize.ShloMosaic.TcCoe Idealize.ShloMosaic.Tactic Idealize.SL.Sem
open Cert.Mix (normed proj sigm)

/-! ## Where each window's block lies -/

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![0, 0] := by decide +kernel
theorem index0_6 : ∀ t : Fin cfg0.N, win0_6.index t = ![0, 0] := by decide +kernel
theorem index0_7 : ∀ t : Fin cfg0.N, win0_7.index t = ![0, 0] := by decide +kernel
theorem index0_8 : ∀ t : Fin cfg0.N, win0_8.index t = ![0, 0] := by decide +kernel
theorem index0_9 : ∀ t : Fin cfg0.N, win0_9.index t = ![0, 0] := by decide +kernel
theorem index0_10 : ∀ t : Fin cfg0.N, win0_10.index t = ![0, 0] := by decide +kernel
theorem index0_11 : ∀ t : Fin cfg0.N, win0_11.index t = ![t.val, 0] := by decide +kernel
theorem index0_12 : ∀ t : Fin cfg0.N, win0_12.index t = ![t.val, 0] := by decide +kernel
theorem index0_13 : ∀ t : Fin cfg0.N, win0_13.index t = ![0, 0] := by decide +kernel

theorem flush13 : ∀ t : Fin cfg0.N, (cfg0.win 13).flush t = true → t.val = 63 := by decide +kernel

variable (m : (ℓ : Loc nD τ sig) → Buf (Elt Ideal) ℓ) (c : Dev nD) (t : Fin cfg0.N)

theorem t_lt : t.val < 64 := t.isLt

theorem iblk0_at (r : Fin 256) (j : Fin 1024) : (iblk m c 0 t : Vec Ideal S256x1024 .f32) (ix2 r j)
    = (V m c main_arg0 : Vec Ideal S16384x1024 .f32) (ix2 ⟨256 * t.val + r.val, by have := t_lt t; omega⟩ j) := by
  blk_ext [iblk, index0_0 t]

theorem iblk1_at (j : Fin 1024) : (iblk m c 1 t : Vec Ideal S1x1024 .f32) (ix2 0 j) = (V m c main_v17 : Vec Ideal S1x1024 .f32) (ix2 0 j) := by
  blk_ext [iblk, index0_1 t]

theorem iblk2_at (j : Fin 1024) : (iblk m c 2 t : Vec Ideal S1x1024 .f32) (ix2 0 j) = (V m c main_arg2 : Vec Ideal S1x1024 .f32) (ix2 0 j) := by
  blk_ext [iblk, index0_2 t]

theorem iblk3_at (j : Fin 1024) : (iblk m c 3 t : Vec Ideal S1x1024 .f32) (ix2 0 j) = (V m c main_v18 : Vec Ideal S1x1024 .f32) (ix2 0 j) := by
  blk_ext [iblk, index0_3 t]

theorem iblk4_at (k j : Fin 1024) : (iblk m c 4 t : Vec Ideal S1024x1024 .bf16) (ix2 k j) = (V m c main_v9 : Vec Ideal S1024x1024 .bf16) (ix2 k j) := by
  blk_ext [iblk, index0_4 t]

theorem iblk5_at (k j : Fin 1024) : (iblk m c 5 t : Vec Ideal S1024x1024 .bf16) (ix2 k j) = (V m c main_v10 : Vec Ideal S1024x1024 .bf16) (ix2 k j) := by
  blk_ext [iblk, index0_5 t]

theorem iblk6_at (k j : Fin 1024) : (iblk m c 6 t : Vec Ideal S1024x1024 .bf16) (ix2 k j) = (V m c main_v11 : Vec Ideal S1024x1024 .bf16) (ix2 k j) := by
  blk_ext [iblk, index0_6 t]

theorem iblk7_at (k j : Fin 1024) : (iblk m c 7 t : Vec Ideal S1024x1024 .bf16) (ix2 k j) = (V m c main_v12 : Vec Ideal S1024x1024 .bf16) (ix2 k j) := by
  blk_ext [iblk, index0_7 t]

theorem iblk8_at (k j : Fin 1024) : (iblk m c 8 t : Vec Ideal S1024x1024 .bf16) (ix2 k j) = (V m c main_v13 : Vec Ideal S1024x1024 .bf16) (ix2 k j) := by
  blk_ext [iblk, index0_8 t]

theorem iblk9_at (i : Fin 8) (j : Fin 1024) : (iblk m c 9 t : Vec Ideal S8x1024 .f32) (ix2 i j) = (V m c main_v14 : Vec Ideal S8x1024 .f32) (ix2 i j) := by
  blk_ext [iblk, index0_9 t]

theorem iblk10_at (i : Fin 8) (j : Fin 1024) : (iblk m c 10 t : Vec Ideal S8x1024 .f32) (ix2 i j) = (V m c main_v15 : Vec Ideal S8x1024 .f32) (ix2 i j) := by
  blk_ext [iblk, index0_10 t]

theorem row0_at (j : Fin 1024) : (View.ld (iblk m c 9 t : Vec Ideal S8x1024 .f32) (Rect.unit (s := S8x1024) ![0, 0] ![1, 1024] inb_S8x1024_S1x1024_0_0) : Vec Ideal S1x1024 .f32) (ix2 0 j) = argC m c (ix2 0 j) := by
  have h : (View.ld (iblk m c 9 t : Vec Ideal S8x1024 .f32) (Rect.unit (s := S8x1024) ![0, 0] ![1, 1024] inb_S8x1024_S1x1024_0_0) : Vec Ideal S1x1024 .f32) (ix2 0 j) = (iblk m c 9 t : Vec Ideal S8x1024 .f32) (ix2 0 j) := by
    refine congrArg (iblk m c 9 t : Vec Ideal S8x1024 .f32) (funext fun a => Fin.ext ?_)
    match a with
    | ⟨0, _⟩ => rfl
    | ⟨1, _⟩ => exact (by omega : 0 + 1 * j.val = j.val)
  exact h.trans ((iblk9_at m c t _ _).trans (cw_at m c 0 j))

theorem row1_at (j : Fin 1024) : (View.ld (iblk m c 9 t : Vec Ideal S8x1024 .f32) (Rect.unit (s := S8x1024) ![1, 0] ![1, 1024] inb_S8x1024_S1x1024_1_0) : Vec Ideal S1x1024 .f32) (ix2 0 j) = argC m c (ix2 1 j) := by
  have h : (View.ld (iblk m c 9 t : Vec Ideal S8x1024 .f32) (Rect.unit (s := S8x1024) ![1, 0] ![1, 1024] inb_S8x1024_S1x1024_1_0) : Vec Ideal S1x1024 .f32) (ix2 0 j) = (iblk m c 9 t : Vec Ideal S8x1024 .f32) (ix2 1 j) := by
    refine congrArg (iblk m c 9 t : Vec Ideal S8x1024 .f32) (funext fun a => Fin.ext ?_)
    match a with
    | ⟨0, _⟩ => rfl
    | ⟨1, _⟩ => exact (by omega : 0 + 1 * j.val = j.val)
  exact h.trans ((iblk9_at m c t _ _).trans (cw_at m c 1 j))

theorem row2_at (j : Fin 1024) : (View.ld (iblk m c 9 t : Vec Ideal S8x1024 .f32) (Rect.unit (s := S8x1024) ![2, 0] ![1, 1024] inb_S8x1024_S1x1024_2_0) : Vec Ideal S1x1024 .f32) (ix2 0 j) = argC m c (ix2 2 j) := by
  have h : (View.ld (iblk m c 9 t : Vec Ideal S8x1024 .f32) (Rect.unit (s := S8x1024) ![2, 0] ![1, 1024] inb_S8x1024_S1x1024_2_0) : Vec Ideal S1x1024 .f32) (ix2 0 j) = (iblk m c 9 t : Vec Ideal S8x1024 .f32) (ix2 2 j) := by
    refine congrArg (iblk m c 9 t : Vec Ideal S8x1024 .f32) (funext fun a => Fin.ext ?_)
    match a with
    | ⟨0, _⟩ => rfl
    | ⟨1, _⟩ => exact (by omega : 0 + 1 * j.val = j.val)
  exact h.trans ((iblk9_at m c t _ _).trans (cw_at m c 2 j))

/-! ## The results -/

/-- Row `s` times column `j` of all projections. -/
def projAt (s : Fin 16384) (j : Fin 8208) : EReal :=
  proj (fun k => argX m c (ix2 s k)) (fun k => argG m c (ix1 k)) (fun k => argSc m c (ix2 0 k)) (fun k => argSh m c (ix2 0 k)) (fun k => argW m c (ix2 k j))

/-- The attention's gate. -/
def gate (s : Fin 16384) (j : Fin 1024) : EReal := sigm (projAt m c s ⟨6160 + j.val, by omega⟩)

/-- The row that enters the convolution. -/
def rowU (s : Fin 16384) (j : Fin 1024) : EReal := projAt m c s ⟨4112 + j.val, by omega⟩ * projAt m c s ⟨5136 + j.val, by omega⟩

/-- The rows that enter it, after two rows of zeros. -/
def fullU (s : Fin 16386) (j : Fin 1024) : EReal := if h : s.val < 2 then 0 else rowU m c ⟨s.val - 2, by omega⟩ j

theorem fullU_row (n : Fin 16386) (s : Fin 16384) (h : n.val = s.val + 2) (j : Fin 1024) : fullU m c n j = rowU m c s j := by
  unfold fullU
  rw [dif_neg (by omega)]
  congr 1
  exact Fin.ext (by show n.val - 2 = s.val; omega)

/-- The short convolution. -/
def conv (s : Fin 16384) (j : Fin 1024) : EReal :=
  fullU m c ⟨s.val, by omega⟩ j * argC m c (ix2 0 j) + fullU m c ⟨1 + s.val, by omega⟩ j * argC m c (ix2 1 j) + fullU m c ⟨2 + s.val, by omega⟩ j * argC m c (ix2 2 j)

/-- The gated convolution. -/
def branch (s : Fin 16384) (j : Fin 1024) : EReal :=
  sigm (projAt m c s ⟨7184 + j.val, by omega⟩) * (projAt m c s ⟨3088 + j.val, by omega⟩ * conv m c s j)

def gates : Vec Ideal S16384x1024 .f32 := fun y => gate m c ⟨(y 0).val, (y 0).isLt⟩ ⟨(y 1).val, (y 1).isLt⟩
def branches : Vec Ideal S16384x1024 .f32 := fun y => branch m c ⟨(y 0).val, (y 0).isLt⟩ ⟨(y 1).val, (y 1).isLt⟩
def tails : Vec Ideal S8x1024 .f32 := fun y => fullU m c ⟨16378 + (y 0).val, by have : (y 0).val < 8 := (y 0).isLt; omega⟩ ⟨(y 1).val, (y 1).isLt⟩

/-- The normalised block. -/
abbrev hb : FVec Ideal S256x1024 .bf16 := k0_pay3 (iblk m c 0 t : Vec Ideal S256x1024 .f32) (iblk m c 3 t : Vec Ideal S1x1024 .f32) (iblk m c 1 t : Vec Ideal S1x1024 .f32) (iblk m c 2 t : Vec Ideal S1x1024 .f32)

/-- The block of rows that enter the convolution. -/
abbrev ub : FVec Ideal S256x1024 .f32 := k0_pay5 (iblk m c 0 t : Vec Ideal S256x1024 .f32) (iblk m c 3 t : Vec Ideal S1x1024 .f32) (iblk m c 1 t : Vec Ideal S1x1024 .f32) (iblk m c 2 t : Vec Ideal S1x1024 .f32) (iblk m c 5 t : Vec Ideal S1024x1024 .bf16) (iblk m c 6 t : Vec Ideal S1024x1024 .bf16)

theorem hb_at (r : Fin 256) (j : Fin 1024) : hb m c t (ix2 r j)
    = normed (fun k => argX m c (ix2 ⟨256 * t.val + r.val, by have := t_lt t; omega⟩ k)) (fun k => argG m c (ix1 k)) (fun k => argSc m c (ix2 0 k)) (fun k => argSh m c (ix2 0 k)) j := by
  unfold hb normed
  rw [pay3_at]
  have h0 : ∀ k, (iblk m c 0 t : Vec Ideal S256x1024 .f32) (ix2 r k) = argX m c (ix2 ⟨256 * t.val + r.val, by have := t_lt t; omega⟩ k) := fun k => (iblk0_at m c t r k).trans (x_at m c _ k)
  rw [(iblk1_at m c t j).trans (mul_at m c j), (iblk2_at m c t j).trans (sh_at m c j), (iblk3_at m c t j).trans (g_at m c j)]
  simp only [h0]

theorem proj_at (w : Fin 1024 → EReal) (r : Fin 256) (j : Fin 8208) (hw : ∀ k, w k = argW m c (ix2 k j)) :
    (∑ k : Fin 1024, hb m c t (ix2 r k) * w k : EReal) = projAt m c ⟨256 * t.val + r.val, by have := t_lt t; omega⟩ j := by
  unfold projAt proj
  exact Finset.sum_congr rfl fun k _ => congrArg₂ (· * ·) (hb_at m c t r k) (hw k)

theorem ub_at (r : Fin 256) (j : Fin 1024) : ub m c t (ix2 r j) = rowU m c ⟨256 * t.val + r.val, by have := t_lt t; omega⟩ j := by
  refine (pay5_at _ _ _ _ _ _ _ _).trans (congrArg₂ (· * ·) ?_ ?_)
  · exact proj_at m c t _ _ ⟨4112 + _, _⟩ fun k => (iblk5_at m c t k _).trans (w10_at m c k _)
  · exact proj_at m c t _ _ ⟨5136 + _, _⟩ fun k => (iblk6_at m c t k _).trans (w11_at m c k _)

/-! ## What a point leaves -/

/-- The buffer's first rows hold the block's last after each point. -/
theorem scr_at (i : Fin 8) (j : Fin 1024) : ((outsAt0 m c t.val t.isLt).2.2.2 : Vec Ideal S264x1024 .f32) (ix2 ⟨i.val, by omega⟩ j)
    = rowU m c ⟨256 * t.val + (248 + i.val), by have := t_lt t; omega⟩ j := by
  have h : ((outsAt0 m c t.val t.isLt).2.2.2 : Vec Ideal S264x1024 .f32) (ix2 ⟨i.val, by omega⟩ j) = k0_pay1 (k0_pay9 (ub m c t)) (ix2 i j) := by
    by_cases h0 : t.val % 64 = 0
    · rw [Gen.outsAt0_A m c t h0]; frame_out; exact canon_top _ i j _
    · rw [Gen.outsAt0_B m c t h0]; frame_out; exact canon_top _ i j _
  rw [h, pay1_eq, pay9_at]
  exact ub_at m c t _ _

/-- The block over the rows held is a window of all rows. -/
theorem over_full (z : Fin 8 → Fin 1024 → EReal) (u : Vec Ideal S256x1024 .f32) (hu : u = ub m c t)
    (hz : ∀ (i : Fin 8) (j : Fin 1024) (h : 6 ≤ i.val), z i j = fullU m c ⟨256 * t.val + i.val - 6, by have := t_lt t; omega⟩ j)
    (k : Fin 264) (j : Fin 1024) (n : Fin 16386) (h : 6 ≤ k.val) (hn : n.val = 256 * t.val + k.val - 6) : over z u k j = fullU m c n j := by
  unfold over
  split
  · next hk =>
    rw [hz _ _ h]
    congr 1
    exact Fin.ext hn.symm
  · next hk =>
    rw [hu, ub_at]
    exact (fullU_row m c n _ (by show n.val = 256 * t.val + (k.val - 8) + 2; omega) j).symm

theorem out11 : (outsAt0 m c t.val t.isLt).1 = k0_pay6 (hb m c t) (iblk m c 7 t : Vec Ideal S1024x1024 .bf16) := by
  by_cases h0 : t.val % 64 = 0
  · rw [Gen.outsAt0_A m c t h0]; frame_out
  · rw [Gen.outsAt0_B m c t h0]; frame_out

theorem out13 : (outsAt0 m c t.val t.isLt).2.2.1 = k0_pay9 (ub m c t) := by
  by_cases h0 : t.val % 64 = 0
  · rw [Gen.outsAt0_A m c t h0]; frame_out
  · rw [Gen.outsAt0_B m c t h0]; frame_out

/-- The gated convolution's block, over two windows of the rows. -/
def pays (p q : Vec Ideal S256x1024 .f32) : FVec Ideal S256x1024 .f32 := k0_pay8 (hb m c t) (k0_pay4 (iblk m c 0 t : Vec Ideal S256x1024 .f32) (iblk m c 3 t : Vec Ideal S1x1024 .f32) (iblk m c 1 t : Vec Ideal S1x1024 .f32) (iblk m c 2 t : Vec Ideal S1x1024 .f32) (iblk m c 4 t : Vec Ideal S1024x1024 .bf16)) (ub m c t) (iblk m c 8 t : Vec Ideal S1024x1024 .bf16)
    p (View.ld (iblk m c 9 t : Vec Ideal S8x1024 .f32) (Rect.unit (s := S8x1024) ![0, 0] ![1, 1024] inb_S8x1024_S1x1024_0_0) : Vec Ideal S1x1024 .f32) q (View.ld (iblk m c 9 t : Vec Ideal S8x1024 .f32) (Rect.unit (s := S8x1024) ![1, 0] ![1, 1024] inb_S8x1024_S1x1024_1_0) : Vec Ideal S1x1024 .f32) (View.ld (iblk m c 9 t : Vec Ideal S8x1024 .f32) (Rect.unit (s := S8x1024) ![2, 0] ![1, 1024] inb_S8x1024_S1x1024_2_0) : Vec Ideal S1x1024 .f32)

/-- What two windows of the rows, one and two rows back, hold. -/
def Windows (p q : Vec Ideal S256x1024 .f32) : Prop :=
  ∀ (r : Fin 256) (j : Fin 1024), p (ix2 r j) = fullU m c ⟨256 * t.val + r.val, by have := t_lt t; omega⟩ j
    ∧ q (ix2 r j) = fullU m c ⟨1 + (256 * t.val + r.val), by have := t_lt t; omega⟩ j

theorem hzA (h0 : t.val % 64 = 0) (i : Fin 8) (j : Fin 1024) (h : 6 ≤ i.val) :
    k0_pay2 (iblk m c 10 t : Vec Ideal S8x1024 .f32) (ix2 i j) = fullU m c ⟨256 * t.val + i.val - 6, by have := t_lt t; omega⟩ j := by
  have := t_lt t
  unfold fullU
  rw [dif_pos (by show 256 * t.val + i.val - 6 < 2; omega), pay2_eq]
  exact (iblk10_at m c t i j).trans (z_at m c i j)

theorem hzB (h0 : ¬t.val % 64 = 0) (i : Fin 8) (j : Fin 1024) (h : 6 ≤ i.val) :
    ((outsAt0 m c (t.val - 1) (by have := t_lt t; show t.val - 1 < 64; omega)).2.2.2 : Vec Ideal S264x1024 .f32) (ix2 ⟨i.val, by omega⟩ j) = fullU m c ⟨256 * t.val + i.val - 6, by have := t_lt t; omega⟩ j := by
  have := t_lt t
  refine (scr_at m c (⟨t.val - 1, by show t.val - 1 < 64; omega⟩ : Fin cfg0.N) i j).trans ?_
  exact (fullU_row m c _ _ (by show 256 * t.val + i.val - 6 = 256 * (t.val - 1) + (248 + i.val) + 2; omega) j).symm

theorem out12 : ∃ p q, (outsAt0 m c t.val t.isLt).2.1 = pays m c t p q ∧ Windows m c t p q := by
  have := t_lt t
  by_cases h0 : t.val % 64 = 0
  · rw [Gen.outsAt0_A m c t h0]
    frame_out
    refine ⟨_, _, rfl, fun r j => ⟨?_, ?_⟩⟩
    · rw [cov6_at, canonA_at]
      exact over_full m c t _ _ (pay7_eq _) (hzA m c t h0) _ j _ (by show 6 ≤ 6 + r.val; omega) (by show 256 * t.val + r.val = 256 * t.val + (6 + r.val) - 6; omega)
    · rw [cov7_at, canonA_at]
      exact over_full m c t _ _ (pay7_eq _) (hzA m c t h0) _ j _ (by show 6 ≤ 7 + r.val; omega) (by show 1 + (256 * t.val + r.val) = 256 * t.val + (7 + r.val) - 6; omega)
  · rw [Gen.outsAt0_B m c t h0]
    frame_out
    refine ⟨_, _, rfl, fun r j => ⟨?_, ?_⟩⟩
    · rw [ld6_at, readB_at]
      exact over_full m c t _ _ (pay7_eq _) (hzB m c t h0) _ j _ (by show 6 ≤ 6 + r.val; omega) (by show 256 * t.val + r.val = 256 * t.val + (6 + r.val) - 6; omega)
    · rw [ld7_at, readB_at]
      exact over_full m c t _ _ (pay7_eq _) (hzB m c t h0) _ j _ (by show 6 ≤ 7 + r.val; omega) (by show 1 + (256 * t.val + r.val) = 256 * t.val + (7 + r.val) - 6; omega)

theorem mul_eq {a b a' b' : EReal} (h : a = a') (h' : b = b') : a * b = a' * b' := congrArg₂ (· * ·) h h'

theorem add_eq {a b a' b' : EReal} (h : a = a') (h' : b = b') : a + b = a' + b' := congrArg₂ (· + ·) h h'

theorem pays_at (p q : Vec Ideal S256x1024 .f32) (hw : Windows m c t p q) (r : Fin 256) (j : Fin 1024) :
    pays m c t p q (ix2 r j) = branch m c ⟨256 * t.val + r.val, by have := t_lt t; omega⟩ j := by
  have := t_lt t
  refine (pay8_at _ _ _ _ _ _ _ _ _ _ _).trans ((mul_assoc _ _ _).trans ?_)
  exact mul_eq (congrArg sigm (proj_at m c t _ _ ⟨7184 + _, _⟩ fun k => (iblk8_at m c t k _).trans (w13_at m c k _))) (mul_eq
    ((pay4_at _ _ _ _ _ _ _).trans (proj_at m c t _ _ ⟨3088 + _, _⟩ fun k => (iblk4_at m c t k _).trans (w9_at m c k _)))
    (add_eq (add_eq (mul_eq (hw r j).1 (row0_at m c t j)) (mul_eq (hw r j).2 (row1_at m c t j)))
      (mul_eq ((ub_at m c t r j).trans (fullU_row m c _ _ (by show 2 + (256 * t.val + r.val) = 256 * t.val + r.val + 2; omega) j).symm) (row2_at m c t j))))

/-! ## The arrays left -/

theorem gates_eq : (dats m 0 c).arrAt 11 cfg0.N = gates m c := by
  refine (dats m 0 c).arrAt_eq_of_covers 11 _ (by decide +kernel) fun t hf' y => ?_
  blk_simp
  rw [after0_11, out11]
  idx_vars y
  refine (pay6_at _ _ _ _).trans ((congrArg sigm (proj_at m c t _ _ ⟨6160 + _, _⟩ fun k => (iblk7_at m c t k _).trans (w12_at m c k _))).trans ?_)
  show gates m c (ix2 (⟨256 * t.val + y0.val, by have := t_lt t; omega⟩ : Fin 16384) y1) = _
  congr 1
  blk_ext [index0_11 t]

theorem branches_eq : (dats m 0 c).arrAt 12 cfg0.N = branches m c := by
  refine (dats m 0 c).arrAt_eq_of_covers 12 _ (by decide +kernel) fun t hf' y => ?_
  blk_simp
  obtain ⟨p, q, e, hw⟩ := out12 m c t
  rw [after0_12, e]
  idx_vars y
  refine (pays_at m c t p q hw _ _).trans ?_
  show branches m c (ix2 (⟨256 * t.val + y0.val, by have := t_lt t; omega⟩ : Fin 16384) y1) = _
  congr 1
  blk_ext [index0_12 t]

theorem tails_eq : (dats m 0 c).arrAt 13 cfg0.N = tails m c := by
  refine (dats m 0 c).arrAt_eq_of_covers 13 _ (by decide +kernel) fun t hf' y => ?_
  have ht := flush13 t hf'
  blk_simp
  rw [after0_13, out13]
  idx_vars y
  refine (pay9_at _ _ _).trans ((ub_at m c t _ _).trans ?_)
  refine (fullU_row m c (⟨16378 + y0.val, by omega⟩ : Fin 16386) _ (by show 16378 + y0.val = 256 * t.val + (248 + y0.val) + 2; omega) y1).symm.trans ?_
  show tails m c (ix2 y0 y1) = _
  congr 1
  blk_ext [index0_13 t]

/-! ## The value claim -/

theorem kernel_run (ρ : Dev nD → PrngReg) :
    θ_run defs (onTc (τ := τ) (main (F := Ideal))) ⟨m, fun _ => 0, ρ⟩ (fun r => ∀ c : Dev nD,
      r.2.mem ((c.tc : Thread nD τ).loc main_v19_0) = gates m c
      ∧ r.2.mem ((c.tc : Thread nD τ).loc main_v19_1) = branches m c
      ∧ r.2.mem ((c.tc : Thread nD τ).loc main_v19_2) = tails m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => by
      obtain ⟨h0, h1, h2, hk⟩ := hr c
      exact ⟨h0.trans (gates_eq m c), h1.trans (branches_eq m c), h2.trans (tails_eq m c), hk⟩)
    (Cert.Kernel3Ideal.Value.run_blocks m ρ)

/-- The reference's projection of its own arguments. -/
abbrev refCols (m' : (ℓ : Loc Cert.Reference3Ideal.nD Cert.Reference3Ideal.τ Cert.Reference3Ideal.sig) → Buf (Elt Ideal) ℓ) (c' : Dev Cert.Reference3Ideal.nD) : FVec Ideal Cert.Reference3Ideal.S16384x8208 .f32 :=
  Cert.Reference3Ideal.GateP.cols (Cert.Reference3Ideal.GateP.rows (m' ((c'.tc : Thread Cert.Reference3Ideal.nD Cert.Reference3Ideal.τ).loc Cert.Reference3Ideal.main_arg0)) (m' ((c'.tc : Thread Cert.Reference3Ideal.nD Cert.Reference3Ideal.τ).loc Cert.Reference3Ideal.main_arg1))
    (m' ((c'.tc : Thread Cert.Reference3Ideal.nD Cert.Reference3Ideal.τ).loc Cert.Reference3Ideal.main_arg2)) (m' ((c'.tc : Thread Cert.Reference3Ideal.nD Cert.Reference3Ideal.τ).loc Cert.Reference3Ideal.main_arg3))) (m' ((c'.tc : Thread Cert.Reference3Ideal.nD Cert.Reference3Ideal.τ).loc Cert.Reference3Ideal.main_arg4))

theorem refCols_at (m' : (ℓ : Loc Cert.Reference3Ideal.nD Cert.Reference3Ideal.τ Cert.Reference3Ideal.sig) → Buf (Elt Ideal) ℓ) (c' : Dev Cert.Reference3Ideal.nD)
    (h0 : (m' ((c'.tc : Thread Cert.Reference3Ideal.nD Cert.Reference3Ideal.τ).loc Cert.Reference3Ideal.main_arg0) : Vec Ideal S16384x1024 .f32) = argX m c)
    (h1 : (m' ((c'.tc : Thread Cert.Reference3Ideal.nD Cert.Reference3Ideal.τ).loc Cert.Reference3Ideal.main_arg1) : Vec Ideal S1x1024 .f32) = argSc m c)
    (h2 : (m' ((c'.tc : Thread Cert.Reference3Ideal.nD Cert.Reference3Ideal.τ).loc Cert.Reference3Ideal.main_arg2) : Vec Ideal S1x1024 .f32) = argSh m c)
    (h3 : (m' ((c'.tc : Thread Cert.Reference3Ideal.nD Cert.Reference3Ideal.τ).loc Cert.Reference3Ideal.main_arg3) : Vec Ideal S1024 .f32) = argG m c)
    (h4 : (m' ((c'.tc : Thread Cert.Reference3Ideal.nD Cert.Reference3Ideal.τ).loc Cert.Reference3Ideal.main_arg4) : Vec Ideal S1024x8208 .f32) = argW m c)
    (s : Fin 16384) (j : Fin 8208) : refCols m' c' (ix2 s j) = projAt m c s j := by
  refine (Cert.Reference3Ideal.GateP.cols_at _ _ s j).trans ?_
  unfold projAt proj
  refine Finset.sum_congr rfl fun k _ => congrArg₂ (· * ·) ?_ (congrFun h4 _)
  refine (Cert.Reference3Ideal.GateP.rows_at _ _ _ _ s k).trans ?_
  rw [h0, h1, h2, h3]

/-- The prompt's gate kernel computes the reference's gates, gated convolution and last rows, exactly over the reals. -/
theorem algebraic : Cert.algebraic_Kernel3Ideal_Reference3Ideal := by
  intro m g m' g' _ hargs
  refine ⟨fun c => gates m c, fun c => branches m c, fun c => tails m c, kernel_run m g, ?_⟩
  refine (θ_run Cert.Reference3Ideal.defs _ _).mono (fun _ hr c => ?_) (Cert.Reference3Ideal.Value.run (F := Ideal) m' g')
  obtain ⟨e0, e1, e2, hk⟩ := hr c
  obtain ⟨a0, a1, a2, a3, a4, a5⟩ := hargs c
  have hc := refCols_at m c m' c a0 a1 a2 a3 a4
  have hu : ∀ s j, Cert.Reference3Ideal.GateP.rowU (refCols m' c) (ix2 s j) = rowU m c s j := fun s j =>
    (Cert.Reference3Ideal.GateP.rowU_at _ s j).trans (congrArg₂ (· * ·) (hc _ _) (hc _ _))
  have hf : ∀ s j, Cert.Reference3Ideal.GateP.full (Cert.Reference3Ideal.GateP.rowU (refCols m' c)) (ix2 s j) = fullU m c s j := fun s j => by
    rw [Cert.Reference3Ideal.GateP.full_at]
    unfold fullU
    simp only [hu]
  refine ⟨e0.trans ?_, e1.trans ?_, e2.trans ?_, hk⟩
  · funext y
    idx_vars y
    exact (Cert.Reference3Ideal.GateP.attnGate_at (refCols m' c) y0 y1).trans (congrArg sigm (hc _ _))
  · rw [Cert.Reference3Ideal.GateP.res_eq]
    funext y
    idx_vars y
    refine (Cert.Reference3Ideal.GateP.convGate_at (refCols m' c) _ y0 y1).trans (congrArg₂ (· * ·) (congrArg sigm (hc _ _)) (congrArg₂ (· * ·) (hc _ _) ?_))
    refine (Cert.Reference3Ideal.GateP.convF_at _ _ y0 y1).trans ?_
    exact congrArg₂ (· + ·) (congrArg₂ (· + ·) (congrArg₂ (· * ·) (hf _ _) (congrFun a5 _)) (congrArg₂ (· * ·) (hf _ _) (congrFun a5 _))) (congrArg₂ (· * ·) (hf _ _) (congrFun a5 _))
  · funext y
    idx_vars y
    exact (Cert.Reference3Ideal.GateP.tail_at (Cert.Reference3Ideal.GateP.full (Cert.Reference3Ideal.GateP.rowU (refCols m' c))) y0 y1).trans (hf _ _)

end Cert.Kernel3Ideal.GateP

end
-- ==== Proof.QkvSAt.lean ====
/- The blocks of keys, values and log gates that the sample's projection stores, at an index. -/
module

public import proofs.«01_k».proof.Proof.Mix
public import proofs.«01_k».proof.Proof.Gen.Kernel4Ideal.Skeleton
public import Idealize.ShloMosaic.Lib.Pointwise
public import Idealize.ShloMosaic.Lib.PointwiseCore
public import Idealize.ShloMosaic.Lib.IdealHost

@[expose] public section

set_option maxRecDepth 16384

noncomputable section

namespace Cert.Kernel4Ideal.QkvS

open Cert.Kernel4Ideal Cert.Kernel4Ideal.Gen
open Idealize.ShloMosaic Idealize.ShloMosaic.TcCoe Idealize.ShloMosaic.Tactic
open Cert.Mix (normed proj logSig)

variable (x a b : Vec Ideal S32x1024 .f32) (g : Vec Ideal S1x1024 .f32)

theorem pay3_at (r : Fin 32) (j : Fin 1024) : k0_pay3 x g a b (ix2 r j)
    = x (ix2 r j) * Ideal.rsqrt (Ideal.div (∑ k : Fin 1024, x (ix2 r k) * x (ix2 r k)) (Ideal.ofBits FTy.f32 0x44800000#32) + Ideal.ofBits FTy.f32 0x358637BD#32) * g (ix2 0 j) * a (ix2 r j) + b (ix2 r j) := by
  pointwise [k0_pay3]

theorem pay5_at (w : Vec Ideal S1024x1024 .bf16) (r : Fin 32) (j : Fin 1024) : k0_pay5 x g a b w (ix2 r j)
    = ∑ k : Fin 1024, k0_pay3 x g a b (ix2 r k) * w (ix2 k j) := by
  pointwise [k0_pay5]

theorem pay1_at (h : FVec Ideal S32x1024 .bf16) (w : Vec Ideal S1024x1024 .bf16) (r : Fin 32) (j : Fin 1024) : k0_pay1 h (k0_pay6 w) (ix2 r j)
    = ∑ k : Fin 1024, h (ix2 r k) * w (ix2 k j) := by
  pointwise [k0_pay1, k0_pay6]

theorem pay2_at (h : FVec Ideal S32x1024 .bf16) (w : Vec Ideal S1024x128 .bf16) (f : Vec Ideal S1x128 .f32) (r : Fin 32) (j : Fin 128) : k0_pay2 h w f (ix2 r j)
    = logSig ((∑ k : Fin 1024, h (ix2 r k) * w (ix2 k j)) + f (ix2 0 j)) := by
  pointwise [k0_pay2]
  rfl

/-- The sixteen lanes that the host takes. -/
theorem slice_at (z : FVec Ideal S32x128 .f32) (r : Fin 32) (j : Fin 16) :
    extractStridedSlice S32x16 ![0, 0] z slices_S32x128_S32x16_0_0 (ix2 r j) = z (ix2 r ⟨j.val, by omega⟩) := by
  pointwise []

end Cert.Kernel4Ideal.QkvS

end
-- ==== Proof.QkvSHost.lean ====
/- The arrays that the sample's projection reads, at an index over the arguments. -/
module

public import proofs.«01_k».proof.Proof.QkvSAt
public import proofs.«01_k».proof.Proof.Gen.Kernel4Ideal.Frame
public import Idealize.ShloMosaic.Lib.IdealHost
public import Idealize.ShloMosaic.Lib.StableHlo.ReadAt
public import Idealize.ShloMosaic.Lib.Tactic.IndexArith

@[expose] public section

set_option maxRecDepth 16384

noncomputable section

namespace Cert.Kernel4Ideal.QkvS

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

abbrev argX : Vec Ideal S32x1024 .f32 := m ((c : Thread nD τ).loc main_arg0)
abbrev argSc : Vec Ideal S32x1024 .f32 := m ((c : Thread nD τ).loc main_arg1)
abbrev argSh : Vec Ideal S32x1024 .f32 := m ((c : Thread nD τ).loc main_arg2)
abbrev argG : Vec Ideal S1024 .f32 := m ((c : Thread nD τ).loc main_arg3)
abbrev argW : Vec Ideal S1024x8208 .f32 := m ((c : Thread nD τ).loc main_arg4)
abbrev argB : Vec Ideal S16 .f32 := m ((c : Thread nD τ).loc main_arg5)

theorem x_at (s : Fin 32) (j : Fin 1024) : (V m c main_arg0 : Vec Ideal S32x1024 .f32) (ix2 s j) = argX m c (ix2 s j) := by
  unfold V V0 hostOps0 hostOps0_1 hostOps0_2 hostOps0_3 hostOps0_4
  simp only [List.flatten_cons, List.flatten_nil, List.append_nil, List.cons_append, List.nil_append]
  after_reads_at

theorem sh_at (s : Fin 32) (j : Fin 1024) : (V m c main_arg2 : Vec Ideal S32x1024 .f32) (ix2 s j) = argSh m c (ix2 s j) := by
  unfold V V0 hostOps0 hostOps0_1 hostOps0_2 hostOps0_3 hostOps0_4
  simp only [List.flatten_cons, List.flatten_nil, List.append_nil, List.cons_append, List.nil_append]
  after_reads_at

theorem mul_at (s : Fin 32) (j : Fin 1024) : (V m c main_v23 : Vec Ideal S32x1024 .f32) (ix2 s j) = 1 + argSc m c (ix2 s j) := by
  unfold V V0 hostOps0 hostOps0_1 hostOps0_2 hostOps0_3 hostOps0_4
  simp only [List.flatten_cons, List.flatten_nil, List.append_nil, List.cons_append, List.nil_append]
  after_reads_at

theorem g_at (j : Fin 1024) : (V m c main_v24 : Vec Ideal S1x1024 .f32) (ix2 0 j) = argG m c (ix1 j) := by
  unfold V V0 hostOps0 hostOps0_1 hostOps0_2 hostOps0_3 hostOps0_4
  simp only [List.flatten_cons, List.flatten_nil, List.append_nil, List.cons_append, List.nil_append]
  after_reads_at

theorem wk_at (k j : Fin 1024) : (V m c main_v20 : Vec Ideal S1024x1024 .bf16) (ix2 k j) = argW m c (ix2 k ⟨1024 + j.val, by omega⟩) := by
  unfold V V0 hostOps0 hostOps0_1 hostOps0_2 hostOps0_3 hostOps0_4
  simp only [List.flatten_cons, List.flatten_nil, List.append_nil, List.cons_append, List.nil_append]
  after_reads_at

theorem wv_at (k j : Fin 1024) : (V m c main_v21 : Vec Ideal S1024x1024 .bf16) (ix2 k j) = argW m c (ix2 k ⟨2048 + j.val, by omega⟩) := by
  unfold V V0 hostOps0 hostOps0_1 hostOps0_2 hostOps0_3 hostOps0_4
  simp only [List.flatten_cons, List.flatten_nil, List.append_nil, List.cons_append, List.nil_append]
  after_reads_at

theorem wf_at (k : Fin 1024) (j : Fin 16) : (V m c main_v13 : Vec Ideal S1024x128 .bf16) (ix2 k ⟨j.val, by omega⟩) = argW m c (ix2 k ⟨3072 + j.val, by omega⟩) := by
  unfold V V0 hostOps0 hostOps0_1 hostOps0_2 hostOps0_3 hostOps0_4
  simp only [List.flatten_cons, List.flatten_nil, List.append_nil, List.cons_append, List.nil_append]
  after_reads_at
  rw [dif_pos (by omega)]
  have e : (⟨3072 + j.val % 16, by omega⟩ : Fin 8208) = ⟨3072 + j.val, by omega⟩ := Fin.ext (by show 3072 + j.val % 16 = 3072 + j.val; omega)
  exact congrArg (fun q => argW m c (ix2 k q)) e

theorem fb_at (j : Fin 16) : (V m c main_v18 : Vec Ideal S1x128 .f32) (ix2 0 ⟨j.val, by omega⟩) = argB m c (ix1 j) := by
  unfold V V0 hostOps0 hostOps0_1 hostOps0_2 hostOps0_3 hostOps0_4
  simp only [List.flatten_cons, List.flatten_nil, List.append_nil, List.cons_append, List.nil_append]
  after_reads_at
  rw [dif_pos (by omega)]
  have e : (⟨j.val % 16, by omega⟩ : Fin 16) = j := Fin.ext (by show j.val % 16 = j.val; omega)
  exact congrArg (fun q => argB m c (ix1 q)) e

end Cert.Kernel4Ideal.QkvS

end
-- ==== Proof.QkvSRef.lean ====
/- The reference's keys, values and log gates of the sample, at an index. -/
module

public import proofs.«01_k».proof.Proof.Mix
public import proofs.«01_k».proof.Proof.Gen.Reference4Ideal.Run
public import Idealize.ShloMosaic.Lib.Pointwise
public import Idealize.ShloMosaic.Lib.PointwiseCore
public import Idealize.ShloMosaic.Lib.IdealHost

@[expose] public section

set_option maxRecDepth 16384

noncomputable section

namespace Cert.Reference4Ideal.QkvS

open Cert.Reference4Ideal Cert.Reference4Ideal.Value Cert.Reference4Ideal.Gen
open Idealize.ShloMosaic Idealize.ShloMosaic.TcCoe Idealize.ShloMosaic.Tactic
open Cert.Mix (normed proj logSig)

/-- The normalised rows. -/
def rows (x sc sh : FVec Ideal S32x1024 .f32) (g : FVec Ideal S1024 .f32) : FVec Ideal S32x1024 .f32 :=
  addf (mulf (mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g))) (addf (broadcastInDim S32x1024 ![] bcast_S_S32x1024 (constant S_ .f32 0x3F800000#32)) sc)) sh

theorem rows_at (x sc sh : FVec Ideal S32x1024 .f32) (g : FVec Ideal S1024 .f32) (s : Fin 32) (j : Fin 1024) :
    rows x sc sh g (ix2 s j) = normed (fun k => x (ix2 s k)) (fun k => g (ix1 k)) (fun k => sc (ix2 s k)) (fun k => sh (ix2 s k)) j := by
  pointwise [rows]
  rfl

/-- The projection of the rows to all columns. -/
def cols (h : FVec Ideal S32x1024 .f32) (w : FVec Ideal S1024x8208 .f32) : FVec Ideal S32x8208 .f32 :=
  Host.dotGeneral dot_S32x1024_S1024x8208_S32x8208_1_0_0_1_n_n none h w

theorem cols_at (h : FVec Ideal S32x1024 .f32) (w : FVec Ideal S1024x8208 .f32) (s : Fin 32) (j : Fin 8208) :
    cols h w (ix2 s j) = ∑ k : Fin 1024, h (ix2 s k) * w (ix2 k j) := by
  pointwise [cols]

theorem key_at (p : FVec Ideal S32x8208 .f32) (s : Fin 32) (j : Fin 1024) :
    extractStridedSlice S32x1024 ![0, 1024] p slices_S32x8208_S32x1024_0_1024 (ix2 s j) = p (ix2 s ⟨1024 + j.val, by omega⟩) := by
  pointwise []

theorem value_at (p : FVec Ideal S32x8208 .f32) (s : Fin 32) (j : Fin 1024) :
    extractStridedSlice S32x1024 ![0, 2048] p slices_S32x8208_S32x1024_0_2048 (ix2 s j) = p (ix2 s ⟨2048 + j.val, by omega⟩) := by
  pointwise []

/-- The log gates of the projection and the bias. -/
def gates (p : FVec Ideal S32x8208 .f32) (b : FVec Ideal S16 .f32) : FVec Ideal S32x16 .f32 :=
  addf (extractStridedSlice S32x16 ![0, 3072] p slices_S32x8208_S32x16_0_3072) (broadcastInDim S32x16 ![0, 1] bcast_S1x16_S32x16_0_1 (broadcastInDim S1x16 ![1] bcast_S16_S1x16_1 b))

theorem gates_at (p : FVec Ideal S32x8208 .f32) (b : FVec Ideal S16 .f32) (s : Fin 32) (j : Fin 16) :
    gates p b (ix2 s j) = p (ix2 s ⟨3072 + j.val, by omega⟩) + b (ix1 j) := by
  pointwise [gates]

/-- Minus the softplus of the negation. -/
def soft (z : FVec Ideal S32x16 .f32) : FVec Ideal S32x16 .f32 :=
  Host.negf (select (cmpf .une (subf (Host.negf z) (broadcastInDim S32x16 ![] bcast_S_S32x16 (constant S_ .f32 0x00000000#32))) (subf (Host.negf z) (broadcastInDim S32x16 ![] bcast_S_S32x16 (constant S_ .f32 0x00000000#32)))) (addf (Host.negf z) (broadcastInDim S32x16 ![] bcast_S_S32x16 (constant S_ .f32 0x00000000#32))) (addf (maximumf (Host.negf z) (broadcastInDim S32x16 ![] bcast_S_S32x16 (constant S_ .f32 0x00000000#32))) (Host.log1p (Host.exp (Host.negf (Host.absf (subf (Host.negf z) (broadcastInDim S32x16 ![] bcast_S_S32x16 (constant S_ .f32 0x00000000#32)))))))))

theorem soft_at (z : FVec Ideal S32x16 .f32) (s : Fin 32) (j : Fin 16) : soft z (ix2 s j) = logSig (z (ix2 s j)) := by
  pointwise [soft]
  rw [if_neg (fun h => h rfl)]
  exact Cert.Mix.neg_softplus _

theorem res_eq (m : (ℓ : Loc nD τ sig) → Buf (Elt Ideal) ℓ) (c : Dev nD) : res_main_v24 m c
    = soft (gates (cols (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5))) := rfl

end Cert.Reference4Ideal.QkvS

end
-- ==== Proof.QkvS.lean ====
/- The keys, values and log gates that the sample's projection leaves, and the value claim: they are the reference's. -/
module

public import proofs.«01_k».proof.Proof.QkvSHost
public import proofs.«01_k».proof.Proof.QkvSRef
public import proofs.«01_k».proof.Proof.Gen.Kernel4Ideal.Frame
public import proofs.«01_k».proof.Defs
public import Idealize.ShloMosaic.Lib.Pipeline.ValueKit

@[expose] public section

set_option maxRecDepth 16384

noncomputable section

namespace Cert.Kernel4Ideal.QkvS

open Cert.Kernel4Ideal Cert.Kernel4Ideal.Gen
open Idealize.ShloMosaic Idealize.ShloMosaic.TcCoe Idealize.ShloMosaic.Tactic Idealize.SL.Sem
open Cert.Mix (normed proj logSig)

/-! ## Where each window's block lies -/

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
theorem index0_5 : ∀ t : Fin cfg0.N, win0_5.index t = ![0, 0] := by decide +kernel
theorem index0_6 : ∀ t : Fin cfg0.N, win0_6.index t = ![0, 0] := by decide +kernel
theorem index0_7 : ∀ t : Fin cfg0.N, win0_7.index t = ![0, 0] := by decide +kernel
theorem index0_8 : ∀ t : Fin cfg0.N, win0_8.index t = ![0, 0] := by decide +kernel
theorem index0_10 : ∀ t : Fin cfg0.N, win0_10.index t = ![0, 0] := by decide +kernel
theorem index0_11 : ∀ t : Fin cfg0.N, win0_11.index t = ![0, 0] := by decide +kernel
theorem index0_12 : ∀ t : Fin cfg0.N, win0_12.index t = ![0, 0] := by decide +kernel

variable (m : (ℓ : Loc nD τ sig) → Buf (Elt Ideal) ℓ) (c : Dev nD) (t : Fin cfg0.N)

theorem iblk0_at (r : Fin 32) (j : Fin 1024) : (iblk m c 0 t : Vec Ideal S32x1024 .f32) (ix2 r j) = (V m c main_arg0 : Vec Ideal S32x1024 .f32) (ix2 r j) := by
  blk_ext [iblk, index0_0 t]

theorem iblk1_at (r : Fin 32) (j : Fin 1024) : (iblk m c 1 t : Vec Ideal S32x1024 .f32) (ix2 r j) = (V m c main_v23 : Vec Ideal S32x1024 .f32) (ix2 r j) := by
  blk_ext [iblk, index0_1 t]

theorem iblk2_at (r : Fin 32) (j : Fin 1024) : (iblk m c 2 t : Vec Ideal S32x1024 .f32) (ix2 r j) = (V m c main_arg2 : Vec Ideal S32x1024 .f32) (ix2 r j) := by
  blk_ext [iblk, index0_2 t]

theorem iblk3_at (j : Fin 1024) : (iblk m c 3 t : Vec Ideal S1x1024 .f32) (ix2 0 j) = (V m c main_v24 : Vec Ideal S1x1024 .f32) (ix2 0 j) := by
  blk_ext [iblk, index0_3 t]

theorem iblk5_at (k j : Fin 1024) : (iblk m c 5 t : Vec Ideal S1024x1024 .bf16) (ix2 k j) = (V m c main_v20 : Vec Ideal S1024x1024 .bf16) (ix2 k j) := by
  blk_ext [iblk, index0_5 t]

theorem iblk6_at (k j : Fin 1024) : (iblk m c 6 t : Vec Ideal S1024x1024 .bf16) (ix2 k j) = (V m c main_v21 : Vec Ideal S1024x1024 .bf16) (ix2 k j) := by
  blk_ext [iblk, index0_6 t]

theorem iblk7_at (k : Fin 1024) (j : Fin 128) : (iblk m c 7 t : Vec Ideal S1024x128 .bf16) (ix2 k j) = (V m c main_v13 : Vec Ideal S1024x128 .bf16) (ix2 k j) := by
  blk_ext [iblk, index0_7 t]

theorem iblk8_at (j : Fin 128) : (iblk m c 8 t : Vec Ideal S1x128 .f32) (ix2 0 j) = (V m c main_v18 : Vec Ideal S1x128 .f32) (ix2 0 j) := by
  blk_ext [iblk, index0_8 t]

/-! ## The results -/

/-- Row `s` times column `j` of all projections. -/
def projAt (s : Fin 32) (j : Fin 8208) : EReal :=
  proj (fun k => argX m c (ix2 s k)) (fun k => argG m c (ix1 k)) (fun k => argSc m c (ix2 s k)) (fun k => argSh m c (ix2 s k)) (fun k => argW m c (ix2 k j))

def keys : Vec Ideal S32x1024 .f32 := fun y => projAt m c ⟨(y 0).val, (y 0).isLt⟩ ⟨1024 + (y 1).val, by have : (y 1).val < 1024 := (y 1).isLt; omega⟩
def values : Vec Ideal S32x1024 .f32 := fun y => projAt m c ⟨(y 0).val, (y 0).isLt⟩ ⟨2048 + (y 1).val, by have : (y 1).val < 1024 := (y 1).isLt; omega⟩
def gates : Vec Ideal S32x16 .f32 := fun y =>
  logSig (projAt m c ⟨(y 0).val, (y 0).isLt⟩ ⟨3072 + (y 1).val, by have : (y 1).val < 16 := (y 1).isLt; omega⟩ + argB m c (ix1 ⟨(y 1).val, (y 1).isLt⟩))

/-- The normalised rows. -/
abbrev hb : FVec Ideal S32x1024 .bf16 := k0_pay3 (iblk m c 0 t : Vec Ideal S32x1024 .f32) (iblk m c 3 t : Vec Ideal S1x1024 .f32) (iblk m c 1 t : Vec Ideal S32x1024 .f32) (iblk m c 2 t : Vec Ideal S32x1024 .f32)

theorem hb_at (r : Fin 32) (j : Fin 1024) : hb m c t (ix2 r j)
    = normed (fun k => argX m c (ix2 r k)) (fun k => argG m c (ix1 k)) (fun k => argSc m c (ix2 r k)) (fun k => argSh m c (ix2 r k)) j := by
  unfold hb normed
  rw [pay3_at]
  have h0 : ∀ k, (iblk m c 0 t : Vec Ideal S32x1024 .f32) (ix2 r k) = argX m c (ix2 r k) := fun k => (iblk0_at m c t r k).trans (x_at m c _ k)
  rw [(iblk1_at m c t r j).trans (mul_at m c r j), (iblk2_at m c t r j).trans (sh_at m c r j), (iblk3_at m c t j).trans (g_at m c j)]
  simp only [h0]

theorem proj_at (w : Fin 1024 → EReal) (r : Fin 32) (j : Fin 8208) (hw : ∀ k, w k = argW m c (ix2 k j)) :
    (∑ k : Fin 1024, hb m c t (ix2 r k) * w k : EReal) = projAt m c r j := by
  unfold projAt proj
  exact Finset.sum_congr rfl fun k _ => congrArg₂ (· * ·) (hb_at m c t r k) (hw k)

theorem out10 : (dats m 0 c).after 10 t = k0_pay5 (iblk m c 0 t : Vec Ideal S32x1024 .f32) (iblk m c 3 t : Vec Ideal S1x1024 .f32) (iblk m c 1 t : Vec Ideal S32x1024 .f32) (iblk m c 2 t : Vec Ideal S32x1024 .f32) (iblk m c 5 t : Vec Ideal S1024x1024 .bf16) := by
  rw [after0_10]
  frame_out

theorem out11 : (dats m 0 c).after 11 t = k0_pay1 (hb m c t) (k0_pay6 (iblk m c 6 t : Vec Ideal S1024x1024 .bf16)) := by
  rw [after0_11]
  unfold_out out0_11
  frame_out

theorem out12 : (dats m 0 c).after 12 t = k0_pay2 (hb m c t) (iblk m c 7 t : Vec Ideal S1024x128 .bf16) (iblk m c 8 t : Vec Ideal S1x128 .f32) := by
  rw [after0_12]
  unfold_out out0_12
  frame_out

theorem keys_eq : (dats m 0 c).arrAt 10 cfg0.N = keys m c := by
  refine (dats m 0 c).arrAt_eq_of_covers 10 _ (by decide +kernel) fun t hf' y => ?_
  blk_simp
  rw [out10]
  idx_vars y
  refine (pay5_at _ _ _ _ _ _ _).trans ((proj_at m c t _ _ ⟨1024 + _, _⟩ fun k => (iblk5_at m c t k _).trans (wk_at m c k _)).trans ?_)
  show keys m c (ix2 y0 y1) = _
  congr 1
  blk_ext [index0_10 t]

theorem values_eq : (dats m 0 c).arrAt 11 cfg0.N = values m c := by
  refine (dats m 0 c).arrAt_eq_of_covers 11 _ (by decide +kernel) fun t hf' y => ?_
  blk_simp
  rw [out11]
  idx_vars y
  refine (pay1_at _ _ _ _).trans ((proj_at m c t _ _ ⟨2048 + _, _⟩ fun k => (iblk6_at m c t k _).trans (wv_at m c k _)).trans ?_)
  show values m c (ix2 y0 y1) = _
  congr 1
  blk_ext [index0_11 t]

/-- The log-sigmoid in all 128 lanes that the call writes. -/
def lanes : Vec Ideal S32x128 .f32 := fun y =>
  logSig ((∑ k : Fin 1024, normed (fun k => argX m c (ix2 ⟨(y 0).val, (y 0).isLt⟩ k)) (fun k => argG m c (ix1 k)) (fun k => argSc m c (ix2 ⟨(y 0).val, (y 0).isLt⟩ k)) (fun k => argSh m c (ix2 ⟨(y 0).val, (y 0).isLt⟩ k)) k
    * (V m c main_v13 : Vec Ideal S1024x128 .bf16) (ix2 k ⟨(y 1).val, (y 1).isLt⟩)) + (V m c main_v18 : Vec Ideal S1x128 .f32) (ix2 0 ⟨(y 1).val, (y 1).isLt⟩))

theorem lanes_eq : (dats m 0 c).arrAt 12 cfg0.N = lanes m c := by
  refine (dats m 0 c).arrAt_eq_of_covers 12 _ (by decide +kernel) fun t hf' y => ?_
  blk_simp
  rw [out12]
  idx_vars y
  refine (pay2_at _ _ _ _ _).trans ?_
  rw [iblk8_at]
  refine (congrArg (fun z => logSig (z + _)) (Finset.sum_congr rfl fun k _ => congrArg₂ (· * ·) (hb_at m c t _ k) (iblk7_at m c t k _))).trans ?_
  show lanes m c (ix2 y0 y1) = _
  congr 1
  blk_ext [index0_12 t]

/-- The sixteen lanes that the host takes are the log gates. -/
theorem gates_eq : extractStridedSlice S32x16 ![0, 0] (lanes m c) slices_S32x128_S32x16_0_0 = gates m c := by
  funext y
  idx_vars y
  refine (slice_at _ y0 y1).trans ?_
  show logSig (_ + _) = logSig (_ + _)
  congr 2
  · exact Finset.sum_congr rfl fun k _ => congrArg₂ (· * ·) rfl (wf_at m c k y1)
  · exact fb_at m c y1

/-! ## The value claim -/

/-- What the host's last line leaves, over the lanes that the call wrote. -/
theorem tail_eq : Pipeline.afterTail₀ cfgs (dats m) 0 (V0 m) [hostOps1] c main_v26
    = (extractStridedSlice S32x16 ![0, 0] ((dats m 0 c).arrAt 12 cfg0.N : Vec Ideal S32x128 .f32) slices_S32x128_S32x16_0_0 : Vec Ideal S32x16 .f32) := by
  unfold Pipeline.afterTail₀
  simp only [hostOps1, List.flatten_cons, List.flatten_nil, List.append_nil]
  after_results
  exact congrArg (fun z : Vec Ideal S32x128 .f32 => extractStridedSlice S32x16 ![0, 0] z slices_S32x128_S32x16_0_0)
    (Pipeline.withArrays_arr spec0 launch0.win.arr_inj c (V0 m c) (fun w => (dats m 0 c).arrAt w cfg0.N) 12)

theorem kernel_run (ρ : Dev nD → PrngReg) :
    θ_run defs (onTc (τ := τ) (main (F := Ideal))) ⟨m, fun _ => 0, ρ⟩ (fun r => ∀ c : Dev nD,
      r.2.mem ((c.tc : Thread nD τ).loc main_v25_1) = keys m c
      ∧ r.2.mem ((c.tc : Thread nD τ).loc main_v25_2) = values m c
      ∧ r.2.mem ((c.tc : Thread nD τ).loc main_v26) = gates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => by
      obtain ⟨h, hk⟩ := hr
      refine ⟨((h c).1 10).trans (keys_eq m c), ((h c).1 11).trans (values_eq m c), ?_, hk c⟩
      refine ((h c).2 main_v26 (Pipeline.mem_restRefs_of main_v26 (by decide) (by decide))).trans ((tail_eq m c).trans ?_)
      rw [lanes_eq]
      exact gates_eq m c)
    (θ_run_and (run_main m ρ) (unchanged m ρ))

/-- The reference's projection of its own arguments. -/
abbrev refCols (m' : (ℓ : Loc Cert.Reference4Ideal.nD Cert.Reference4Ideal.τ Cert.Reference4Ideal.sig) → Buf (Elt Ideal) ℓ) (c' : Dev Cert.Reference4Ideal.nD) : FVec Ideal Cert.Reference4Ideal.S32x8208 .f32 :=
  Cert.Reference4Ideal.QkvS.cols (Cert.Reference4Ideal.QkvS.rows (m' ((c'.tc : Thread Cert.Reference4Ideal.nD Cert.Reference4Ideal.τ).loc Cert.Reference4Ideal.main_arg0)) (m' ((c'.tc : Thread Cert.Reference4Ideal.nD Cert.Reference4Ideal.τ).loc Cert.Reference4Ideal.main_arg1))
    (m' ((c'.tc : Thread Cert.Reference4Ideal.nD Cert.Reference4Ideal.τ).loc Cert.Reference4Ideal.main_arg2)) (m' ((c'.tc : Thread Cert.Reference4Ideal.nD Cert.Reference4Ideal.τ).loc Cert.Reference4Ideal.main_arg3))) (m' ((c'.tc : Thread Cert.Reference4Ideal.nD Cert.Reference4Ideal.τ).loc Cert.Reference4Ideal.main_arg4))

theorem refCols_at (m' : (ℓ : Loc Cert.Reference4Ideal.nD Cert.Reference4Ideal.τ Cert.Reference4Ideal.sig) → Buf (Elt Ideal) ℓ) (c' : Dev Cert.Reference4Ideal.nD)
    (h0 : (m' ((c'.tc : Thread Cert.Reference4Ideal.nD Cert.Reference4Ideal.τ).loc Cert.Reference4Ideal.main_arg0) : Vec Ideal S32x1024 .f32) = argX m c)
    (h1 : (m' ((c'.tc : Thread Cert.Reference4Ideal.nD Cert.Reference4Ideal.τ).loc Cert.Reference4Ideal.main_arg1) : Vec Ideal S32x1024 .f32) = argSc m c)
    (h2 : (m' ((c'.tc : Thread Cert.Reference4Ideal.nD Cert.Reference4Ideal.τ).loc Cert.Reference4Ideal.main_arg2) : Vec Ideal S32x1024 .f32) = argSh m c)
    (h3 : (m' ((c'.tc : Thread Cert.Reference4Ideal.nD Cert.Reference4Ideal.τ).loc Cert.Reference4Ideal.main_arg3) : Vec Ideal S1024 .f32) = argG m c)
    (h4 : (m' ((c'.tc : Thread Cert.Reference4Ideal.nD Cert.Reference4Ideal.τ).loc Cert.Reference4Ideal.main_arg4) : Vec Ideal S1024x8208 .f32) = argW m c)
    (s : Fin 32) (j : Fin 8208) : refCols m' c' (ix2 s j) = projAt m c s j := by
  refine (Cert.Reference4Ideal.QkvS.cols_at _ _ s j).trans ?_
  unfold projAt proj
  refine Finset.sum_congr rfl fun k _ => congrArg₂ (· * ·) ?_ (congrFun h4 _)
  refine (Cert.Reference4Ideal.QkvS.rows_at _ _ _ _ s k).trans ?_
  rw [h0, h1, h2, h3]

/-- The projection kernel of the sample computes the reference's keys, values and log gates, exactly over the reals. -/
theorem algebraic : Cert.algebraic_Kernel4Ideal_Reference4Ideal := by
  intro m g m' g' _ hargs
  refine ⟨fun c => keys m c, fun c => values m c, fun c => gates m c, kernel_run m g, ?_⟩
  refine (θ_run Cert.Reference4Ideal.defs _ _).mono (fun _ hr c => ?_) (Cert.Reference4Ideal.Value.run (F := Ideal) m' g')
  obtain ⟨e0, e1, e2, hk⟩ := hr c
  obtain ⟨a0, a1, a2, a3, a4, a5⟩ := hargs c
  have hc := refCols_at m c m' c a0 a1 a2 a3 a4
  refine ⟨e0.trans ?_, e1.trans ?_, e2.trans ?_, hk⟩
  · funext y
    idx_vars y
    exact (Cert.Reference4Ideal.QkvS.key_at (refCols m' c) y0 y1).trans (hc _ _)
  · funext y
    idx_vars y
    exact (Cert.Reference4Ideal.QkvS.value_at (refCols m' c) y0 y1).trans (hc _ _)
  · rw [Cert.Reference4Ideal.QkvS.res_eq]
    funext y
    idx_vars y
    refine (Cert.Reference4Ideal.QkvS.soft_at _ y0 y1).trans (congrArg logSig ?_)
    exact (Cert.Reference4Ideal.QkvS.gates_at (refCols m' c) _ y0 y1).trans (congrArg₂ (· + ·) (hc _ _) (congrFun a5 _))

end Cert.Kernel4Ideal.QkvS

end
-- ==== Proof.GateSAt.lean ====
/- What the sample's gates compute from their blocks, and the arrays that they read, at an index. -/
module

public import proofs.«01_k».proof.Proof.Mix
public import proofs.«01_k».proof.Proof.Gen.Kernel5Ideal.Value
public import Idealize.ShloMosaic.Lib.Pointwise
public import Idealize.ShloMosaic.Lib.PointwiseCore
public import Idealize.ShloMosaic.Lib.IdealHost
public import Idealize.ShloMosaic.Lib.StableHlo.ReadAt
public import Idealize.ShloMosaic.Lib.Tactic.IndexArith
public import Idealize.ShloMosaic.Lib.Pipeline.ValueKit

@[expose] public section

set_option maxRecDepth 16384

noncomputable section

namespace Cert.Kernel5Ideal.GateS

open Cert.Kernel5Ideal Cert.Kernel5Ideal.Gen
open Idealize.ShloMosaic Idealize.ShloMosaic.TcCoe Idealize.ShloMosaic.Tactic
open Cert.Mix (normed proj sigm)

/-! ## The stored values -/

section Payloads

variable (x : Vec Ideal S32x1024 .f32) (g : Vec Ideal S1x1024 .f32) (a b : Vec Ideal S32x1024 .f32)

theorem pay2_at (r : Fin 32) (j : Fin 1024) : k0_pay2 x g a b (ix2 r j)
    = x (ix2 r j) * Ideal.rsqrt (Ideal.div (∑ k : Fin 1024, x (ix2 r k) * x (ix2 r k)) (Ideal.ofBits FTy.f32 0x44800000#32) + Ideal.ofBits FTy.f32 0x358637BD#32) * g (ix2 0 j) * a (ix2 r j) + b (ix2 r j) := by
  pointwise [k0_pay2]

theorem pay3_at (w : Vec Ideal S1024x1024 .bf16) (r : Fin 32) (j : Fin 1024) : k0_pay3 x g a b w (ix2 r j)
    = ∑ k : Fin 1024, k0_pay2 x g a b (ix2 r k) * w (ix2 k j) := by
  pointwise [k0_pay3]

theorem pay4_at (w w' : Vec Ideal S1024x1024 .bf16) (r : Fin 32) (j : Fin 1024) : k0_pay4 x g a b w w' (ix2 r j)
    = (∑ k : Fin 1024, k0_pay2 x g a b (ix2 r k) * w (ix2 k j)) * ∑ k : Fin 1024, k0_pay2 x g a b (ix2 r k) * w' (ix2 k j) := by
  pointwise [k0_pay4]

theorem pay5_at (w : Vec Ideal S1024x1024 .bf16) (r : Fin 32) (j : Fin 1024) : k0_pay5 x g a b w (ix2 r j)
    = sigm (∑ k : Fin 1024, k0_pay2 x g a b (ix2 r k) * w (ix2 k j)) := by
  pointwise [k0_pay5]
  rfl

end Payloads

theorem pay1_at (h : FVec Ideal S32x1024 .bf16) (o u : FVec Ideal S32x1024 .f32) (w : Vec Ideal S1024x1024 .bf16) (p q : Vec Ideal S32x1024 .f32) (c0 c1 c2 : Vec Ideal S1x1024 .f32) (r : Fin 32) (j : Fin 1024) :
    k0_pay1 h o u w p c0 q c1 c2 (ix2 r j)
    = sigm (∑ k : Fin 1024, h (ix2 r k) * w (ix2 k j)) * o (ix2 r j) * (p (ix2 r j) * c0 (ix2 0 j) + q (ix2 r j) * c1 (ix2 0 j) + u (ix2 r j) * c2 (ix2 0 j)) := by
  pointwise [k0_pay1]
  rfl

/-! ## The arrays read -/

variable (m : (ℓ : Loc nD τ sig) → Buf (Elt Ideal) ℓ) (c : Dev nD)

abbrev argX : Vec Ideal S32x1024 .f32 := m ((c : Thread nD τ).loc main_arg0)
abbrev argSc : Vec Ideal S32x1024 .f32 := m ((c : Thread nD τ).loc main_arg1)
abbrev argSh : Vec Ideal S32x1024 .f32 := m ((c : Thread nD τ).loc main_arg2)
abbrev argG : Vec Ideal S1024 .f32 := m ((c : Thread nD τ).loc main_arg3)
abbrev argW : Vec Ideal S1024x8208 .f32 := m ((c : Thread nD τ).loc main_arg4)
abbrev argC : Vec Ideal S3x1024 .f32 := m ((c : Thread nD τ).loc main_arg5)
abbrev argP : Vec Ideal S32x2x1024 .f32 := m ((c : Thread nD τ).loc main_arg6)

theorem x_at (s : Fin 32) (j : Fin 1024) : (V m c main_arg0 : Vec Ideal S32x1024 .f32) (ix2 s j) = argX m c (ix2 s j) := by
  unfold V hostOps0 hostOps0_1 hostOps0_2
  simp only [List.flatten_cons, List.flatten_nil, List.append_nil, List.cons_append, List.nil_append]
  after_reads_at

theorem sh_at (s : Fin 32) (j : Fin 1024) : (V m c main_arg2 : Vec Ideal S32x1024 .f32) (ix2 s j) = argSh m c (ix2 s j) := by
  unfold V hostOps0 hostOps0_1 hostOps0_2
  simp only [List.flatten_cons, List.flatten_nil, List.append_nil, List.cons_append, List.nil_append]
  after_reads_at

theorem mul_at (s : Fin 32) (j : Fin 1024) : (V m c main_v16 : Vec Ideal S32x1024 .f32) (ix2 s j) = 1 + argSc m c (ix2 s j) := by
  unfold V hostOps0 hostOps0_1 hostOps0_2
  simp only [List.flatten_cons, List.flatten_nil, List.append_nil, List.cons_append, List.nil_append]
  after_reads_at

theorem g_at (j : Fin 1024) : (V m c main_v17 : Vec Ideal S1x1024 .f32) (ix2 0 j) = argG m c (ix1 j) := by
  unfold V hostOps0 hostOps0_1 hostOps0_2
  simp only [List.flatten_cons, List.flatten_nil, List.append_nil, List.cons_append, List.nil_append]
  after_reads_at

theorem w9_at (k j : Fin 1024) : (V m c main_v9 : Vec Ideal S1024x1024 .bf16) (ix2 k j) = argW m c (ix2 k ⟨3088 + j.val, by omega⟩) := by
  unfold V hostOps0 hostOps0_1 hostOps0_2
  simp only [List.flatten_cons, List.flatten_nil, List.append_nil, List.cons_append, List.nil_append]
  after_reads_at

theorem w10_at (k j : Fin 1024) : (V m c main_v10 : Vec Ideal S1024x1024 .bf16) (ix2 k j) = argW m c (ix2 k ⟨4112 + j.val, by omega⟩) := by
  unfold V hostOps0 hostOps0_1 hostOps0_2
  simp only [List.flatten_cons, List.flatten_nil, List.append_nil, List.cons_append, List.nil_append]
  after_reads_at

theorem w11_at (k j : Fin 1024) : (V m c main_v11 : Vec Ideal S1024x1024 .bf16) (ix2 k j) = argW m c (ix2 k ⟨5136 + j.val, by omega⟩) := by
  unfold V hostOps0 hostOps0_1 hostOps0_2
  simp only [List.flatten_cons, List.flatten_nil, List.append_nil, List.cons_append, List.nil_append]
  after_reads_at

theorem w12_at (k j : Fin 1024) : (V m c main_v12 : Vec Ideal S1024x1024 .bf16) (ix2 k j) = argW m c (ix2 k ⟨6160 + j.val, by omega⟩) := by
  unfold V hostOps0 hostOps0_1 hostOps0_2
  simp only [List.flatten_cons, List.flatten_nil, List.append_nil, List.cons_append, List.nil_append]
  after_reads_at

theorem w13_at (k j : Fin 1024) : (V m c main_v13 : Vec Ideal S1024x1024 .bf16) (ix2 k j) = argW m c (ix2 k ⟨7184 + j.val, by omega⟩) := by
  unfold V hostOps0 hostOps0_1 hostOps0_2
  simp only [List.flatten_cons, List.flatten_nil, List.append_nil, List.cons_append, List.nil_append]
  after_reads_at

theorem p_at (s : Fin 32) (j : Fin 1024) : (V m c main_v19 : Vec Ideal S32x1024 .f32) (ix2 s j) = argP m c (ix3 s 0 j) := by
  unfold V hostOps0 hostOps0_1 hostOps0_2
  simp only [List.flatten_cons, List.flatten_nil, List.append_nil, List.cons_append, List.nil_append]
  after_reads_at

theorem q_at (s : Fin 32) (j : Fin 1024) : (V m c main_v21 : Vec Ideal S32x1024 .f32) (ix2 s j) = argP m c (ix3 s 1 j) := by
  unfold V hostOps0 hostOps0_1 hostOps0_2
  simp only [List.flatten_cons, List.flatten_nil, List.append_nil, List.cons_append, List.nil_append]
  after_reads_at

theorem cw_at (i : Fin 3) (j : Fin 1024) : (V m c main_v14 : Vec Ideal S8x1024 .f32) (ix2 ⟨i.val, by omega⟩ j) = argC m c (ix2 i j) := by
  unfold V hostOps0 hostOps0_1 hostOps0_2
  simp only [List.flatten_cons, List.flatten_nil, List.append_nil, List.cons_append, List.nil_append]
  after_reads_at

end Cert.Kernel5Ideal.GateS

end
-- ==== Proof.GateSRef.lean ====
/- The reference's gates of the sample, at an index. -/
module

public import proofs.«01_k».proof.Proof.Mix
public import proofs.«01_k».proof.Proof.Gen.Reference5Ideal.Run
public import Idealize.ShloMosaic.Lib.Pointwise
public import Idealize.ShloMosaic.Lib.PointwiseCore
public import Idealize.ShloMosaic.Lib.IdealHost

@[expose] public section

set_option maxRecDepth 16384

noncomputable section

namespace Cert.Reference5Ideal.GateS

open Cert.Reference5Ideal Cert.Reference5Ideal.Value Cert.Reference5Ideal.Gen
open Idealize.ShloMosaic Idealize.ShloMosaic.TcCoe Idealize.ShloMosaic.Tactic
open Cert.Mix (normed proj sigm)

/-- The normalised rows. -/
def rows (x sc sh : FVec Ideal S32x1024 .f32) (g : FVec Ideal S1024 .f32) : FVec Ideal S32x1024 .f32 :=
  addf (mulf (mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g))) (addf (broadcastInDim S32x1024 ![] bcast_S_S32x1024 (constant S_ .f32 0x3F800000#32)) sc)) sh

theorem rows_at (x sc sh : FVec Ideal S32x1024 .f32) (g : FVec Ideal S1024 .f32) (s : Fin 32) (j : Fin 1024) :
    rows x sc sh g (ix2 s j) = normed (fun k => x (ix2 s k)) (fun k => g (ix1 k)) (fun k => sc (ix2 s k)) (fun k => sh (ix2 s k)) j := by
  pointwise [rows]
  rfl

/-- The projection of the rows to all columns. -/
def cols (h : FVec Ideal S32x1024 .f32) (w : FVec Ideal S1024x8208 .f32) : FVec Ideal S32x8208 .f32 :=
  Host.dotGeneral dot_S32x1024_S1024x8208_S32x8208_1_0_0_1_n_n none h w

theorem cols_at (h : FVec Ideal S32x1024 .f32) (w : FVec Ideal S1024x8208 .f32) (s : Fin 32) (j : Fin 8208) :
    cols h w (ix2 s j) = ∑ k : Fin 1024, h (ix2 s k) * w (ix2 k j) := by
  pointwise [cols]

/-- The logistic function. -/
def logi (z : FVec Ideal S32x1024 .f32) : FVec Ideal S32x1024 .f32 :=
  Host.divf (broadcastInDim S32x1024 ![] bcast_S_S32x1024 (constant S_ .f32 0x3F800000#32)) (addf (broadcastInDim S32x1024 ![] bcast_S_S32x1024 (constant S_ .f32 0x3F800000#32)) (Host.exp (Host.negf z)))

theorem logi_at (z : FVec Ideal S32x1024 .f32) (s : Fin 32) (j : Fin 1024) : logi z (ix2 s j) = sigm (z (ix2 s j)) := by
  pointwise [logi]
  rfl

def attnGate (p : FVec Ideal S32x8208 .f32) : FVec Ideal S32x1024 .f32 := logi (extractStridedSlice S32x1024 ![0, 6160] p slices_S32x8208_S32x1024_0_6160)

theorem attnGate_at (p : FVec Ideal S32x8208 .f32) (s : Fin 32) (j : Fin 1024) : attnGate p (ix2 s j) = sigm (p (ix2 s ⟨6160 + j.val, by omega⟩)) := by
  unfold attnGate
  rw [logi_at]
  pointwise []

def rowU (p : FVec Ideal S32x8208 .f32) : FVec Ideal S32x1024 .f32 :=
  mulf (extractStridedSlice S32x1024 ![0, 4112] p slices_S32x8208_S32x1024_0_4112) (extractStridedSlice S32x1024 ![0, 5136] p slices_S32x8208_S32x1024_0_5136)

theorem rowU_at (p : FVec Ideal S32x8208 .f32) (s : Fin 32) (j : Fin 1024) : rowU p (ix2 s j) = p (ix2 s ⟨4112 + j.val, by omega⟩) * p (ix2 s ⟨5136 + j.val, by omega⟩) := by
  pointwise [rowU]

def convF (u : FVec Ideal S32x1024 .f32) (w : FVec Ideal S3x1024 .f32) (b : FVec Ideal S32x2x1024 .f32) : FVec Ideal S32x1024 .f32 :=
  addf (addf (mulf (shapeCast _ (extractStridedSlice S32x1x1024 ![0, 0, 0] b slices_S32x2x1024_S32x1x1024_0_0_0) shapeCasts_S32x1x1024_S32x1024) (broadcastInDim S32x1024 ![0, 1] bcast_S1x1024_S32x1024_0_1 (broadcastInDim S1x1024 ![1] bcast_S1024_S1x1024_1 (shapeCast _ (extractStridedSlice S1x1024 ![0, 0] w slices_S3x1024_S1x1024_0_0) shapeCasts_S1x1024_S1024))))
    (mulf (shapeCast _ (extractStridedSlice S32x1x1024 ![0, 1, 0] b slices_S32x2x1024_S32x1x1024_0_1_0) shapeCasts_S32x1x1024_S32x1024) (broadcastInDim S32x1024 ![0, 1] bcast_S1x1024_S32x1024_0_1 (broadcastInDim S1x1024 ![1] bcast_S1024_S1x1024_1 (shapeCast _ (extractStridedSlice S1x1024 ![1, 0] w slices_S3x1024_S1x1024_1_0) shapeCasts_S1x1024_S1024)))))
    (mulf u (broadcastInDim S32x1024 ![0, 1] bcast_S1x1024_S32x1024_0_1 (broadcastInDim S1x1024 ![1] bcast_S1024_S1x1024_1 (shapeCast _ (extractStridedSlice S1x1024 ![2, 0] w slices_S3x1024_S1x1024_2_0) shapeCasts_S1x1024_S1024))))

theorem convF_at (u : FVec Ideal S32x1024 .f32) (w : FVec Ideal S3x1024 .f32) (b : FVec Ideal S32x2x1024 .f32) (s : Fin 32) (j : Fin 1024) :
    convF u w b (ix2 s j) = b (ix3 s 0 j) * w (ix2 0 j) + b (ix3 s 1 j) * w (ix2 1 j) + u (ix2 s j) * w (ix2 2 j) := by
  pointwise [convF]

def convGate (p : FVec Ideal S32x8208 .f32) (y : FVec Ideal S32x1024 .f32) : FVec Ideal S32x1024 .f32 :=
  mulf (logi (extractStridedSlice S32x1024 ![0, 7184] p slices_S32x8208_S32x1024_0_7184)) (mulf (extractStridedSlice S32x1024 ![0, 3088] p slices_S32x8208_S32x1024_0_3088) y)

theorem convGate_at (p : FVec Ideal S32x8208 .f32) (y : FVec Ideal S32x1024 .f32) (s : Fin 32) (j : Fin 1024) :
    convGate p y (ix2 s j) = sigm (p (ix2 s ⟨7184 + j.val, by omega⟩)) * (p (ix2 s ⟨3088 + j.val, by omega⟩) * y (ix2 s j)) := by
  pointwise [convGate, logi]
  rfl

theorem res_eq (m : (ℓ : Loc nD τ sig) → Buf (Elt Ideal) ℓ) (c : Dev nD) : res_main_v58 m c
    = convGate (cols (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      (convF (rowU (cols (rows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (m ((c.tc : Thread nD τ).loc main_arg5)) (m ((c.tc : Thread nD τ).loc main_arg6))) := rfl

end Cert.Reference5Ideal.GateS

end
-- ==== Proof.GateS.lean ====
/- The sample's gates, its short convolution's output and the rows that enter it, and the value claim: they are the reference's. -/
module

public import proofs.«01_k».proof.Proof.GateSAt
public import proofs.«01_k».proof.Proof.GateSRef
public import proofs.«01_k».proof.Defs

@[expose] public section

set_option maxRecDepth 16384

noncomputable section

namespace Cert.Kernel5Ideal.GateS

open Cert.Kernel5Ideal Cert.Kernel5Ideal.Gen
open Idealize.ShloMosaic Idealize.ShloMosaic.TcCoe Idealize.ShloMosaic.Tactic Idealize.SL.Sem
open Cert.Mix (normed proj sigm)

/-! ## Where each window's block lies -/

theorem index0_0 : ∀ t : Fin cfg0.N, win0_0.index t = ![0, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![0, 0] := by decide +kernel
theorem index0_6 : ∀ t : Fin cfg0.N, win0_6.index t = ![0, 0] := by decide +kernel
theorem index0_7 : ∀ t : Fin cfg0.N, win0_7.index t = ![0, 0] := by decide +kernel
theorem index0_8 : ∀ t : Fin cfg0.N, win0_8.index t = ![0, 0] := by decide +kernel
theorem index0_9 : ∀ t : Fin cfg0.N, win0_9.index t = ![0, 0] := by decide +kernel
theorem index0_10 : ∀ t : Fin cfg0.N, win0_10.index t = ![0, 0] := by decide +kernel
theorem index0_11 : ∀ t : Fin cfg0.N, win0_11.index t = ![0, 0] := by decide +kernel
theorem index0_12 : ∀ t : Fin cfg0.N, win0_12.index t = ![0, 0] := by decide +kernel
theorem index0_13 : ∀ t : Fin cfg0.N, win0_13.index t = ![0, 0] := by decide +kernel
theorem index0_14 : ∀ t : Fin cfg0.N, win0_14.index t = ![0, 0] := by decide +kernel

variable (m : (ℓ : Loc nD τ sig) → Buf (Elt Ideal) ℓ) (c : Dev nD) (t : Fin cfg0.N)

theorem iblk0_at (r : Fin 32) (j : Fin 1024) : (iblk m c 0 t : Vec Ideal S32x1024 .f32) (ix2 r j) = (V m c main_arg0 : Vec Ideal S32x1024 .f32) (ix2 r j) := by
  blk_ext [iblk, index0_0 t]

theorem iblk1_at (r : Fin 32) (j : Fin 1024) : (iblk m c 1 t : Vec Ideal S32x1024 .f32) (ix2 r j) = (V m c main_v16 : Vec Ideal S32x1024 .f32) (ix2 r j) := by
  blk_ext [iblk, index0_1 t]

theorem iblk2_at (r : Fin 32) (j : Fin 1024) : (iblk m c 2 t : Vec Ideal S32x1024 .f32) (ix2 r j) = (V m c main_arg2 : Vec Ideal S32x1024 .f32) (ix2 r j) := by
  blk_ext [iblk, index0_2 t]

theorem iblk3_at (j : Fin 1024) : (iblk m c 3 t : Vec Ideal S1x1024 .f32) (ix2 0 j) = (V m c main_v17 : Vec Ideal S1x1024 .f32) (ix2 0 j) := by
  blk_ext [iblk, index0_3 t]

theorem iblk4_at (k j : Fin 1024) : (iblk m c 4 t : Vec Ideal S1024x1024 .bf16) (ix2 k j) = (V m c main_v9 : Vec Ideal S1024x1024 .bf16) (ix2 k j) := by
  blk_ext [iblk, index0_4 t]

theorem iblk5_at (k j : Fin 1024) : (iblk m c 5 t : Vec Ideal S1024x1024 .bf16) (ix2 k j) = (V m c main_v10 : Vec Ideal S1024x1024 .bf16) (ix2 k j) := by
  blk_ext [iblk, index0_5 t]

theorem iblk6_at (k j : Fin 1024) : (iblk m c 6 t : Vec Ideal S1024x1024 .bf16) (ix2 k j) = (V m c main_v11 : Vec Ideal S1024x1024 .bf16) (ix2 k j) := by
  blk_ext [iblk, index0_6 t]

theorem iblk7_at (k j : Fin 1024) : (iblk m c 7 t : Vec Ideal S1024x1024 .bf16) (ix2 k j) = (V m c main_v12 : Vec Ideal S1024x1024 .bf16) (ix2 k j) := by
  blk_ext [iblk, index0_7 t]

theorem iblk8_at (k j : Fin 1024) : (iblk m c 8 t : Vec Ideal S1024x1024 .bf16) (ix2 k j) = (V m c main_v13 : Vec Ideal S1024x1024 .bf16) (ix2 k j) := by
  blk_ext [iblk, index0_8 t]

theorem iblk9_at (i : Fin 8) (j : Fin 1024) : (iblk m c 9 t : Vec Ideal S8x1024 .f32) (ix2 i j) = (V m c main_v14 : Vec Ideal S8x1024 .f32) (ix2 i j) := by
  blk_ext [iblk, index0_9 t]

theorem iblk10_at (r : Fin 32) (j : Fin 1024) : (iblk m c 10 t : Vec Ideal S32x1024 .f32) (ix2 r j) = (V m c main_v19 : Vec Ideal S32x1024 .f32) (ix2 r j) := by
  blk_ext [iblk, index0_10 t]

theorem iblk11_at (r : Fin 32) (j : Fin 1024) : (iblk m c 11 t : Vec Ideal S32x1024 .f32) (ix2 r j) = (V m c main_v21 : Vec Ideal S32x1024 .f32) (ix2 r j) := by
  blk_ext [iblk, index0_11 t]

theorem row0_at (x : Vec Ideal S8x1024 .f32) (j : Fin 1024) : (View.ld x r0_3 : Vec Ideal S1x1024 .f32) (ix2 0 j) = x (ix2 0 j) := by
  refine congrArg x (funext fun a => Fin.ext ?_)
  match a with
  | ⟨0, _⟩ => rfl
  | ⟨1, _⟩ => exact (by omega : 0 + 1 * j.val = j.val)
theorem row1_at (x : Vec Ideal S8x1024 .f32) (j : Fin 1024) : (View.ld x r0_4 : Vec Ideal S1x1024 .f32) (ix2 0 j) = x (ix2 1 j) := by
  refine congrArg x (funext fun a => Fin.ext ?_)
  match a with
  | ⟨0, _⟩ => rfl
  | ⟨1, _⟩ => exact (by omega : 0 + 1 * j.val = j.val)
theorem row2_at (x : Vec Ideal S8x1024 .f32) (j : Fin 1024) : (View.ld x r0_5 : Vec Ideal S1x1024 .f32) (ix2 0 j) = x (ix2 2 j) := by
  refine congrArg x (funext fun a => Fin.ext ?_)
  match a with
  | ⟨0, _⟩ => rfl
  | ⟨1, _⟩ => exact (by omega : 0 + 1 * j.val = j.val)

/-! ## The results -/

/-- Row `s` times column `j` of all projections. -/
def projAt (s : Fin 32) (j : Fin 8208) : EReal :=
  proj (fun k => argX m c (ix2 s k)) (fun k => argG m c (ix1 k)) (fun k => argSc m c (ix2 s k)) (fun k => argSh m c (ix2 s k)) (fun k => argW m c (ix2 k j))

/-- The attention's gate. -/
def gate (s : Fin 32) (j : Fin 1024) : EReal := sigm (projAt m c s ⟨6160 + j.val, by omega⟩)

/-- The row that enters the convolution. -/
def rowU (s : Fin 32) (j : Fin 1024) : EReal := projAt m c s ⟨4112 + j.val, by omega⟩ * projAt m c s ⟨5136 + j.val, by omega⟩

/-- The short convolution, over the two rows held and the new one. -/
def conv (s : Fin 32) (j : Fin 1024) : EReal :=
  argP m c (ix3 s 0 j) * argC m c (ix2 0 j) + argP m c (ix3 s 1 j) * argC m c (ix2 1 j) + rowU m c s j * argC m c (ix2 2 j)

/-- The gated convolution. -/
def branch (s : Fin 32) (j : Fin 1024) : EReal :=
  sigm (projAt m c s ⟨7184 + j.val, by omega⟩) * (projAt m c s ⟨3088 + j.val, by omega⟩ * conv m c s j)

def gates : Vec Ideal S32x1024 .f32 := fun y => gate m c ⟨(y 0).val, (y 0).isLt⟩ ⟨(y 1).val, (y 1).isLt⟩
def branches : Vec Ideal S32x1024 .f32 := fun y => branch m c ⟨(y 0).val, (y 0).isLt⟩ ⟨(y 1).val, (y 1).isLt⟩
def rowsU : Vec Ideal S32x1024 .f32 := fun y => rowU m c ⟨(y 0).val, (y 0).isLt⟩ ⟨(y 1).val, (y 1).isLt⟩

/-- The normalised rows. -/
abbrev hb : FVec Ideal S32x1024 .bf16 := k0_pay2 (iblk m c 0 t : Vec Ideal S32x1024 .f32) (iblk m c 3 t : Vec Ideal S1x1024 .f32) (iblk m c 1 t : Vec Ideal S32x1024 .f32) (iblk m c 2 t : Vec Ideal S32x1024 .f32)

theorem hb_at (r : Fin 32) (j : Fin 1024) : hb m c t (ix2 r j)
    = normed (fun k => argX m c (ix2 r k)) (fun k => argG m c (ix1 k)) (fun k => argSc m c (ix2 r k)) (fun k => argSh m c (ix2 r k)) j := by
  unfold hb normed
  rw [pay2_at]
  have h0 : ∀ k, (iblk m c 0 t : Vec Ideal S32x1024 .f32) (ix2 r k) = argX m c (ix2 r k) := fun k => (iblk0_at m c t r k).trans (x_at m c _ k)
  rw [(iblk1_at m c t r j).trans (mul_at m c r j), (iblk2_at m c t r j).trans (sh_at m c r j), (iblk3_at m c t j).trans (g_at m c j)]
  simp only [h0]

theorem proj_at (w : Fin 1024 → EReal) (r : Fin 32) (j : Fin 8208) (hw : ∀ k, w k = argW m c (ix2 k j)) :
    (∑ k : Fin 1024, hb m c t (ix2 r k) * w k : EReal) = projAt m c r j := by
  unfold projAt proj
  exact Finset.sum_congr rfl fun k _ => congrArg₂ (· * ·) (hb_at m c t r k) (hw k)

theorem out12 : (dats m 0 c).after 12 t = k0_pay5 (iblk m c 0 t : Vec Ideal S32x1024 .f32) (iblk m c 3 t : Vec Ideal S1x1024 .f32) (iblk m c 1 t : Vec Ideal S32x1024 .f32) (iblk m c 2 t : Vec Ideal S32x1024 .f32) (iblk m c 7 t : Vec Ideal S1024x1024 .bf16) := by
  rw [after0_12]
  frame_out

theorem out14 : (dats m 0 c).after 14 t = k0_pay4 (iblk m c 0 t : Vec Ideal S32x1024 .f32) (iblk m c 3 t : Vec Ideal S1x1024 .f32) (iblk m c 1 t : Vec Ideal S32x1024 .f32) (iblk m c 2 t : Vec Ideal S32x1024 .f32) (iblk m c 5 t : Vec Ideal S1024x1024 .bf16) (iblk m c 6 t : Vec Ideal S1024x1024 .bf16) := by
  rw [after0_14]
  unfold_out out0_14
  frame_out

theorem out13 : (dats m 0 c).after 13 t = k0_pay1 (hb m c t) (k0_pay3 (iblk m c 0 t : Vec Ideal S32x1024 .f32) (iblk m c 3 t : Vec Ideal S1x1024 .f32) (iblk m c 1 t : Vec Ideal S32x1024 .f32) (iblk m c 2 t : Vec Ideal S32x1024 .f32) (iblk m c 4 t : Vec Ideal S1024x1024 .bf16)) (k0_pay4 (iblk m c 0 t : Vec Ideal S32x1024 .f32) (iblk m c 3 t : Vec Ideal S1x1024 .f32) (iblk m c 1 t : Vec Ideal S32x1024 .f32) (iblk m c 2 t : Vec Ideal S32x1024 .f32) (iblk m c 5 t : Vec Ideal S1024x1024 .bf16) (iblk m c 6 t : Vec Ideal S1024x1024 .bf16)) (iblk m c 8 t : Vec Ideal S1024x1024 .bf16)
    (iblk m c 10 t : Vec Ideal S32x1024 .f32) (View.ld (iblk m c 9 t : Vec Ideal S8x1024 .f32) r0_3) (iblk m c 11 t : Vec Ideal S32x1024 .f32) (View.ld (iblk m c 9 t : Vec Ideal S8x1024 .f32) r0_4) (View.ld (iblk m c 9 t : Vec Ideal S8x1024 .f32) r0_5) := by
  rw [after0_13]
  unfold_out out0_13
  frame_out
  rfl

theorem u_at (r : Fin 32) (j : Fin 1024) : k0_pay4 (iblk m c 0 t : Vec Ideal S32x1024 .f32) (iblk m c 3 t : Vec Ideal S1x1024 .f32) (iblk m c 1 t : Vec Ideal S32x1024 .f32) (iblk m c 2 t : Vec Ideal S32x1024 .f32) (iblk m c 5 t : Vec Ideal S1024x1024 .bf16) (iblk m c 6 t : Vec Ideal S1024x1024 .bf16) (ix2 r j) = rowU m c r j := by
  refine (pay4_at _ _ _ _ _ _ _ _).trans (congrArg₂ (· * ·) ?_ ?_)
  · exact proj_at m c t _ _ ⟨4112 + _, _⟩ fun k => (iblk5_at m c t k _).trans (w10_at m c k _)
  · exact proj_at m c t _ _ ⟨5136 + _, _⟩ fun k => (iblk6_at m c t k _).trans (w11_at m c k _)

theorem gates_eq : (dats m 0 c).arrAt 12 cfg0.N = gates m c := by
  refine (dats m 0 c).arrAt_eq_of_covers 12 _ (by decide +kernel) fun t hf' y => ?_
  blk_simp
  rw [out12]
  idx_vars y
  refine (pay5_at _ _ _ _ _ _ _).trans ((congrArg sigm (proj_at m c t _ _ ⟨6160 + _, _⟩ fun k => (iblk7_at m c t k _).trans (w12_at m c k _))).trans ?_)
  show gates m c (ix2 y0 y1) = _
  congr 1
  blk_ext [index0_12 t]

theorem rowsU_eq : (dats m 0 c).arrAt 14 cfg0.N = rowsU m c := by
  refine (dats m 0 c).arrAt_eq_of_covers 14 _ (by decide +kernel) fun t hf' y => ?_
  blk_simp
  rw [out14]
  idx_vars y
  refine (u_at m c t _ _).trans ?_
  show rowsU m c (ix2 y0 y1) = _
  congr 1
  blk_ext [index0_14 t]

theorem mul_eq {a b a' b' : EReal} (h : a = a') (h' : b = b') : a * b = a' * b' := congrArg₂ (· * ·) h h'

theorem add_eq {a b a' b' : EReal} (h : a = a') (h' : b = b') : a + b = a' + b' := congrArg₂ (· + ·) h h'

theorem branches_eq : (dats m 0 c).arrAt 13 cfg0.N = branches m c := by
  refine (dats m 0 c).arrAt_eq_of_covers 13 _ (by decide +kernel) fun t hf' y => ?_
  blk_simp
  rw [out13]
  idx_vars y
  refine (pay1_at _ _ _ _ _ _ _ _ _ _ _).trans ?_
  refine (mul_assoc _ _ _).trans ?_
  refine (mul_eq (congrArg sigm (proj_at m c t _ _ ⟨7184 + _, _⟩ fun k => (iblk8_at m c t k _).trans (w13_at m c k _))) (mul_eq
    ((pay3_at _ _ _ _ _ _ _).trans (proj_at m c t _ _ ⟨3088 + _, _⟩ fun k => (iblk4_at m c t k _).trans (w9_at m c k _)))
    (add_eq (add_eq (mul_eq ((iblk10_at m c t _ _).trans (p_at m c _ _)) (((row0_at _ _).trans (iblk9_at m c t _ _)).trans (cw_at m c 0 _)))
      (mul_eq ((iblk11_at m c t _ _).trans (q_at m c _ _)) (((row1_at _ _).trans (iblk9_at m c t _ _)).trans (cw_at m c 1 _))))
      (mul_eq (u_at m c t _ _) (((row2_at _ _).trans (iblk9_at m c t _ _)).trans (cw_at m c 2 _)))))).trans ?_
  show branches m c (ix2 y0 y1) = _
  congr 1
  blk_ext [index0_13 t]

/-! ## The value claim -/

theorem kernel_run (ρ : Dev nD → PrngReg) :
    θ_run defs (onTc (τ := τ) (main (F := Ideal))) ⟨m, fun _ => 0, ρ⟩ (fun r => ∀ c : Dev nD,
      r.2.mem ((c.tc : Thread nD τ).loc main_v22_0) = gates m c
      ∧ r.2.mem ((c.tc : Thread nD τ).loc main_v22_1) = branches m c
      ∧ r.2.mem ((c.tc : Thread nD τ).loc main_v22_2) = rowsU m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => by
      obtain ⟨h0, h1, h2, hk⟩ := hr c
      exact ⟨h0.trans (gates_eq m c), h1.trans (branches_eq m c), h2.trans (rowsU_eq m c), hk⟩)
    (Cert.Kernel5Ideal.Value.run_blocks m ρ)

/-- The reference's projection of its own arguments. -/
abbrev refCols (m' : (ℓ : Loc Cert.Reference5Ideal.nD Cert.Reference5Ideal.τ Cert.Reference5Ideal.sig) → Buf (Elt Ideal) ℓ) (c' : Dev Cert.Reference5Ideal.nD) : FVec Ideal Cert.Reference5Ideal.S32x8208 .f32 :=
  Cert.Reference5Ideal.GateS.cols (Cert.Reference5Ideal.GateS.rows (m' ((c'.tc : Thread Cert.Reference5Ideal.nD Cert.Reference5Ideal.τ).loc Cert.Reference5Ideal.main_arg0)) (m' ((c'.tc : Thread Cert.Reference5Ideal.nD Cert.Reference5Ideal.τ).loc Cert.Reference5Ideal.main_arg1))
    (m' ((c'.tc : Thread Cert.Reference5Ideal.nD Cert.Reference5Ideal.τ).loc Cert.Reference5Ideal.main_arg2)) (m' ((c'.tc : Thread Cert.Reference5Ideal.nD Cert.Reference5Ideal.τ).loc Cert.Reference5Ideal.main_arg3))) (m' ((c'.tc : Thread Cert.Reference5Ideal.nD Cert.Reference5Ideal.τ).loc Cert.Reference5Ideal.main_arg4))

theorem refCols_at (m' : (ℓ : Loc Cert.Reference5Ideal.nD Cert.Reference5Ideal.τ Cert.Reference5Ideal.sig) → Buf (Elt Ideal) ℓ) (c' : Dev Cert.Reference5Ideal.nD)
    (h0 : (m' ((c'.tc : Thread Cert.Reference5Ideal.nD Cert.Reference5Ideal.τ).loc Cert.Reference5Ideal.main_arg0) : Vec Ideal S32x1024 .f32) = argX m c)
    (h1 : (m' ((c'.tc : Thread Cert.Reference5Ideal.nD Cert.Reference5Ideal.τ).loc Cert.Reference5Ideal.main_arg1) : Vec Ideal S32x1024 .f32) = argSc m c)
    (h2 : (m' ((c'.tc : Thread Cert.Reference5Ideal.nD Cert.Reference5Ideal.τ).loc Cert.Reference5Ideal.main_arg2) : Vec Ideal S32x1024 .f32) = argSh m c)
    (h3 : (m' ((c'.tc : Thread Cert.Reference5Ideal.nD Cert.Reference5Ideal.τ).loc Cert.Reference5Ideal.main_arg3) : Vec Ideal S1024 .f32) = argG m c)
    (h4 : (m' ((c'.tc : Thread Cert.Reference5Ideal.nD Cert.Reference5Ideal.τ).loc Cert.Reference5Ideal.main_arg4) : Vec Ideal S1024x8208 .f32) = argW m c)
    (s : Fin 32) (j : Fin 8208) : refCols m' c' (ix2 s j) = projAt m c s j := by
  refine (Cert.Reference5Ideal.GateS.cols_at _ _ s j).trans ?_
  unfold projAt proj
  refine Finset.sum_congr rfl fun k _ => congrArg₂ (· * ·) ?_ (congrFun h4 _)
  refine (Cert.Reference5Ideal.GateS.rows_at _ _ _ _ s k).trans ?_
  rw [h0, h1, h2, h3]

/-- The sample's gate kernel computes the reference's gates, gated convolution and new rows, exactly over the reals. -/
theorem algebraic : Cert.algebraic_Kernel5Ideal_Reference5Ideal := by
  intro m g m' g' _ hargs
  refine ⟨fun c => gates m c, fun c => branches m c, fun c => rowsU m c, kernel_run m g, ?_⟩
  refine (θ_run Cert.Reference5Ideal.defs _ _).mono (fun _ hr c => ?_) (Cert.Reference5Ideal.Value.run (F := Ideal) m' g')
  obtain ⟨e0, e1, e2, hk⟩ := hr c
  obtain ⟨a0, a1, a2, a3, a4, a5, a6⟩ := hargs c
  have hc := refCols_at m c m' c a0 a1 a2 a3 a4
  have hu : ∀ s j, Cert.Reference5Ideal.GateS.rowU (refCols m' c) (ix2 s j) = rowU m c s j := fun s j =>
    (Cert.Reference5Ideal.GateS.rowU_at _ s j).trans (congrArg₂ (· * ·) (hc _ _) (hc _ _))
  refine ⟨e0.trans ?_, e1.trans ?_, e2.trans ?_, hk⟩
  · funext y
    idx_vars y
    exact (Cert.Reference5Ideal.GateS.attnGate_at (refCols m' c) y0 y1).trans (congrArg sigm (hc _ _))
  · rw [Cert.Reference5Ideal.GateS.res_eq]
    funext y
    idx_vars y
    refine (Cert.Reference5Ideal.GateS.convGate_at (refCols m' c) _ y0 y1).trans (congrArg₂ (· * ·) (congrArg sigm (hc _ _)) (congrArg₂ (· * ·) (hc _ _) ?_))
    refine (Cert.Reference5Ideal.GateS.convF_at _ _ _ y0 y1).trans ?_
    exact congrArg₂ (· + ·) (congrArg₂ (· + ·) (congrArg₂ (· * ·) (congrFun a6 _) (congrFun a5 _)) (congrArg₂ (· * ·) (congrFun a6 _) (congrFun a5 _))) (congrArg₂ (· * ·) (hu _ _) (congrFun a5 _))
  · funext y
    idx_vars y
    exact hu y0 y1

end Cert.Kernel5Ideal.GateS

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Run
public import proofs.«01_k».proof.Proof.Algebraic
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Qkv
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.GateP
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.QkvS
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.GateS
public import Idealize.ShloMosaic.Adequacy
public import Idealize.ShloMosaic.Init

@[expose] public section

noncomputable section

namespace Cert.Proof

open Idealize.ShloMosaic Idealize.SL.Sem

open Cert.Kernel.Gen Cert.KernelIdeal.Gen in
set_option smartUnfolding false in
/-- The printed kernel's table of bodies is its idealization's: no rule rewrote an operation. -/
theorem defs_eq : Cert.Kernel.defs (F := Bits) = Cert.KernelIdeal.defs (F := Bits) := rfl

/-- The printed kernel at the machine's words: the run of its idealization, whose text is the same, read at them. -/
theorem frame_kernel : Cert.quiescent_Kernel := fun m ρ _ => by
  rw [defs_eq]
  exact (θ_run Cert.KernelIdeal.defs _ _).mono (fun _ h => h) (Cert.KernelIdeal.Attn.frame_any (F := Bits) m ρ)

theorem frame_kernel_ideal : Cert.quiescent_KernelIdeal := fun m ρ _ => Cert.KernelIdeal.Attn.frame_any (F := Ideal) m ρ

theorem frame_kernel_ideal_pre : Cert.quiescent_KernelIdeal_pre_finite_scores :=
  fun m ρ _ => Cert.KernelIdeal.Attn.frame_any (F := Ideal) m ρ

/-- The reference: the generated run, its result dropped; it declares no semaphore. -/
theorem frame_reference_ideal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_ideal_pre : Cert.quiescent_ReferenceIdeal_pre_finite_scores := fun m ρ _ =>
  frame_reference_ideal m ρ trivial

open Cert.Kernel2.Gen Cert.Kernel2Ideal.Gen in
set_option smartUnfolding false in
/-- The same for the call that computes the keys, values and log gates of the prompt. -/
theorem defs_eq2 : Cert.Kernel2.defs (F := Bits) = Cert.Kernel2Ideal.defs (F := Bits) := rfl

open Cert.Kernel2.Gen Cert.Kernel2Ideal.Gen in
set_option maxHeartbeats 2000000 in
theorem frame_kernel2 : Cert.quiescent_Kernel2 := fun m ρ _ => by
  rw [defs_eq2]
  exact (θ_run Cert.Kernel2Ideal.defs _ _).mono (fun _ h => h) (Cert.Kernel2Ideal.Gen.frame (F := Bits) m ρ)

theorem frame_kernel2_ideal : Cert.quiescent_Kernel2Ideal := fun m ρ _ => Cert.Kernel2Ideal.Gen.frame (F := Ideal) m ρ

theorem frame_reference2_ideal : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

open Cert.Kernel3.Gen Cert.Kernel3Ideal.Gen in
set_option smartUnfolding false in
/-- The same for the call that computes the branch gates and the gated convolution of the prompt. -/
theorem defs_eq3 : Cert.Kernel3.defs (F := Bits) = Cert.Kernel3Ideal.defs (F := Bits) := rfl

open Cert.Kernel3.Gen Cert.Kernel3Ideal.Gen in
set_option maxHeartbeats 2000000 in
theorem frame_kernel3 : Cert.quiescent_Kernel3 := fun m ρ _ => by
  rw [defs_eq3]
  exact (θ_run Cert.Kernel3Ideal.defs _ _).mono (fun _ h => h) (Cert.Kernel3Ideal.Gen.frame (F := Bits) m ρ)

theorem frame_kernel3_ideal : Cert.quiescent_Kernel3Ideal := fun m ρ _ => Cert.Kernel3Ideal.Gen.frame (F := Ideal) m ρ

theorem frame_reference3_ideal : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

open Cert.Kernel4.Gen Cert.Kernel4Ideal.Gen in
set_option smartUnfolding false in
/-- The same for the call that computes the keys, values and log gates of the sample. -/
theorem defs_eq4 : Cert.Kernel4.defs (F := Bits) = Cert.Kernel4Ideal.defs (F := Bits) := rfl

open Cert.Kernel4.Gen Cert.Kernel4Ideal.Gen in
set_option maxHeartbeats 2000000 in
theorem frame_kernel4 : Cert.quiescent_Kernel4 := fun m ρ _ => by
  rw [defs_eq4]
  exact (θ_run Cert.Kernel4Ideal.defs _ _).mono (fun _ h => h) (Cert.Kernel4Ideal.Gen.frame (F := Bits) m ρ)

theorem frame_kernel4_ideal : Cert.quiescent_Kernel4Ideal := fun m ρ _ => Cert.Kernel4Ideal.Gen.frame (F := Ideal) m ρ

theorem frame_reference4_ideal : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

open Cert.Kernel5.Gen Cert.Kernel5Ideal.Gen in
set_option smartUnfolding false in
/-- The same for the call that computes the branch gates and the gated convolution of the sample. -/
theorem defs_eq5 : Cert.Kernel5.defs (F := Bits) = Cert.Kernel5Ideal.defs (F := Bits) := rfl

open Cert.Kernel5.Gen Cert.Kernel5Ideal.Gen in
set_option maxHeartbeats 2000000 in
theorem frame_kernel5 : Cert.quiescent_Kernel5 := fun m ρ _ => by
  rw [defs_eq5]
  exact (θ_run Cert.Kernel5Ideal.defs _ _).mono (fun _ h => h) (Cert.Kernel5Ideal.Gen.frame (F := Bits) m ρ)

theorem frame_kernel5_ideal : Cert.quiescent_Kernel5Ideal := fun m ρ _ => Cert.Kernel5Ideal.Gen.frame (F := Ideal) m ρ

theorem frame_reference5_ideal : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Gen.facts,
    frame_kernel, frame_kernel_ideal, frame_kernel_ideal_pre, frame_reference_ideal, frame_reference_ideal_pre,
    frame_kernel2, frame_kernel2_ideal, frame_reference2_ideal,
    frame_kernel3, frame_kernel3_ideal, frame_reference3_ideal,
    frame_kernel4, frame_kernel4_ideal, frame_reference4_ideal,
    frame_kernel5, frame_kernel5_ideal, frame_reference5_ideal,
    trivial, Cert.KernelIdeal.Attn.algebraic,
    trivial, Cert.Kernel2Ideal.Qkv.algebraic,
    trivial, Cert.Kernel3Ideal.GateP.algebraic,
    trivial, Cert.Kernel4Ideal.QkvS.algebraic,
    trivial, Cert.Kernel5Ideal.GateS.algebraic⟩

end Cert.Proof

end
